-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_qk [hPre_finite_qk : Cert.Pre_finite_qk.Facts] (m : (ℓ : Loc Cert.MlaIdeal.nD Cert.MlaIdeal.τ Cert.MlaIdeal.sig) → Buf (Elt Ideal) ℓ) : Prop :=
  ∀ c : Dev Cert.MlaIdeal.nD,
    (Cert.Pre_finite_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_qk [hPre_finite_qk : Cert.Pre_finite_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff [hPre_finite_diff : Cert.Pre_finite_diff.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2))) = (fun _ => 1#1)

def Pre_MlpFirst (m : (ℓ : Loc Cert.MlpFirst.nD Cert.MlpFirst.τ Cert.MlpFirst.sig) → Buf (Elt Bits) ℓ) : Prop :=
  True

def Pre_MlpFirstIdeal (m : (ℓ : Loc Cert.MlpFirstIdeal.nD Cert.MlpFirstIdeal.τ Cert.MlpFirstIdeal.sig) → Buf (Elt Ideal) ℓ) : Prop :=
  True

def Pre_MlpFirstRefIdeal (m : (ℓ : Loc Cert.MlpFirstRefIdeal.nD Cert.MlpFirstRefIdeal.τ Cert.MlpFirstRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_top [hPre_finite_top : Cert.Pre_finite_top.Facts] (m : (ℓ : Loc Cert.MergeIdeal.nD Cert.MergeIdeal.τ Cert.MergeIdeal.sig) → Buf (Elt Ideal) ℓ) : Prop :=
  ∀ c : Dev Cert.MergeIdeal.nD,
    (Cert.Pre_finite_top.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_top [hPre_finite_top : Cert.Pre_finite_top.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_top.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))) = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_qk [hMlaIdeal : Cert.MlaIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_qk [hMlaRefIdeal : Cert.MlaRefIdeal.Facts] [hPre_finite_qk : Cert.Pre_finite_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2))
      ∧ r.2.sem = fun _ => 0)

def quiescent_DiffRefIdeal_pre_finite_diff [hDiffRefIdeal : Cert.DiffRefIdeal.Facts] [hPre_finite_diff : Cert.Pre_finite_diff.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2))
      ∧ r.2.sem = fun _ => 0)

def quiescent_MlpFirst [hMlpFirst : Cert.MlpFirst.Facts] : Prop :=
  ∀ (m : (ℓ : Loc Cert.MlpFirst.nD Cert.MlpFirst.τ Cert.MlpFirst.sig) → Buf (Elt Bits) ℓ) (g : Dev Cert.MlpFirst.nD → PrngReg), Pre_MlpFirst m →
    θ_run (Cert.MlpFirst.defs (F := Bits)) (onTc (τ := Cert.MlpFirst.τ) (Cert.MlpFirst.main (F := Bits))) ⟨m, fun _ => 0, g⟩ (fun r => (∀ c : Dev Cert.MlpFirst.nD,
      r.2.mem ((c.tc : Thread Cert.MlpFirst.nD Cert.MlpFirst.τ).loc Cert.MlpFirst.main_arg0) = m ((c.tc : Thread Cert.MlpFirst.nD Cert.MlpFirst.τ).loc Cert.MlpFirst.main_arg0)
      ∧ r.2.mem ((c.tc : Thread Cert.MlpFirst.nD Cert.MlpFirst.τ).loc Cert.MlpFirst.main_arg1) = m ((c.tc : Thread Cert.MlpFirst.nD Cert.MlpFirst.τ).loc Cert.MlpFirst.main_arg1)
      ∧ r.2.mem ((c.tc : Thread Cert.MlpFirst.nD Cert.MlpFirst.τ).loc Cert.MlpFirst.main_arg2) = m ((c.tc : Thread Cert.MlpFirst.nD Cert.MlpFirst.τ).loc Cert.MlpFirst.main_arg2)
      ∧ r.2.mem ((c.tc : Thread Cert.MlpFirst.nD Cert.MlpFirst.τ).loc Cert.MlpFirst.main_arg3) = m ((c.tc : Thread Cert.MlpFirst.nD Cert.MlpFirst.τ).loc Cert.MlpFirst.main_arg3)
      ∧ r.2.mem ((c.tc : Thread Cert.MlpFirst.nD Cert.MlpFirst.τ).loc Cert.MlpFirst.main_arg4) = m ((c.tc : Thread Cert.MlpFirst.nD Cert.MlpFirst.τ).loc Cert.MlpFirst.main_arg4))
      ∧ r.2.sem = fun _ => 0)

def quiescent_MlpFirstIdeal [hMlpFirstIdeal : Cert.MlpFirstIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg), Pre_MlpFirstIdeal m →
    θ_run (Cert.MlpFirstIdeal.defs (F := Ideal)) (onTc (τ := Cert.MlpFirstIdeal.τ) (Cert.MlpFirstIdeal.main (F := Ideal))) ⟨m, fun _ => 0, g⟩ (fun r => (∀ c : Dev Cert.MlpFirstIdeal.nD,
      r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
      ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
      ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
      ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
      ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ r.2.sem = fun _ => 0)

def quiescent_MlpFirstRefIdeal [hMlpFirstRefIdeal : Cert.MlpFirstRefIdeal.Facts] : Prop :=
  ∀ (m : (ℓ : Loc Cert.MlpFirstRefIdeal.nD Cert.MlpFirstRefIdeal.τ Cert.MlpFirstRefIdeal.sig) → Buf (Elt Ideal) ℓ) (g : Dev Cert.MlpFirstRefIdeal.nD → PrngReg), Pre_MlpFirstRefIdeal m →
    θ_run (Cert.MlpFirstRefIdeal.defs (F := Ideal)) (onTc (τ := Cert.MlpFirstRefIdeal.τ) (Cert.MlpFirstRefIdeal.main (F := Ideal))) ⟨m, fun _ => 0, g⟩ (fun r => (∀ c : Dev Cert.MlpFirstRefIdeal.nD,
      r.2.mem ((c.tc : Thread Cert.MlpFirstRefIdeal.nD Cert.MlpFirstRefIdeal.τ).loc Cert.MlpFirstRefIdeal.main_arg0) = m ((c.tc : Thread Cert.MlpFirstRefIdeal.nD Cert.MlpFirstRefIdeal.τ).loc Cert.MlpFirstRefIdeal.main_arg0)
      ∧ r.2.mem ((c.tc : Thread Cert.MlpFirstRefIdeal.nD Cert.MlpFirstRefIdeal.τ).loc Cert.MlpFirstRefIdeal.main_arg1) = m ((c.tc : Thread Cert.MlpFirstRefIdeal.nD Cert.MlpFirstRefIdeal.τ).loc Cert.MlpFirstRefIdeal.main_arg1)
      ∧ r.2.mem ((c.tc : Thread Cert.MlpFirstRefIdeal.nD Cert.MlpFirstRefIdeal.τ).loc Cert.MlpFirstRefIdeal.main_arg2) = m ((c.tc : Thread Cert.MlpFirstRefIdeal.nD Cert.MlpFirstRefIdeal.τ).loc Cert.MlpFirstRefIdeal.main_arg2)
      ∧ r.2.mem ((c.tc : Thread Cert.MlpFirstRefIdeal.nD Cert.MlpFirstRefIdeal.τ).loc Cert.MlpFirstRefIdeal.main_arg3) = m ((c.tc : Thread Cert.MlpFirstRefIdeal.nD Cert.MlpFirstRefIdeal.τ).loc Cert.MlpFirstRefIdeal.main_arg3)
      ∧ r.2.mem ((c.tc : Thread Cert.MlpFirstRefIdeal.nD Cert.MlpFirstRefIdeal.τ).loc Cert.MlpFirstRefIdeal.main_arg4) = m ((c.tc : Thread Cert.MlpFirstRefIdeal.nD Cert.MlpFirstRefIdeal.τ).loc Cert.MlpFirstRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeIdeal_pre_finite_top [hMergeIdeal : Cert.MergeIdeal.Facts] [hPre_finite_top : Cert.Pre_finite_top.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_top m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeRefIdeal_pre_finite_top [hMergeRefIdeal : Cert.MergeRefIdeal.Facts] [hPre_finite_top : Cert.Pre_finite_top.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_top m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_finite_qk [hMlaIdeal : Cert.MlaIdeal.Facts] [hMlaRefIdeal : Cert.MlaRefIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v20) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Mlp_MlpIdeal : Prop :=
  IdealRules.named_const.Statement Cert.MlpIdeal.κ "eps" .f32 0x358637BD#32 ((1 / 1000000 : ℝ) : EReal)

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v35) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Diff_DiffIdeal : Prop :=
  IdealRules.named_const.Statement Cert.DiffIdeal.κ "mask" .f32 0xF149F2CA#32 ⊥
  ∧ IdealRules.named_const.Statement Cert.DiffIdeal.κ "lam" .f32 0x3E4CCCCD#32 ((1 / 5 : ℝ) : EReal)
  ∧ IdealRules.named_const.Statement Cert.DiffIdeal.κ "eps" .f32 0x358637BD#32 ((1 / 1000000 : ℝ) : EReal)
  ∧ IdealRules.named_const.Statement Cert.DiffIdeal.κ "lamc" .f32 0x3F4CCCCD#32 ((4 / 5 : ℝ) : EReal)

def algebraic_DiffIdeal_DiffRefIdeal_pre_finite_diff [hDiffIdeal : Cert.DiffIdeal.Facts] [hDiffRefIdeal : Cert.DiffRefIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)) →
    ∃ (v0 : (c : Dev Cert.DiffIdeal.nD) → Buf (Elt Ideal) ((c.tc : Thread Cert.DiffIdeal.nD Cert.DiffIdeal.τ).loc Cert.DiffIdeal.main_v1)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v1) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v65) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2))

def preserves_MlpFirst_MlpFirstIdeal : Prop :=
  IdealRules.named_const.Statement Cert.MlpFirstIdeal.κ "eps" .f32 0x358637BD#32 ((1 / 1000000 : ℝ) : EReal)

def algebraic_MlpFirstIdeal_MlpFirstRefIdeal [hMlpFirstIdeal : Cert.MlpFirstIdeal.Facts] [hMlpFirstRefIdeal : Cert.MlpFirstRefIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg)
    (m' : (ℓ : Loc Cert.MlpFirstRefIdeal.nD Cert.MlpFirstRefIdeal.τ Cert.MlpFirstRefIdeal.sig) → Buf (Elt Ideal) ℓ) (g' : Dev Cert.MlpFirstRefIdeal.nD → PrngReg), Pre_MlpFirstIdeal m →
    (∀ c : Dev Cert.MlpFirstIdeal.nD,
      m' ((c.tc : Thread Cert.MlpFirstRefIdeal.nD Cert.MlpFirstRefIdeal.τ).loc Cert.MlpFirstRefIdeal.main_arg0) = m ((c.tc : Thread Cert.MlpFirstIdeal.nD Cert.MlpFirstIdeal.τ).loc Cert.MlpFirstIdeal.main_arg0)
      ∧ m' ((c.tc : Thread Cert.MlpFirstRefIdeal.nD Cert.MlpFirstRefIdeal.τ).loc Cert.MlpFirstRefIdeal.main_arg1) = m ((c.tc : Thread Cert.MlpFirstIdeal.nD Cert.MlpFirstIdeal.τ).loc Cert.MlpFirstIdeal.main_arg1)
      ∧ m' ((c.tc : Thread Cert.MlpFirstRefIdeal.nD Cert.MlpFirstRefIdeal.τ).loc Cert.MlpFirstRefIdeal.main_arg2) = m ((c.tc : Thread Cert.MlpFirstIdeal.nD Cert.MlpFirstIdeal.τ).loc Cert.MlpFirstIdeal.main_arg2)
      ∧ m' ((c.tc : Thread Cert.MlpFirstRefIdeal.nD Cert.MlpFirstRefIdeal.τ).loc Cert.MlpFirstRefIdeal.main_arg3) = m ((c.tc : Thread Cert.MlpFirstIdeal.nD Cert.MlpFirstIdeal.τ).loc Cert.MlpFirstIdeal.main_arg3)
      ∧ m' ((c.tc : Thread Cert.MlpFirstRefIdeal.nD Cert.MlpFirstRefIdeal.τ).loc Cert.MlpFirstRefIdeal.main_arg4) = m ((c.tc : Thread Cert.MlpFirstIdeal.nD Cert.MlpFirstIdeal.τ).loc Cert.MlpFirstIdeal.main_arg4)) →
    ∃ (v0 : (c : Dev Cert.MlpFirstIdeal.nD) → Buf (Elt Ideal) ((c.tc : Thread Cert.MlpFirstIdeal.nD Cert.MlpFirstIdeal.τ).loc Cert.MlpFirstIdeal.main_v5)),
      θ_run (Cert.MlpFirstIdeal.defs (F := Ideal)) (onTc (τ := Cert.MlpFirstIdeal.τ) (Cert.MlpFirstIdeal.main (F := Ideal))) ⟨m, fun _ => 0, g⟩ (fun r => ∀ c : Dev Cert.MlpFirstIdeal.nD,
          r.2.mem ((c.tc : Thread Cert.MlpFirstIdeal.nD Cert.MlpFirstIdeal.τ).loc Cert.MlpFirstIdeal.main_v5) = v0 c
          ∧ r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
          ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
          ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
          ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
          ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ θ_run (Cert.MlpFirstRefIdeal.defs (F := Ideal)) (onTc (τ := Cert.MlpFirstRefIdeal.τ) (Cert.MlpFirstRefIdeal.main (F := Ideal))) ⟨m', fun _ => 0, g'⟩ (fun r => ∀ c : Dev Cert.MlpFirstRefIdeal.nD,
          r.2.mem ((c.tc : Thread Cert.MlpFirstRefIdeal.nD Cert.MlpFirstRefIdeal.τ).loc Cert.MlpFirstRefIdeal.main_v20) = v0 c
          ∧ r.2.mem ((c.tc : Thread Cert.MlpFirstRefIdeal.nD Cert.MlpFirstRefIdeal.τ).loc Cert.MlpFirstRefIdeal.main_arg0) = m' ((c.tc : Thread Cert.MlpFirstRefIdeal.nD Cert.MlpFirstRefIdeal.τ).loc Cert.MlpFirstRefIdeal.main_arg0)
          ∧ r.2.mem ((c.tc : Thread Cert.MlpFirstRefIdeal.nD Cert.MlpFirstRefIdeal.τ).loc Cert.MlpFirstRefIdeal.main_arg1) = m' ((c.tc : Thread Cert.MlpFirstRefIdeal.nD Cert.MlpFirstRefIdeal.τ).loc Cert.MlpFirstRefIdeal.main_arg1)
          ∧ r.2.mem ((c.tc : Thread Cert.MlpFirstRefIdeal.nD Cert.MlpFirstRefIdeal.τ).loc Cert.MlpFirstRefIdeal.main_arg2) = m' ((c.tc : Thread Cert.MlpFirstRefIdeal.nD Cert.MlpFirstRefIdeal.τ).loc Cert.MlpFirstRefIdeal.main_arg2)
          ∧ r.2.mem ((c.tc : Thread Cert.MlpFirstRefIdeal.nD Cert.MlpFirstRefIdeal.τ).loc Cert.MlpFirstRefIdeal.main_arg3) = m' ((c.tc : Thread Cert.MlpFirstRefIdeal.nD Cert.MlpFirstRefIdeal.τ).loc Cert.MlpFirstRefIdeal.main_arg3)
          ∧ r.2.mem ((c.tc : Thread Cert.MlpFirstRefIdeal.nD Cert.MlpFirstRefIdeal.τ).loc Cert.MlpFirstRefIdeal.main_arg4) = m' ((c.tc : Thread Cert.MlpFirstRefIdeal.nD Cert.MlpFirstRefIdeal.τ).loc Cert.MlpFirstRefIdeal.main_arg4))

def preserves_Gate_GateIdeal : Prop :=
  IdealRules.named_const.Statement Cert.GateIdeal.κ "eps" .f32 0x358637BD#32 ((1 / 1000000 : ℝ) : EReal)

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v28) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Merge_MergeIdeal : Prop :=
  True

def algebraic_MergeIdeal_MergeRefIdeal_pre_finite_top [hMergeIdeal : Cert.MergeIdeal.Facts] [hMergeRefIdeal : Cert.MergeRefIdeal.Facts] [hPre_finite_top : Cert.Pre_finite_top.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_top m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def Claim : Prop :=
  ∃ (hMla : Cert.Mla.Facts) (hMlaIdeal : Cert.MlaIdeal.Facts) (hMlaRefIdeal : Cert.MlaRefIdeal.Facts) (hMlp : Cert.Mlp.Facts) (hMlpIdeal : Cert.MlpIdeal.Facts) (hMlpRefIdeal : Cert.MlpRefIdeal.Facts) (hDiff : Cert.Diff.Facts) (hDiffIdeal : Cert.DiffIdeal.Facts) (hDiffRefIdeal : Cert.DiffRefIdeal.Facts) (hMlpFirst : Cert.MlpFirst.Facts) (hMlpFirstIdeal : Cert.MlpFirstIdeal.Facts) (hMlpFirstRefIdeal : Cert.MlpFirstRefIdeal.Facts) (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hPre_finite_qk : Cert.Pre_finite_qk.Facts) (hPre_finite_diff : Cert.Pre_finite_diff.Facts) (hPre_finite_top : Cert.Pre_finite_top.Facts),
    quiescent_Mla (hMla := hMla)
    ∧ quiescent_MlaIdeal (hMlaIdeal := hMlaIdeal)
    ∧ quiescent_MlaIdeal_pre_finite_qk (hMlaIdeal := hMlaIdeal) (hPre_finite_qk := hPre_finite_qk)
    ∧ quiescent_MlaRefIdeal (hMlaRefIdeal := hMlaRefIdeal)
    ∧ quiescent_MlaRefIdeal_pre_finite_qk (hMlaRefIdeal := hMlaRefIdeal) (hPre_finite_qk := hPre_finite_qk)
    ∧ quiescent_Mlp (hMlp := hMlp)
    ∧ quiescent_MlpIdeal (hMlpIdeal := hMlpIdeal)
    ∧ quiescent_MlpRefIdeal (hMlpRefIdeal := hMlpRefIdeal)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffRefIdeal (hDiffRefIdeal := hDiffRefIdeal)
    ∧ quiescent_DiffRefIdeal_pre_finite_diff (hDiffRefIdeal := hDiffRefIdeal) (hPre_finite_diff := hPre_finite_diff)
    ∧ quiescent_MlpFirst (hMlpFirst := hMlpFirst)
    ∧ quiescent_MlpFirstIdeal (hMlpFirstIdeal := hMlpFirstIdeal)
    ∧ quiescent_MlpFirstRefIdeal (hMlpFirstRefIdeal := hMlpFirstRefIdeal)
    ∧ quiescent_Gate (hGate := hGate)
    ∧ quiescent_GateIdeal (hGateIdeal := hGateIdeal)
    ∧ quiescent_GateRefIdeal (hGateRefIdeal := hGateRefIdeal)
    ∧ quiescent_Merge (hMerge := hMerge)
    ∧ quiescent_MergeIdeal (hMergeIdeal := hMergeIdeal)
    ∧ quiescent_MergeIdeal_pre_finite_top (hMergeIdeal := hMergeIdeal) (hPre_finite_top := hPre_finite_top)
    ∧ quiescent_MergeRefIdeal (hMergeRefIdeal := hMergeRefIdeal)
    ∧ quiescent_MergeRefIdeal_pre_finite_top (hMergeRefIdeal := hMergeRefIdeal) (hPre_finite_top := hPre_finite_top)
    ∧ preserves_Mla_MlaIdeal
    ∧ algebraic_MlaIdeal_MlaRefIdeal_pre_finite_qk (hMlaIdeal := hMlaIdeal) (hMlaRefIdeal := hMlaRefIdeal) (hPre_finite_qk := hPre_finite_qk)
    ∧ preserves_Mlp_MlpIdeal
    ∧ algebraic_MlpIdeal_MlpRefIdeal (hMlpIdeal := hMlpIdeal) (hMlpRefIdeal := hMlpRefIdeal)
    ∧ preserves_Diff_DiffIdeal
    ∧ algebraic_DiffIdeal_DiffRefIdeal_pre_finite_diff (hDiffIdeal := hDiffIdeal) (hDiffRefIdeal := hDiffRefIdeal) (hPre_finite_diff := hPre_finite_diff)
    ∧ preserves_MlpFirst_MlpFirstIdeal
    ∧ algebraic_MlpFirstIdeal_MlpFirstRefIdeal (hMlpFirstIdeal := hMlpFirstIdeal) (hMlpFirstRefIdeal := hMlpFirstRefIdeal)
    ∧ preserves_Gate_GateIdeal
    ∧ algebraic_GateIdeal_GateRefIdeal (hGateIdeal := hGateIdeal) (hGateRefIdeal := hGateRefIdeal)
    ∧ preserves_Merge_MergeIdeal
    ∧ algebraic_MergeIdeal_MergeRefIdeal_pre_finite_top (hMergeIdeal := hMergeIdeal) (hMergeRefIdeal := hMergeRefIdeal) (hPre_finite_top := hPre_finite_top)
-- ==== Pre_finite_diff.lean ====
abbrev S8x8192x3840 : Shape := ⟨3, ![8, 8192, 3840]⟩
abbrev S4x64 : Shape := ⟨2, ![4, 64]⟩
abbrev S128 : Shape := ⟨1, ![128]⟩
abbrev S8x8192x512 : Shape := ⟨3, ![8, 8192, 512]⟩
abbrev S_ : Shape := ⟨0, ![]⟩

class Facts : Prop where
  slices_S8x8192x3840_S8x8192x512_0_0_0 : S8x8192x3840.Slices ![0, 0, 0] S8x8192x512
  slices_S8x8192x3840_S8x8192x512_0_0_1280 : S8x8192x3840.Slices ![0, 0, 1280] S8x8192x512
  slices_S8x8192x3840_S8x8192x512_0_0_2560 : S8x8192x3840.Slices ![0, 0, 2560] S8x8192x512
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  main_v21

def fn {F : FTy → Type} [FloatOps F] (main_arg0 : FVec F S8x8192x3840 .bf16) (main_arg1 : FVec F S4x64 .f32) (main_arg2 : FVec F S128 .f32) : IVec S_ 1 :=
  let main_v0 : FVec F S8x8192x512 .bf16 := (extractStridedSlice S8x8192x512 ![0, 0, 0] · slices_S8x8192x3840_S8x8192x512_0_0_0) main_arg0
  let main_v1 : FVec F S8x8192x512 .bf16 := (extractStridedSlice S8x8192x512 ![0, 0, 1280] · slices_S8x8192x3840_S8x8192x512_0_0_1280) main_arg0
  let main_v2 : FVec F S8x8192x512 .bf16 := (extractStridedSlice S8x8192x512 ![0, 0, 2560] · slices_S8x8192x3840_S8x8192x512_0_0_2560) main_arg0
  let main_v3 : FVec F S8x8192x512 .bf16 := Host.absf main_v0
  let main_cst : FVec F S_ .bf16 := constant S_ .bf16 0x7F80#16
  let main_v4 : FVec F S8x8192x512 .bf16 := broadcastInDim S8x8192x512 ![] bcast_S_S8x8192x512 main_cst
  let main_v5 : IVec S8x8192x512 1 := cmpf .olt main_v3 main_v4
  let main_c : IVec S_ 1 := constantI S_ 1 1#1
  let main_v6 : IVec S_ 1 := (fun x v => Host.reduce IntOp.andi x v reducesTo_S8x8192x512_S_d0_1_2 h_S_) main_v5 main_c
  let main_v7 : FVec F S8x8192x512 .bf16 := Host.absf main_v1
  let main_cst_0 : FVec F S_ .bf16 := constant S_ .bf16 0x7F80#16
  let main_v8 : FVec F S8x8192x512 .bf16 := broadcastInDim S8x8192x512 ![] bcast_S_S8x8192x512 main_cst_0
  let main_v9 : IVec S8x8192x512 1 := cmpf .olt main_v7 main_v8
  let main_c_1 : IVec S_ 1 := constantI S_ 1 1#1
  let main_v10 : IVec S_ 1 := (fun x v => Host.reduce IntOp.andi x v reducesTo_S8x8192x512_S_d0_1_2 h_S_) main_v9 main_c_1
  let main_v11 : IVec S_ 1 := andi main_v6 main_v10
  let main_v12 : FVec F S8x8192x512 .bf16 := Host.absf main_v2
  let main_cst_2 : FVec F S_ .bf16 := constant S_ .bf16 0x7F80#16
  let main_v13 : FVec F S8x8192x512 .bf16 := broadcastInDim S8x8192x512 ![] bcast_S_S8x8192x512 main_cst_2
  let main_v14 : IVec S8x8192x512 1 := cmpf .olt main_v12 main_v13
  let main_c_3 : IVec S_ 1 := constantI S_ 1 1#1
  let main_v15 : IVec S_ 1 := (fun x v => Host.reduce IntOp.andi x v reducesTo_S8x8192x512_S_d0_1_2 h_S_) main_v14 main_c_3
  let main_v16 : IVec S_ 1 := andi main_v11 main_v15
  let main_v17 : FVec F S4x64 .f32 := Host.absf main_arg1
  fn_part1 (F := F) main_v16 main_v17
-- ==== Pre_finite_qk.lean ====
abbrev S8x8192x1024 : Shape := ⟨3, ![8, 8192, 1024]⟩
abbrev S8x8192x512 : Shape := ⟨3, ![8, 8192, 512]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel

variable [Facts]

def fn {F : FTy → Type} [FloatOps F] (main_arg0 : FVec F S8x8192x1024 .bf16) (main_arg1 : FVec F S8x8192x1024 .bf16) (main_arg2 : FVec F S8x8192x512 .bf16) : IVec S_ 1 :=
  let main_v0 : FVec F S8x8192x1024 .bf16 := Host.absf main_arg0
  let main_cst : FVec F S_ .bf16 := constant S_ .bf16 0x7F80#16
  let main_v1 : FVec F S8x8192x1024 .bf16 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x1024 .bf16 := Host.absf main_arg1
  let main_cst_0 : FVec F S_ .bf16 := constant S_ .bf16 0x7F80#16
  let main_v5 : FVec F S8x8192x1024 .bf16 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  main_v8
-- ==== Pre_finite_top.lean ====
abbrev S65536x1024 : Shape := ⟨2, ![65536, 1024]⟩
abbrev S65536x512 : Shape := ⟨2, ![65536, 512]⟩
abbrev S65536x256 : Shape := ⟨2, ![65536, 256]⟩
abbrev S65536x3072 : Shape := ⟨2, ![65536, 3072]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x1024 .f32) (main_arg1 : FVec F S65536x512 .bf16) (main_arg2 : FVec F S65536x512 .bf16) (main_arg3 : FVec F S65536x256 .f32) (main_arg4 : FVec F S65536x256 .f32) (main_arg5 : FVec F S65536x256 .f32) (main_arg6 : FVec F S65536x256 .f32) (main_arg7 : FVec F S65536x256 .f32) (main_arg8 : FVec F S65536x256 .f32) (main_arg9 : FVec F S65536x3072 .bf16) (main_arg10 : FVec F S512x1024 .f32) (main_arg11 : FVec F S256x1024 .f32) (main_arg12 : FVec F S512x1024 .f32) (main_arg13 : FVec F S1024x1024 .f32) : IVec S_ 1 :=
  let main_v0 : FVec F S65536x256 .f32 := maximumf main_arg6 main_arg7
  let main_v1 : FVec F S65536x256 .f32 := maximumf main_v0 main_arg8
  let main_v2 : FVec F S65536x256 .f32 := Host.absf main_v1
  let main_cst : FVec F S_ .f32 := constant S_ .f32 0x7F800000#32
  let main_v3 : FVec F S65536x256 .f32 := broadcastInDim S65536x256 ![] bcast_S_S65536x256 main_cst
  let main_v4 : IVec S65536x256 1 := cmpf .olt main_v2 main_v3
  let main_c : IVec S_ 1 := constantI S_ 1 1#1
  let main_v5 : IVec S_ 1 := (fun x v => Host.reduce IntOp.andi x v reducesTo_S65536x256_S_d0_1 h_S_) main_v4 main_c
  main_v5
-- ==== Mla.lean ====
abbrev S8x8192x1024 : Shape := ⟨3, ![8, 8192, 1024]⟩
abbrev S8x8192x512 : Shape := ⟨3, ![8, 8192, 512]⟩
abbrev S1x256x256 : Shape := ⟨3, ![1, 256, 256]⟩
abbrev S1x8192x256 : Shape := ⟨3, ![1, 8192, 256]⟩
abbrev S1x8192x128 : Shape := ⟨3, ![1, 8192, 128]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 14
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x512, .bf16⟩
  | .hbm, ⟨3, _⟩ => ⟨S8x8192x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 32], ![false, false, false]⟩

@[reducible] def k0_t1_loop : Scf.Loop 32 :=
  let c0_i32 : BitVec 32 := 0#32
  let c16_i32 : BitVec 32 := 16#32
  let v28 : BitVec 32 := Scalar.addi c0_i32 c16_i32
  let c1_i32 : BitVec 32 := 1#32
  ⟨c0_i32, v28, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v49 : BitVec 32 := Scalar.muli arg13 c512_i32
  v49
def k0_off1 (k0_t1 : Fin k0_t1_loop.trips) : Fin 3 → Nat :=
  let c0_35 : Index := 0#32
  let c0_i32 : BitVec 32 := 0#32
  let c1_i32 : BitVec 32 := 1#32
  let arg13 : BitVec 32 := Scf.iv c0_i32 c1_i32 k0_t1
  let c512_i32 : BitVec 32 := 512#32
  let v49 : BitVec 32 := Scalar.muli arg13 c512_i32
  let v50 : BitVec 32 := v49
  let v51 : Index := Scalar.indexCast v50
  let c0_36 : Index := 0#32
  ![0, v51.toNat, 0]
def k0_off2 (k0_t1 : Fin k0_t1_loop.trips) : Fin 3 → Nat :=
  let c0_37 : Index := 0#32
  let c0_i32 : BitVec 32 := 0#32
  let c1_i32 : BitVec 32 := 1#32
  let arg13 : BitVec 32 := Scf.iv c0_i32 c1_i32 k0_t1
  let c512_i32 : BitVec 32 := 512#32
  let v49 : BitVec 32 := Scalar.muli arg13 c512_i32
  let v50 : BitVec 32 := v49
  let v54 : Index := Scalar.indexCast v50
  let c0_38 : Index := 0#32
  ![0, v54.toNat, 0]
def k0_off3 (k0_t1 : Fin k0_t1_loop.trips) : Fin 3 → Nat :=
  let c0_54 : Index := 0#32
  let c0_i32 : BitVec 32 := 0#32
  let c1_i32 : BitVec 32 := 1#32
  let arg13 : BitVec 32 := Scf.iv c0_i32 c1_i32 k0_t1
  let c512_i32 : BitVec 32 := 512#32
  let v49 : BitVec 32 := Scalar.muli arg13 c512_i32
  let v50 : BitVec 32 := v49
  let v92 : Index := Scalar.indexCast v50
  let c128_55 : Index := 128#32
  ![0, v92.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mask" => some ⊥
  | _ => none
-- ==== MlaRefIdeal.lean ====
abbrev S8x8192x1024 : Shape := ⟨3, ![8, 8192, 1024]⟩
abbrev S8x8192x512 : Shape := ⟨3, ![8, 8192, 512]⟩
abbrev S8x8192x8x128 : Shape := ⟨4, ![8, 8192, 8, 128]⟩
abbrev S8x8192x8x64 : Shape := ⟨4, ![8, 8192, 8, 64]⟩
abbrev S8x8x8192x8192 : Shape := ⟨4, ![8, 8, 8192, 8192]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x512, .bf16⟩
  | .hbm, ⟨3, _⟩ => ⟨S8x8192x1024, .f32⟩
  | .hbm, ⟨4, _⟩ => ⟨S8x8192x8x128, .f32⟩
  | .hbm, ⟨5, _⟩ => ⟨S8x8192x1024, .f32⟩
  | .hbm, ⟨6, _⟩ => ⟨S8x8192x8x128, .f32⟩
  | .hbm, ⟨7, _⟩ => ⟨S8x8192x512, .f32⟩
  | .hbm, ⟨8, _⟩ => ⟨S8x8192x8x64, .f32⟩
  | .hbm, ⟨9, _⟩ => ⟨S8x8x8192x8192, .f32⟩
  | .hbm, ⟨10, _⟩ => ⟨S_, .f32⟩
  | .hbm, ⟨11, _⟩ => ⟨S8x8x8192, .f32⟩
  | .hbm, ⟨12, _⟩ => ⟨S8x8x8192x1, .f32⟩
  | .hbm, ⟨13, _⟩ => ⟨S8x8x8192x8192, .f32⟩
  | .hbm, ⟨14, _⟩ => ⟨S8x8x8192x8192, .f32⟩
  | .hbm, ⟨15, _⟩ => ⟨S_, .f32⟩
  | .hbm, ⟨16, _⟩ => ⟨S8x8x8192x8192, .f32⟩
  | .hbm, ⟨17, _⟩ => ⟨S8x8x8192x8192, .f32⟩
  | .hbm, ⟨18, _⟩ => ⟨S_, .f32⟩
  | .hbm, ⟨19, _⟩ => ⟨S8x8x8192, .f32⟩
  | .hbm, ⟨20, _⟩ => ⟨S8x8x8192x1, .f32⟩
  | .hbm, ⟨21, _⟩ => ⟨S8x8x8192x8192, .f32⟩
  | .hbm, ⟨22, _⟩ => ⟨S8x8x8192x8192, .f32⟩
  | .hbm, ⟨23, _⟩ => ⟨S8x8x64x8192, .f32⟩
  | .hbm, ⟨24, _⟩ => ⟨S8x8192x8x64, .f32⟩
  | .hbm, ⟨25, _⟩ => ⟨S8x8192x512, .f32⟩
  | .hbm, ⟨26, _⟩ => ⟨S8x8192x512, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Mlp.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpIdeal.lean ====
variable {F : FTy → Type} [FloatOps F] [Named F]
def κ : String → Option EReal := fun
  | "eps" => some ((1 / 1000000 : ℝ) : EReal)
  | _ => none
-- ==== MlpRefIdeal.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S65536x1024 : Shape := ⟨2, ![65536, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S8x8192x4096, .f32⟩
  | .hbm, ⟨25, _⟩ => ⟨S_, .f32⟩
  | .hbm, ⟨26, _⟩ => ⟨S8x8192x4096, .f32⟩
  | .hbm, ⟨27, _⟩ => ⟨S8x8192x4096, .f32⟩
  | .hbm, ⟨28, _⟩ => ⟨S8x8192x4096, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x8192x1024, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S_, .f32⟩
  | .hbm, ⟨39, _⟩ => ⟨S8x8192x1, .f32⟩
  | .hbm, ⟨40, _⟩ => ⟨S8x8192x1, .f32⟩
  | .hbm, ⟨41, _⟩ => ⟨S_, .f32⟩
  | .hbm, ⟨42, _⟩ => ⟨S8x8192x1, .f32⟩
  | .hbm, ⟨43, _⟩ => ⟨S8x8192x1, .f32⟩
  | .hbm, ⟨44, _⟩ => ⟨S8x8192x1, .f32⟩
  | .hbm, ⟨45, _⟩ => ⟨S8x8192x1024, .f32⟩
  | .hbm, ⟨46, _⟩ => ⟨S8x8192x1024, .f32⟩
  | .hbm, ⟨47, _⟩ => ⟨S1x1x1024, .f32⟩
  | .hbm, ⟨48, _⟩ => ⟨S8x8192x1024, .f32⟩
  | .hbm, ⟨49, _⟩ => ⟨S8x8192x1024, .f32⟩
  | .hbm, ⟨50, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Diff.lean ====
abbrev S8x8192x3840 : Shape := ⟨3, ![8, 8192, 3840]⟩
abbrev S4x64 : Shape := ⟨2, ![4, 64]⟩
abbrev S128 : Shape := ⟨1, ![128]⟩
abbrev S1x128 : Shape := ⟨2, ![1, 128]⟩
abbrev S8x8192x512 : Shape := ⟨3, ![8, 8192, 512]⟩
abbrev S1x256x128 : Shape := ⟨3, ![1, 256, 128]⟩
abbrev S1x8192x128 : Shape := ⟨3, ![1, 8192, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S1x64 : Shape := ⟨2, ![1, 64]⟩
abbrev S1 : Shape := ⟨1, ![1]⟩
abbrev S1x1 : Shape := ⟨2, ![1, 1]⟩

abbrev nBuf : Space → Nat
  | .hbm => 5
  | .vmem => 16
  | .smem => 0
  | _ => 0

abbrev bufTy : (tb : Table) → Fin (tcTables nBuf tb) → BufTy
  | .hbm, ⟨0, _⟩ => ⟨S8x8192x3840, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S8x8192x512, .bf16⟩
  | .local _ .vmem, ⟨0, _⟩ => ⟨S4x64, .f32⟩
  | .local _ .vmem, ⟨1, _⟩ => ⟨S1x128, .f32⟩
  | .local _ .vmem, ⟨2, _⟩ => ⟨S1x256x128, .bf16⟩
  | .local _ .vmem, ⟨3, _⟩ => ⟨S1x256x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x256x128, .bf16⟩
  | .local _ .vmem, ⟨9, _⟩ => ⟨S1x256x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 32], ![false, false, false]⟩

@[reducible] def k0_t1_loop : Scf.Loop 32 :=
  let c0_i32 : BitVec 32 := 0#32
  let c16_i32 : BitVec 32 := 16#32
  let v35 : BitVec 32 := Scalar.addi c0_i32 c16_i32
  let c1_i32 : BitVec 32 := 1#32
  ⟨c0_i32, v35, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32 : BitVec 32 := 512#32
  let v87 : BitVec 32 := Scalar.muli arg15 c512_i32
  v87
def k0_off1 (k0_t1 : Fin k0_t1_loop.trips) : Fin 3 → Nat :=
  let c0_47 : Index := 0#32
  let c0_i32 : BitVec 32 := 0#32
  let c1_i32 : BitVec 32 := 1#32
  let arg15 : BitVec 32 := Scf.iv c0_i32 c1_i32 k0_t1
  let c512_i32 : BitVec 32 := 512#32
  let v87 : BitVec 32 := Scalar.muli arg15 c512_i32
  let v88 : BitVec 32 := v87
  let v89 : Index := Scalar.indexCast v88
  let c0_48 : Index := 0#32
  ![0, v89.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffIdeal.lean ====
variable {F : FTy → Type} [FloatOps F] [Named F]
def κ : String → Option EReal := fun
  | "eps" => some ((1 / 1000000 : ℝ) : EReal)
  | "lam" => some ((1 / 5 : ℝ) : EReal)
  | "lamc" => some ((4 / 5 : ℝ) : EReal)
  | "mask" => some ⊥
  | _ => none
-- ==== DiffRefIdeal.lean ====
abbrev S8x8192x3840 : Shape := ⟨3, ![8, 8192, 3840]⟩
abbrev S4x64 : Shape := ⟨2, ![4, 64]⟩
abbrev S128 : Shape := ⟨1, ![128]⟩
abbrev S8x8192x512 : Shape := ⟨3, ![8, 8192, 512]⟩
abbrev S8x8192x4x2x64 : Shape := ⟨5, ![8, 8192, 4, 2, 64]⟩
abbrev S8x8192x4x128 : Shape := ⟨4, ![8, 8192, 4, 128]⟩
abbrev S8x4x2x8192x8192 : Shape := ⟨5, ![8, 4, 2, 8192, 8192]⟩
abbrev S_ : Shape := ⟨0, ![]⟩
abbrev S8x4x2x8192 : Shape := ⟨4, ![8, 4, 2, 8192]⟩
abbrev S8x4x2x8192x1 : Shape := ⟨5, ![8, 4, 2, 8192, 1]⟩
abbrev S1x64 : Shape := ⟨2, ![1, 64]⟩
abbrev S64 : Shape := ⟨1, ![64]⟩
abbrev S8x4x1x8192x8192 : Shape := ⟨5, ![8, 4, 1, 8192, 8192]⟩
abbrev S8x4x8192x8192 : Shape := ⟨4, ![8, 4, 8192, 8192]⟩
abbrev S8x4x128x8192 : Shape := ⟨4, ![8, 4, 128, 8192]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S8x8192x3840, .bf16⟩
  | .hbm, ⟨1, _⟩ => ⟨S4x64, .f32⟩
  | .hbm, ⟨2, _⟩ => ⟨S128, .f32⟩
  | .hbm, ⟨3, _⟩ => ⟨S8x8192x3840, .f32⟩
  | .hbm, ⟨4, _⟩ => ⟨S8x8192x512, .f32⟩
  | .hbm, ⟨5, _⟩ => ⟨S8x8192x4x2x64, .f32⟩
  | .hbm, ⟨6, _⟩ => ⟨S8x8192x512, .f32⟩
  | .hbm, ⟨7, _⟩ => ⟨S8x8192x4x2x64, .f32⟩
  | .hbm, ⟨8, _⟩ => ⟨S8x8192x512, .f32⟩
  | .hbm, ⟨9, _⟩ => ⟨S8x8192x4x128, .f32⟩
  | .hbm, ⟨10, _⟩ => ⟨S8x4x2x8192x8192, .f32⟩
  | .hbm, ⟨11, _⟩ => ⟨S_, .f32⟩
  | .hbm, ⟨12, _⟩ => ⟨S8x4x2x8192, .f32⟩
  | .hbm, ⟨13, _⟩ => ⟨S8x4x2x8192x1, .f32⟩
  | .hbm, ⟨14, _⟩ => ⟨S8x4x2x8192x8192, .f32⟩
  | .hbm, ⟨15, _⟩ => ⟨S8x4x2x8192x8192, .f32⟩
  | .hbm, ⟨16, _⟩ => ⟨S_, .f32⟩
  | .hbm, ⟨17, _⟩ => ⟨S8x4x2x8192x8192, .f32⟩
  | .hbm, ⟨18, _⟩ => ⟨S8x4x2x8192x8192, .f32⟩
  | .hbm, ⟨19, _⟩ => ⟨S_, .f32⟩
  | .hbm, ⟨20, _⟩ => ⟨S8x4x2x8192, .f32⟩
  | .hbm, ⟨21, _⟩ => ⟨S8x4x2x8192x1, .f32⟩
  | .hbm, ⟨22, _⟩ => ⟨S8x4x2x8192x8192, .f32⟩
  | .hbm, ⟨23, _⟩ => ⟨S8x4x2x8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x4x1x8192x8192, .f32⟩
  | .hbm, ⟨47, _⟩ => ⟨S8x4x8192x8192, .f32⟩
  | .hbm, ⟨48, _⟩ => ⟨S8x4x1x8192x8192, .f32⟩
  | .hbm, ⟨49, _⟩ => ⟨S8x4x8192x8192, .f32⟩
  | .hbm, ⟨50, _⟩ => ⟨S8x4x8192x8192, .f32⟩
  | .hbm, ⟨51, _⟩ => ⟨S8x4x8192x8192, .f32⟩
  | .hbm, ⟨52, _⟩ => ⟨S8x4x8192x8192, .f32⟩
  | .hbm, ⟨53, _⟩ => ⟨S8x4x128x8192, .f32⟩
  | .hbm, ⟨54, _⟩ => ⟨S8x8192x4x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x8192x4x128, .f32⟩
  | .hbm, ⟨59, _⟩ => ⟨S_, .f32⟩
  | .hbm, ⟨60, _⟩ => ⟨S8x8192x4, .f32⟩
  | .hbm, ⟨61, _⟩ => ⟨S8x8192x4x1, .f32⟩
  | .hbm, ⟨62, _⟩ => ⟨S_, .f32⟩
  | .hbm, ⟨63, _⟩ => ⟨S8x8192x4x1, .f32⟩
  | .hbm, ⟨64, _⟩ => ⟨S8x8192x4x1, .f32⟩
  | .hbm, ⟨65, _⟩ => ⟨S_, .f32⟩
  | .hbm, ⟨66, _⟩ => ⟨S8x8192x4x1, .f32⟩
  | .hbm, ⟨67, _⟩ => ⟨S8x8192x4x1, .f32⟩
  | .hbm, ⟨68, _⟩ => ⟨S8x8192x4x1, .f32⟩
  | .hbm, ⟨69, _⟩ => ⟨S8x8192x4x128, .f32⟩
  | .hbm, ⟨70, _⟩ => ⟨S8x8192x4x128, .f32⟩
  | .hbm, ⟨71, _⟩ => ⟨S1x1x1x128, .f32⟩
  | .hbm, ⟨72, _⟩ => ⟨S8x8192x4x128, .f32⟩
  | .hbm, ⟨73, _⟩ => ⟨S8x8192x4x128, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8x8192x4x128, .f32⟩
  | .hbm, ⟨78, _⟩ => ⟨S8x8192x4x128, .f32⟩
  | .hbm, ⟨79, _⟩ => ⟨S8x8192x512, .f32⟩
  | .hbm, ⟨80, _⟩ => ⟨S8x8192x512, .bf16⟩
  | _, _ => ⟨S8x8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== MlpFirst.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpFirstIdeal.lean ====
variable {F : FTy → Type} [FloatOps F] [Named F]
def κ : String → Option EReal := fun
  | "eps" => some ((1 / 1000000 : ℝ) : EReal)
  | _ => none
-- ==== MlpFirstRefIdeal.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S65536x1024 : Shape := ⟨2, ![65536, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S8x8192x4096, .f32⟩
  | .hbm, ⟨25, _⟩ => ⟨S_, .f32⟩
  | .hbm, ⟨26, _⟩ => ⟨S8x8192x4096, .f32⟩
  | .hbm, ⟨27, _⟩ => ⟨S8x8192x4096, .f32⟩
  | .hbm, ⟨28, _⟩ => ⟨S8x8192x4096, .f32⟩
  | .hbm, ⟨29, _⟩ => ⟨S8x8192x1024, .f32⟩
  | .hbm, ⟨30, _⟩ => ⟨S8x8192x1024, .f32⟩
  | .hbm, ⟨31, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Gate.lean ====
abbrev S8x8192x1024 : Shape := ⟨3, ![8, 8192, 1024]⟩
abbrev S1024 : Shape := ⟨1, ![1024]⟩
abbrev S1024x7968 : Shape := ⟨2, ![1024, 7968]⟩
abbrev S3x1024 : Shape := ⟨2, ![3, 1024]⟩
abbrev S65536x1024 : Shape := ⟨2, ![65536, 1024]⟩
abbrev S1024x3072 : Shape := ⟨2, ![1024, 3072]⟩
abbrev S1x1024 : Shape := ⟨2, ![1, 1024]⟩
abbrev S3x1x1024 : Shape := ⟨3, ![3, 1, 1024]⟩
abbrev S65536x3072 : Shape := ⟨2, ![65536, 3072]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x7968, .f32⟩
  | .hbm, ⟨3, _⟩ => ⟨S3x1024, .f32⟩
  | .hbm, ⟨4, _⟩ => ⟨S65536x1024, .f32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S3x1x1024, .f32⟩
  | .hbm, ⟨9, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateIdeal.lean ====
variable {F : FTy → Type} [FloatOps F] [Named F]
def κ : String → Option EReal := fun
  | "eps" => some ((1 / 1000000 : ℝ) : EReal)
  | _ => none
-- ==== GateRefIdeal.lean ====
abbrev S8x8192x1024 : Shape := ⟨3, ![8, 8192, 1024]⟩
abbrev S1024 : Shape := ⟨1, ![1024]⟩
abbrev S1024x7968 : Shape := ⟨2, ![1024, 7968]⟩
abbrev S3x1024 : Shape := ⟨2, ![3, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x3072 : Shape := ⟨2, ![1024, 3072]⟩
abbrev S8x8192x3072 : Shape := ⟨3, ![8, 8192, 3072]⟩
abbrev S3072 : Shape := ⟨1, ![3072]⟩
abbrev S1x1x3072 : Shape := ⟨3, ![1, 1, 3072]⟩
abbrev S65536x3072 : Shape := ⟨2, ![65536, 3072]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x7968, .f32⟩
  | .hbm, ⟨3, _⟩ => ⟨S3x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8192x1024, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1, .f32⟩
  | .hbm, ⟨18, _⟩ => ⟨S8x8192x1024, .f32⟩
  | .hbm, ⟨19, _⟩ => ⟨S8x8192x1024, .f32⟩
  | .hbm, ⟨20, _⟩ => ⟨S1x1x1024, .f32⟩
  | .hbm, ⟨21, _⟩ => ⟨S8x8192x1024, .f32⟩
  | .hbm, ⟨22, _⟩ => ⟨S8x8192x1024, .f32⟩
  | .hbm, ⟨23, _⟩ => ⟨S1024x3072, .f32⟩
  | .hbm, ⟨24, _⟩ => ⟨S8x8192x3072, .f32⟩
  | .hbm, ⟨25, _⟩ => ⟨S3072, .f32⟩
  | .hbm, ⟨26, _⟩ => ⟨S1x1x3072, .f32⟩
  | .hbm, ⟨27, _⟩ => ⟨S8x8192x3072, .f32⟩
  | .hbm, ⟨28, _⟩ => ⟨S8x8192x3072, .f32⟩
  | .hbm, ⟨29, _⟩ => ⟨S8x8192x3072, .f32⟩
  | .hbm, ⟨30, _⟩ => ⟨S8x8192x3072, .f32⟩
  | .hbm, ⟨31, _⟩ => ⟨S_, .f32⟩
  | .hbm, ⟨32, _⟩ => ⟨S8x8192x3072, .f32⟩
  | .hbm, ⟨33, _⟩ => ⟨S8x8192x3072, .f32⟩
  | .hbm, ⟨34, _⟩ => ⟨S_, .f32⟩
  | .hbm, ⟨35, _⟩ => ⟨S8x8192x3072, .f32⟩
  | .hbm, ⟨36, _⟩ => ⟨S8x8192x3072, .f32⟩
  | .hbm, ⟨37, _⟩ => ⟨S65536x3072, .f32⟩
  | .hbm, ⟨38, _⟩ => ⟨S65536x3072, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Merge.lean ====
abbrev S65536x1024 : Shape := ⟨2, ![65536, 1024]⟩
abbrev S65536x512 : Shape := ⟨2, ![65536, 512]⟩
abbrev S65536x256 : Shape := ⟨2, ![65536, 256]⟩
abbrev S65536x3072 : Shape := ⟨2, ![65536, 3072]⟩
abbrev S512x1024 : Shape := ⟨2, ![512, 1024]⟩
abbrev S256x1024 : Shape := ⟨2, ![256, 1024]⟩
abbrev S1024x1024 : Shape := ⟨2, ![1024, 1024]⟩
abbrev S512x512 : Shape := ⟨2, ![512, 512]⟩
abbrev S512x256 : Shape := ⟨2, ![512, 256]⟩
abbrev S512x3072 : Shape := ⟨2, ![512, 3072]⟩

abbrev nBuf : Space → Nat
  | .hbm => 19
  | .vmem => 26
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x256, .f32⟩
  | .hbm, ⟨4, _⟩ => ⟨S65536x256, .f32⟩
  | .hbm, ⟨5, _⟩ => ⟨S65536x256, .f32⟩
  | .hbm, ⟨6, _⟩ => ⟨S65536x256, .f32⟩
  | .hbm, ⟨7, _⟩ => ⟨S65536x256, .f32⟩
  | .hbm, ⟨8, _⟩ => ⟨S65536x256, .f32⟩
  | .hbm, ⟨9, _⟩ => ⟨S65536x3072, .bf16⟩
  | .hbm, ⟨10, _⟩ => ⟨S512x1024, .f32⟩
  | .hbm, ⟨11, _⟩ => ⟨S256x1024, .f32⟩
  | .hbm, ⟨12, _⟩ => ⟨S512x1024, .f32⟩
  | .hbm, ⟨13, _⟩ => ⟨S1024x1024, .f32⟩
  | .hbm, ⟨14, _⟩ => ⟨S512x1024, .bf16⟩
  | .hbm, ⟨15, _⟩ => ⟨S256x1024, .bf16⟩
  | .hbm, ⟨16, _⟩ => ⟨S512x1024, .bf16⟩
  | .hbm, ⟨17, _⟩ => ⟨S1024x1024, .bf16⟩
  | .hbm, ⟨18, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x3072, .bf16⟩
  | .local _ .vmem, ⟨19, _⟩ => ⟨S512x3072, .bf16⟩
  | .local _ .vmem, ⟨20, _⟩ => ⟨S512x1024, .bf16⟩
  | .local _ .vmem, ⟨21, _⟩ => ⟨S256x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S65536x1024 : Shape := ⟨2, ![65536, 1024]⟩
abbrev S65536x512 : Shape := ⟨2, ![65536, 512]⟩
abbrev S65536x256 : Shape := ⟨2, ![65536, 256]⟩
abbrev S65536x3072 : Shape := ⟨2, ![65536, 3072]⟩
abbrev S512x1024 : Shape := ⟨2, ![512, 1024]⟩
abbrev S256x1024 : Shape := ⟨2, ![256, 1024]⟩
abbrev S1024x1024 : Shape := ⟨2, ![1024, 1024]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x256, .f32⟩
  | .hbm, ⟨4, _⟩ => ⟨S65536x256, .f32⟩
  | .hbm, ⟨5, _⟩ => ⟨S65536x256, .f32⟩
  | .hbm, ⟨6, _⟩ => ⟨S65536x256, .f32⟩
  | .hbm, ⟨7, _⟩ => ⟨S65536x256, .f32⟩
  | .hbm, ⟨8, _⟩ => ⟨S65536x256, .f32⟩
  | .hbm, ⟨9, _⟩ => ⟨S65536x3072, .bf16⟩
  | .hbm, ⟨10, _⟩ => ⟨S512x1024, .f32⟩
  | .hbm, ⟨11, _⟩ => ⟨S256x1024, .f32⟩
  | .hbm, ⟨12, _⟩ => ⟨S512x1024, .f32⟩
  | .hbm, ⟨13, _⟩ => ⟨S1024x1024, .f32⟩
  | .hbm, ⟨14, _⟩ => ⟨S65536x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S65536x512, .f32⟩
  | .hbm, ⟨33, _⟩ => ⟨S65536x1024, .f32⟩
  | .hbm, ⟨34, _⟩ => ⟨S65536x1024, .f32⟩
  | .hbm, ⟨35, _⟩ => ⟨S65536x512, .f32⟩
  | .hbm, ⟨36, _⟩ => ⟨S65536x1024, .f32⟩
  | .hbm, ⟨37, _⟩ => ⟨S65536x3072, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.Owned.lean ====
/-
  A load and a store of a memref that is held with named contents.

  A buffer held as `owns c m q X` reads `X`. A load through a rectangle `r` returns `X` at the rectangle's indices and
  leaves the buffer as it was; a store over the whole of the buffer leaves it reading the stored vector, whatever it
  read before. With these two rules a straight line of memory operations is walked one operation at a time.
-/
module

public import Idealize.ShloMosaic.Lib.Pipeline.ValueKit
public import Idealize.ShloMosaic.Lib.Tactic

@[expose] public section

noncomputable section

namespace Cert.Owned

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} [Preorder Lvl] {Λ : Labels}

variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a held memref returns its contents at the rectangle's indices. -/
theorem load {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (View.ld X r)) Q)
        -∗ wp frame (wpE defs 𝒱 c bd) E (Prog.lift (.load m r hl) >>= k) Q) := by
  unfold owns
  iintro ⟨%f, %hf, H⟩ HK
  subst hf
  iapply (wp_load (defs := defs) 𝒱 c bd E (m := m) (r := r) (hl := hl) (k := k) (f := f) (q := q) (S := m.view.set) (m.view.setOn_subset_set _)) $$ H
  iintro H
  iapply HK
  iexists f
  isplitr
  · ipureintro; rfl
  · iexact H

/-- A store over the whole of a held memref leaves it holding the stored vector. -/
theorem store [∀ e, Nonempty (Val e)] {cs : CoreSpace} {m : Memref sig c.2.kind cs s e} {off : Fin s.rank → Nat}
    {inb : ∀ a, off a + s.size a ≤ s.size a} {w : s.Idx → Val e} (h0 : ∀ a, off a = 0)
    {hx : (m.access (Rect.unit off s.size inb)).Stores Finset.univ}
    {hm : Finset.univ = Finset.univ ∨ ∀ a, (Rect.unit off s.size inb).stride a = 1}
    {k : PUnit → Prog (TpuEff nD τ sig Val Λ c.2) α} {X : s.Idx → Val e} :
    (owns c m fullShare X : sProp (MT nD τ sig Ix Val Name U Lvl))
      ⊢ iprop((owns c m fullShare w -∗ wp frame (wpE defs 𝒱 c bd) E (k ⟨⟩) Q)
        -∗ wp frame (wpE defs 𝒱 c bd) E (Prog.lift (.store m (Rect.unit off s.size inb) w Finset.univ hx hm) >>= k) Q) := by
  unfold owns
  iintro ⟨%f, %hf, H⟩ HK
  iapply (wp_store (defs := defs) 𝒱 c bd E (m := m) (r := Rect.unit off s.size inb) (w := w) (hx := hx) (hm := hm) (k := k) (f := f)
    (S := m.view.set) (View.set_slice_subset _ _)) $$ H
  iintro H
  iapply HK
  iexists ((m.access (Rect.unit off s.size inb)).write Val f w Finset.univ)
  isplitr
  · ipureintro
    have h := View.read_writes_eq_canon m.view f [(⟨Rect.unit off s.size inb, w⟩ : View.Piece Val s e)]
      (fun y => ⟨_, List.mem_singleton_self _, View.mem_set_unit_zero (View.eq_zero_of_forall h0) inb y⟩)
    rw [View.canon_unit_zero (View.eq_zero_of_forall h0)] at h
    exact h
  · iexact H

end Cert.Owned

end
-- ==== Proof.MlaIdealBody.lean ====
/-
  The body of the program `MlaIdeal` at one grid point, run on the contents of its buffers.

  Two heads share a grid point. Per head the body keeps three scratch buffers: the running row maximum, the running row
  sum (one partial sum per lane) and the running weighted sum of the values. `State` is the six of them, `start` what the
  body sets before its loop, `trip` what one trip over 512 keys makes of them, `stateAt` their contents before trip `k`,
  and `result` the block that is stored at the end. `body_run` says that the printed body, on buffers that hold a query
  block, the keys and the values, ends with that block in the output's buffer. The rest hands this to the launch.
-/
module

public import proofs.«01_k».proof.Proof.Owned
public import proofs.«01_k».proof.Proof.Gen.MlaIdeal.Frame
public import proofs.«01_k».proof.Proof.Gen.MlaIdeal.Skeleton
public import proofs.«01_k».proof.Proof.Gen.MlaIdeal.Loops

@[expose] public section

set_option maxRecDepth 16384

noncomputable section

namespace Cert.MlaIdeal.Body

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes -/

/-- The six scratch buffers: per head the running maximum, the running sum per lane, the running weighted sum. -/
structure State (F : FTy → Type) [FloatOps F] where
  m1 : Vec F S256x128 .f32
  l1 : Vec F S256x128 .f32
  a1 : Vec F S256x128 .f32
  m2 : Vec F S256x128 .f32
  l2 : Vec F S256x128 .f32
  a2 : Vec F S256x128 .f32

/-- The scratch buffers before the loop. -/
def start : State F := ⟨k0_pay22 (F := F), k0_pay23 (F := F), k0_pay24 (F := F), k0_pay25 (F := F), k0_pay26 (F := F), k0_pay27 (F := F)⟩

/-- The first head's queries. -/
def q1 (X3 : Vec F S1x256x256 .bf16) : FVec F S256x128 .bf16 :=
  k0_pay20 (View.ld X3 (Rect.unit (s := S1x256x256) ![0, 0, 0] S1x256x128.size inb_S1x256x256_S1x256x128_0_0_0))

/-- The second head's queries. -/
def q2 (X3 : Vec F S1x256x256 .bf16) : FVec F S256x128 .bf16 :=
  k0_pay21 (View.ld X3 (Rect.unit (s := S1x256x256) ![0, 0, 128] S1x256x128.size inb_S1x256x256_S1x256x128_0_0_128))

/-- The values of trip `k`'s keys, of both heads. -/
def vBlk (X5 : Vec F S1x8192x128 .bf16) (k : Fin k0_t1_loop.trips) : Vec F S1x512x128 .bf16 :=
  View.ld X5 (Rect.unit (s := S1x8192x128) (k0_off1 k) S1x512x128.size (k0_off1_inb k))

/-- The first head's keys of trip `k`. -/
def kBlk1 (X4 : Vec F S1x8192x256 .bf16) (k : Fin k0_t1_loop.trips) : Vec F S1x512x128 .bf16 :=
  View.ld X4 (Rect.unit (s := S1x8192x256) (k0_off2 k) S1x512x128.size (k0_off2_inb k))

/-- The second head's keys of trip `k`. -/
def kBlk2 (X4 : Vec F S1x8192x256 .bf16) (k : Fin k0_t1_loop.trips) : Vec F S1x512x128 .bf16 :=
  View.ld X4 (Rect.unit (s := S1x8192x256) (k0_off3 k) S1x512x128.size (k0_off3_inb k))

/-- One trip: queries `v1`, `v3`, values `vb`, keys `kb1`, `kb2`, on the scratch buffers `s`. -/
def trip (v1 v3 : FVec F S256x128 .bf16) (vb kb1 kb2 : Vec F S1x512x128 .bf16) (s : State F) : State F where
  m1 := k0_pay8 v1 kb1 s.m1
  l1 := k0_pay9 v1 kb1 s.m1 s.l1
  a1 := k0_pay12 (k0_pay10 v1 kb1 s.m1 s.a1) (k0_pay11 v1 vb kb1 s.m1)
  m2 := k0_pay17 v3 kb2 s.m2
  l2 := k0_pay18 v3 kb2 s.m2 s.l2
  a2 := k0_pay1 (k0_pay19 v3 (k0_pay3 vb) kb2 s.m2 s.a2)

/-- The scratch buffers before trip `k` (from the last trip on, after the loop). -/
def stateAt (v1 v3 : FVec F S256x128 .bf16) (X4 : Vec F S1x8192x256 .bf16) (X5 : Vec F S1x8192x128 .bf16) : ℕ → State F
  | 0 => start
  | k + 1 =>
    if h : k < k0_t1_loop.trips then
      trip v1 v3 (vBlk X5 ⟨k, h⟩) (kBlk1 X4 ⟨k, h⟩) (kBlk2 X4 ⟨k, h⟩) (stateAt v1 v3 X4 X5 k)
    else stateAt v1 v3 X4 X5 k

/-- One more trip. -/
theorem stateAt_succ (v1 v3 : FVec F S256x128 .bf16) (X4 : Vec F S1x8192x256 .bf16) (X5 : Vec F S1x8192x128 .bf16)
    (k : Fin k0_t1_loop.trips) :
    stateAt v1 v3 X4 X5 (k.val + 1) = trip v1 v3 (vBlk X5 k) (kBlk1 X4 k) (kBlk2 X4 k) (stateAt v1 v3 X4 X5 k.val) := by
  rw [stateAt, dif_pos k.isLt]

/-- The block that the scratch buffers give. -/
def finish (s : State F) : Vec F S1x256x128 .bf16 := k0_pay2 s.a1 s.l1 s.a2 s.l2

/-- The block that the body stores: from the query block, the keys and the values. -/
def result (X3 : Vec F S1x256x256 .bf16) (X4 : Vec F S1x8192x256 .bf16) (X5 : Vec F S1x8192x128 .bf16) : Vec F S1x256x128 .bf16 :=
  finish (stateAt (q1 X3) (q2 X3) X4 X5 k0_t1_loop.trips)

/-! ## The body's run -/

section Run

variable (c : Dev nD) (i : grid0.Coords)
  (arg3 : Memref sig .tc .vmem S1x256x256 .bf16) (harg3 : arg3.IsWhole)
  (arg4 : Memref sig .tc .vmem S1x8192x256 .bf16) (harg4 : arg4.IsWhole)
  (arg5 : Memref sig .tc .vmem S1x8192x128 .bf16) (harg5 : arg5.IsWhole)
  (arg6 : Memref sig .tc .vmem S1x256x128 .bf16) (harg6 : arg6.IsWhole)
  (arg7 : Memref sig .tc .vmem S256x128 .f32) (harg7 : arg7.IsWhole)
  (arg8 : Memref sig .tc .vmem S256x128 .f32) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S256x128 .f32) (harg11 : arg11.IsWhole)
  (arg12 : Memref sig .tc .vmem S256x128 .f32) (harg12 : arg12.IsWhole)

/-- The ten buffers of the body at named contents. -/
def held (X3 : Vec F S1x256x256 .bf16) (X4 : Vec F S1x8192x256 .bf16) (X5 : Vec F S1x8192x128 .bf16)
    (X6 : Vec F S1x256x128 .bf16) (s : State F) : sProp 𝕄 :=
  iprop(owns (c : Thread nD τ) arg3 fullShare X3 ∗ owns (c : Thread nD τ) arg4 fullShare X4 ∗ owns (c : Thread nD τ) arg5 fullShare X5
    ∗ owns (c : Thread nD τ) arg6 fullShare X6 ∗ owns (c : Thread nD τ) arg7 fullShare s.m1 ∗ owns (c : Thread nD τ) arg8 fullShare s.l1
    ∗ owns (c : Thread nD τ) arg9 fullShare s.a1 ∗ owns (c : Thread nD τ) arg10 fullShare s.m2 ∗ owns (c : Thread nD τ) arg11 fullShare s.l2
    ∗ owns (c : Thread nD τ) arg12 fullShare s.a2)

/-- The part before the loop, but for its last store. -/
theorem part3_run (X3 : Vec F S1x256x256 .bf16) (X4 : Vec F S1x8192x256 .bf16) (X5 : Vec F S1x8192x128 .bf16)
    (X6 : Vec F S1x256x128 .bf16) (s : State F) (Q) :
    iprop(held c arg3 arg4 arg5 arg6 arg7 arg8 arg9 arg10 arg11 arg12 X3 X4 X5 X6 s
        ∗ (held c arg3 arg4 arg5 arg6 arg7 arg8 arg9 arg10 arg11 arg12 X3 X4 X5 X6 { (start : State F) with a2 := s.a2 }
            -∗ Q ⟨q1 X3, q2 X3, k0_pay27 (F := F)⟩))
      ⊢ wp frame (wpE (defs₀ (F := F)) Variants.none (c : Thread nD τ) none) Set.univ (k0_part3 i arg3 harg3 arg4 harg4 arg5 harg5 arg6 harg6 arg7 harg7 arg8 harg8 arg9 harg9 arg10 harg10 arg11 harg11 arg12 harg12) Q := by
  rw [k0_part3_eq_skeleton]
  unfold k0_part3_skel held q1 q2
  iintro ⟨⟨H3, H4, H5, H6, H7, H8, H9, H10, H11, H12⟩, HK⟩
  iapply (Owned.load Variants.none (c : Thread nD τ) none Set.univ) $$ H3; iintro H3
  iapply (Owned.load Variants.none (c : Thread nD τ) none Set.univ) $$ H3; iintro H3
  iapply (Owned.load Variants.none (c : Thread nD τ) none Set.univ) $$ H7; iintro H7
  iapply (Owned.store Variants.none (c : Thread nD τ) none Set.univ (by decide)) $$ H7; iintro H7
  iapply (Owned.load Variants.none (c : Thread nD τ) none Set.univ) $$ H8; iintro H8
  iapply (Owned.store Variants.none (c : Thread nD τ) none Set.univ (by decide)) $$ H8; iintro H8
  iapply (Owned.load Variants.none (c : Thread nD τ) none Set.univ) $$ H9; iintro H9
  iapply (Owned.store Variants.none (c : Thread nD τ) none Set.univ (by decide)) $$ H9; iintro H9
  iapply (Owned.load Variants.none (c : Thread nD τ) none Set.univ) $$ H10; iintro H10
  iapply (Owned.store Variants.none (c : Thread nD τ) none Set.univ (by decide)) $$ H10; iintro H10
  iapply (Owned.load Variants.none (c : Thread nD τ) none Set.univ) $$ H11; iintro H11
  iapply (Owned.store Variants.none (c : Thread nD τ) none Set.univ (by decide)) $$ H11; iintro H11
  iapply (Owned.load Variants.none (c : Thread nD τ) none Set.univ) $$ H12; iintro H12
  rw [wp_pure]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- One trip's first part: the first head, but for the store of its weighted sum. -/
theorem part1_run (v1 : FVec F S256x128 .bf16) (k : Fin k0_t1_loop.trips) (X3 : Vec F S1x256x256 .bf16)
    (X4 : Vec F S1x8192x256 .bf16) (X5 : Vec F S1x8192x128 .bf16) (X6 : Vec F S1x256x128 .bf16) (s : State F) (Q) :
    iprop(held c arg3 arg4 arg5 arg6 arg7 arg8 arg9 arg10 arg11 arg12 X3 X4 X5 X6 s
        ∗ (∀ v50, held c arg3 arg4 arg5 arg6 arg7 arg8 arg9 arg10 arg11 arg12 X3 X4 X5 X6
              { s with m1 := k0_pay8 v1 (kBlk1 X4 k) s.m1, l1 := k0_pay9 v1 (kBlk1 X4 k) s.m1 s.l1 }
            -∗ Q ⟨v50, k0_pay3 (vBlk X5 k), k0_pay10 v1 (kBlk1 X4 k) s.m1 s.a1, k0_pay11 v1 (vBlk X5 k) (kBlk1 X4 k) s.m1⟩))
      ⊢ wp frame (wpE (defs₀ (F := F)) Variants.none (c : Thread nD τ) none) Set.univ (k0_part1 i arg3 harg3 arg4 harg4 arg5 harg5 arg6 harg6 arg7 harg7 arg8 harg8 arg9 harg9 arg10 harg10 arg11 harg11 arg12 harg12 v1 0#32 1#32 k) Q := by
  rw [k0_part1_eq_skeleton]
  unfold k0_part1_skel held kBlk1 vBlk
  dsimp only
  iintro ⟨⟨H3, H4, H5, H6, H7, H8, H9, H10, H11, H12⟩, HK⟩
  iapply (Owned.load Variants.none (c : Thread nD τ) none Set.univ) $$ H5; iintro H5
  iapply (Owned.load Variants.none (c : Thread nD τ) none Set.univ) $$ H4; iintro H4
  iapply (Owned.load Variants.none (c : Thread nD τ) none Set.univ) $$ H7; iintro H7
  iapply (Owned.load Variants.none (c : Thread nD τ) none Set.univ) $$ H7; iintro H7
  iapply (Owned.store Variants.none (c : Thread nD τ) none Set.univ (by decide)) $$ H7; iintro H7
  iapply (Owned.load Variants.none (c : Thread nD τ) none Set.univ) $$ H8; iintro H8
  iapply (Owned.load Variants.none (c : Thread nD τ) none Set.univ) $$ H8; iintro H8
  iapply (Owned.store Variants.none (c : Thread nD τ) none Set.univ (by decide)) $$ H8; iintro H8
  iapply (Owned.load Variants.none (c : Thread nD τ) none Set.univ) $$ H9; iintro H9
  rw [wp_pure]
  simp only [View.ld_unit_lit (S := S256x128) _ _ (show ∀ a, (![0, 0] : Fin 2 → Nat) a = 0 by decide)]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- One trip's second part: the first head's weighted sum stored, then the second head but for its own. -/
theorem part2_run (v3 : FVec F S256x128 .bf16) (k : Fin k0_t1_loop.trips) (v50 : BitVec 32) (v53 : FVec F S512x128 .bf16)
    (v85 v87 : FVec F S256x128 .f32) (X3 : Vec F S1x256x256 .bf16) (X4 : Vec F S1x8192x256 .bf16)
    (X5 : Vec F S1x8192x128 .bf16) (X6 : Vec F S1x256x128 .bf16) (s : State F) (Q) :
    iprop(held c arg3 arg4 arg5 arg6 arg7 arg8 arg9 arg10 arg11 arg12 X3 X4 X5 X6 s
        ∗ (held c arg3 arg4 arg5 arg6 arg7 arg8 arg9 arg10 arg11 arg12 X3 X4 X5 X6
              { s with a1 := k0_pay12 v85 v87, m2 := k0_pay17 v3 (kBlk2 X4 k) s.m2, l2 := k0_pay18 v3 (kBlk2 X4 k) s.m2 s.l2 }
            -∗ Q (k0_pay19 v3 v53 (kBlk2 X4 k) s.m2 s.a2)))
      ⊢ wp frame (wpE (defs₀ (F := F)) Variants.none (c : Thread nD τ) none) Set.univ (k0_part2 i arg3 harg3 arg4 harg4 arg5 harg5 arg6 harg6 arg7 harg7 arg8 harg8 arg9 harg9 arg10 harg10 arg11 harg11 arg12 harg12 v3 k v50 v53 v85 v87) Q := by
  rw [k0_part2_eq_skeleton]
  unfold k0_part2_skel held kBlk2
  dsimp only
  iintro ⟨⟨H3, H4, H5, H6, H7, H8, H9, H10, H11, H12⟩, HK⟩
  iapply (Owned.load Variants.none (c : Thread nD τ) none Set.univ) $$ H9; iintro H9
  iapply (Owned.store Variants.none (c : Thread nD τ) none Set.univ (by decide)) $$ H9; iintro H9
  iapply (Owned.load Variants.none (c : Thread nD τ) none Set.univ) $$ H4; iintro H4
  iapply (Owned.load Variants.none (c : Thread nD τ) none Set.univ) $$ H10; iintro H10
  iapply (Owned.load Variants.none (c : Thread nD τ) none Set.univ) $$ H10; iintro H10
  iapply (Owned.store Variants.none (c : Thread nD τ) none Set.univ (by decide)) $$ H10; iintro H10
  iapply (Owned.load Variants.none (c : Thread nD τ) none Set.univ) $$ H11; iintro H11
  iapply (Owned.load Variants.none (c : Thread nD τ) none Set.univ) $$ H11; iintro H11
  iapply (Owned.store Variants.none (c : Thread nD τ) none Set.univ (by decide)) $$ H11; iintro H11
  iapply (Owned.load Variants.none (c : Thread nD τ) none Set.univ) $$ H12; iintro H12
  rw [wp_pure]
  simp only [View.ld_unit_lit (S := S256x128) _ _ (show ∀ a, (![0, 0] : Fin 2 → Nat) a = 0 by decide)]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- One whole trip. -/
theorem trip_run (v1 v3 : FVec F S256x128 .bf16) (k : Fin k0_t1_loop.trips) (acc : Unit) (X3 : Vec F S1x256x256 .bf16)
    (X4 : Vec F S1x8192x256 .bf16) (X5 : Vec F S1x8192x128 .bf16) (X6 : Vec F S1x256x128 .bf16) (s : State F) :
    held c arg3 arg4 arg5 arg6 arg7 arg8 arg9 arg10 arg11 arg12 X3 X4 X5 X6 s
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 v1 v3 k acc)
        (fun _ => held c arg3 arg4 arg5 arg6 arg7 arg8 arg9 arg10 arg11 arg12 X3 X4 X5 X6
          (trip v1 v3 (vBlk X5 k) (kBlk1 X4 k) (kBlk2 X4 k) s)) := by
  unfold k0_t1_body
  dsimp only
  rw [wp_bind]
  iintro H
  iapply (part1_run (F := F) c i arg3 harg3 arg4 harg4 arg5 harg5 arg6 harg6 arg7 harg7 arg8 harg8 arg9 harg9 arg10 harg10 arg11 harg11 arg12 harg12 v1 k X3 X4 X5 X6 s _)
  isplitl [H]; · iexact H
  iintro %v50 H
  rw [wp_bind]
  iapply (part2_run (F := F) c i arg3 harg3 arg4 harg4 arg5 harg5 arg6 harg6 arg7 harg7 arg8 harg8 arg9 harg9 arg10 harg10 arg11 harg11 arg12 harg12 v3 k _ _ _ _ X3 X4 X5 X6 _ _)
  isplitl [H]; · iexact H
  iintro H
  unfold held
  icases H with ⟨H3, H4, H5, H6, H7, H8, H9, H10, H11, H12⟩
  iapply (Owned.load Variants.none (c : Thread nD τ) none Set.univ) $$ H12; iintro H12
  iapply (Owned.store Variants.none (c : Thread nD τ) none Set.univ (by decide)) $$ H12; iintro H12
  rw [wp_pure]
  imodintro
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body: the query block, the keys and the values stay, the output's buffer ends at `result`. -/
theorem body_run (X3 : Vec F S1x256x256 .bf16) (X4 : Vec F S1x8192x256 .bf16) (X5 : Vec F S1x8192x128 .bf16)
    (X6 : Vec F S1x256x128 .bf16) (s : State F) (Q : PUnit → sProp (MT nD τ sig Unit (Elt F) ℕ (UR sig nD τ) ℕ)) :
    iprop(held c arg3 arg4 arg5 arg6 arg7 arg8 arg9 arg10 arg11 arg12 X3 X4 X5 X6 s
        ∗ (held c arg3 arg4 arg5 arg6 arg7 arg8 arg9 arg10 arg11 arg12 X3 X4 X5 (result X3 X4 X5)
            (stateAt (q1 X3) (q2 X3) X4 X5 k0_t1_loop.trips) -∗ Q ⟨⟩))
      ⊢ wp frame (wpE (defs₀ (F := F)) Variants.none (c : Thread nD τ) none) Set.univ (cc0_mla_attention (F := F) i arg3 harg3 arg4 harg4 arg5 harg5 arg6 harg6 arg7 harg7 arg8 harg8 arg9 harg9 arg10 harg10 arg11 harg11 arg12 harg12) Q := by
  rw [cc0_mla_attention_eq_skeleton]
  unfold cc0_mla_attention_skel
  rw [wp_bind]
  iintro ⟨H, HK⟩
  iapply (part3_run (F := F) c i arg3 harg3 arg4 harg4 arg5 harg5 arg6 harg6 arg7 harg7 arg8 harg8 arg9 harg9 arg10 harg10 arg11 harg11 arg12 harg12 X3 X4 X5 X6 s _)
  isplitl [H]; · iexact H
  iintro H
  dsimp only
  unfold held
  icases H with ⟨H3, H4, H5, H6, H7, H8, H9, H10, H11, H12⟩
  iapply (Owned.store Variants.none (c : Thread nD τ) none Set.univ (by decide)) $$ H12; iintro H12
  iapply (Scf.wp_for_bind frame (wpE (defs₀ (F := F)) Variants.none (c : Thread nD τ) none) Set.univ _ _ _ k0_t1_ok ⟨⟩ _
    (fun k _ => held c arg3 arg4 arg5 arg6 arg7 arg8 arg9 arg10 arg11 arg12 X3 X4 X5 X6 (stateAt (q1 X3) (q2 X3) X4 X5 k))
    (fun k acc => by
      refine (trip_run (F := F) c i arg3 harg3 arg4 harg4 arg5 harg5 arg6 harg6 arg7 harg7 arg8 harg8 arg9 harg9 arg10 harg10 arg11 harg11 arg12 harg12 (q1 X3) (q2 X3) k acc X3 X4 X5 X6 (stateAt (q1 X3) (q2 X3) X4 X5 k.val)).trans ?_
      rw [stateAt_succ])) $$ [H3 H4 H5 H6 H7 H8 H9 H10 H11 H12]
  · unfold held
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u H
  unfold held
  icases H with ⟨H3, H4, H5, H6, H7, H8, H9, H10, H11, H12⟩
  iapply (Owned.load Variants.none (c : Thread nD τ) none Set.univ) $$ H9; iintro H9
  iapply (Owned.load Variants.none (c : Thread nD τ) none Set.univ) $$ H8; iintro H8
  iapply (Owned.load Variants.none (c : Thread nD τ) none Set.univ) $$ H12; iintro H12
  iapply (Owned.load Variants.none (c : Thread nD τ) none Set.univ) $$ H11; iintro H11
  iapply (Owned.load Variants.none (c : Thread nD τ) none Set.univ) $$ H6; iintro H6
  iapply (Owned.store Variants.none (c : Thread nD τ) none Set.univ (by decide)) $$ H6; iintro H6
  rw [wp_pure]
  simp only [View.ld_unit_lit (S := S256x128) _ _ (show ∀ a, (![0, 0] : Fin 2 → Nat) a = 0 by decide)]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Run

/-! ## The launch -/

variable (m : (ℓ : Loc nD τ sig) → Buf (Elt F) ℓ) (ρ : Dev nD → PrngReg)

/-- What the body leaves in the output's buffer at point `t`. -/
def outAt (c : Dev nD) (t : Fin cfg0.N) : Vec F S1x256x128 .bf16 := result (iblk m c 0 t) (iblk m c 1 t) (iblk m c 2 t)

/-- The proof data of the pipelined call: inputs stay, the output's block is `outAt`, the scratch buffers are at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is entered with at point `t`. -/
def bodyPre (c : Dev nD) (t : Fin cfg0.N) : sProp 𝕄 := iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body leaves at point `t`. -/
def bodyPost (c : Dev nD) (t : Fin cfg0.N) : sProp 𝕄 := iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- A scratch buffer at anything is held at some contents. -/
theorem scratch_held (c : Dev nD) (b : Ref sig .tc) : (iprop(∃ f, ((c : Thread nD τ).loc b) ↦{fullShare} f) : sProp 𝕄)
    ⊢ iprop(∃ X, owns (c : Thread nD τ) (Memref.whole b) fullShare X) := by
  iintro ⟨%f, H⟩
  iexists f
  rw [owns_whole]
  iexact H

/-- And the converse. -/
theorem held_scratch (c : Dev nD) (b : Ref sig .tc) (X : b.ty.Contents (Elt F)) : (owns (c : Thread nD τ) (Memref.whole b) fullShare X : sProp 𝕄)
    ⊢ iprop(∃ f, ((c : Thread nD τ).loc b) ↦{fullShare} f) := by
  rw [owns_whole_eq]
  iintro ⟨%f, %hf, H⟩
  iexists f
  iexact H

set_option maxHeartbeats 1000000 in
/-- The body at point `t`. -/
theorem sound_body (c : Dev nD) (t : Fin cfg0.N) : bodyPre m c t
    ⊢ wp frame (wpE (defs₀ (F := F)) Variants.none (c : Thread nD τ) none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [show (dats m 0 c).leavesExact 0 t = owns (c : Thread nD τ) (st0_0 t) fullShare ((dats m 0 c).after 0 t) from by
    unfold Dat.leavesExact; rw [show cfg0.idle 0 (grid0.coords t) = false from rfl], after0_0]
  rw [show (dats m 0 c).leavesExact 1 t = owns (c : Thread nD τ) (st0_1 t) fullShare ((dats m 0 c).after 1 t) from by
    unfold Dat.leavesExact; rw [show cfg0.idle 1 (grid0.coords t) = false from rfl], after0_1]
  rw [show (dats m 0 c).leavesExact 2 t = owns (c : Thread nD τ) (st0_2 t) fullShare ((dats m 0 c).after 2 t) from by
    unfold Dat.leavesExact; rw [show cfg0.idle 2 (grid0.coords t) = false from rfl], after0_2]
  rw [show (dats m 0 c).leavesExact 3 t = owns (c : Thread nD τ) (st0_3 t) fullShare ((dats m 0 c).after 3 t) from by
    unfold Dat.leavesExact; rw [show cfg0.idle 3 (grid0.coords t) = false from rfl], after0_3]
  unfold Pipeline.ΦA
  rw [scopedRest0_eq]
  iintro ⟨⟨⟨S0, S1, S2, S3, S4, S5⟩, Hg⟩, Ho, ⟨%d0, H0⟩, ⟨%d1, H1⟩, ⟨%d2, H2⟩, ⟨%d3, H3⟩⟩
  ihave ⟨%s0, S0⟩ := (scratch_held (F := F) c cc0_scratch0) $$ S0
  ihave ⟨%s1, S1⟩ := (scratch_held (F := F) c cc0_scratch1) $$ S1
  ihave ⟨%s2, S2⟩ := (scratch_held (F := F) c cc0_scratch2) $$ S2
  ihave ⟨%s3, S3⟩ := (scratch_held (F := F) c cc0_scratch3) $$ S3
  ihave ⟨%s4, S4⟩ := (scratch_held (F := F) c cc0_scratch4) $$ S4
  ihave ⟨%s5, S5⟩ := (scratch_held (F := F) c cc0_scratch5) $$ S5
  iapply (body_run (F := F) c (grid0.coords t) _ _ _ _ _ _ _ _ _ _ _ _ _ _ _ _ _ _ _ _ (iblk m c 0 t) (iblk m c 1 t) (iblk m c 2 t) _ ⟨s0, s1, s2, s3, s4, s5⟩ _)
  unfold held
  isplitl [S0 S1 S2 S3 S4 S5 H0 H1 H2 H3]
  · isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    isplitl [S4]; · iexact S4
    iexact S5
  iintro ⟨H0, H1, H2, H3, S0, S1, S2, S3, S4, S5⟩
  isplitl [S0 S1 S2 S3 S4 S5 Hg]
  · isplitl [S0 S1 S2 S3 S4 S5]
    · isplitl [S0]; · iapply (held_scratch (F := F) c cc0_scratch0 _); iexact S0
      isplitl [S1]; · iapply (held_scratch (F := F) c cc0_scratch1 _); iexact S1
      isplitl [S2]; · iapply (held_scratch (F := F) c cc0_scratch2 _); iexact S2
      isplitl [S3]; · iapply (held_scratch (F := F) c cc0_scratch3 _); iexact S3
      isplitl [S4]; · iapply (held_scratch (F := F) c cc0_scratch4 _); iexact S4
      iapply (held_scratch (F := F) c cc0_scratch5 _); iexact S5
    iexact Hg
  isplitl [Ho]; · iexact Ho
  isplitl [H0]; · iexact H0
  isplitl [H1]; · iexact H1
  isplitl [H2]; · iexact H2
  iexact H3

/-- The body as the pipeline calls it at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end at what the proof data says, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every execution ends, the argument arrays are unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.MlaIdeal.Body

end
-- ==== Proof.Softmax.lean ====
/-
  The arithmetic of one row of attention, on the extended reals.

  A row has real scores `S j` and values `V j` that may be anything. The plain formula weighs value `j` by
  `2 ^ (S j - M)` over the sum of all these powers, `M` the largest score. The tiled one walks over the scores 512 at a
  time and keeps the largest score so far, a sum of powers per lane and a weighted sum of the values, and rescales the
  two sums whenever the maximum grows. Both come to `attend S V`, in which no maximum occurs.
-/
module

public import Idealize.ShloMosaic.PureOps.Ideal
public import Idealize.ShloMosaic.Lib.IdealHost

@[expose] public section

noncomputable section

namespace Cert.Softmax

open Idealize.ShloMosaic Finset

/-- The weight of value `j` among `N`: its power of two over the sum of all `N` powers. -/
def weight (N : ℕ) (S : ℕ → ℝ) (j : ℕ) : ℝ := (2 : ℝ) ^ S j / ∑ i ∈ range N, (2 : ℝ) ^ S i

/-- The attention of one row: the values' sum, each with its weight. -/
def attend (N : ℕ) (S : ℕ → ℝ) (V : ℕ → EReal) : EReal := ∑ j ∈ range N, (weight N S j : EReal) * V j

/-! ## Sums -/

/-- A nonnegative real goes into a sum of extended reals. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih => rw [sum_insert ha, sum_insert ha, EReal.left_distrib_of_nonneg_of_ne_top (by exact_mod_cast hc) (EReal.coe_ne_top c), ih]

/-- The coercion of a real sum. -/
theorem real_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over `n` tiles of `w`, tile by tile. -/
theorem sum_tiles {M : Type*} [AddCommMonoid M] (w n : ℕ) (f : ℕ → M) :
    ∑ j ∈ range (w * n), f j = ∑ t ∈ range n, ∑ k : Fin w, f (w * t + k.val) := by
  induction n with
  | zero => simp
  | succ n ih => rw [Nat.mul_succ, sum_range_succ _ n, ← ih, sum_range_add, Finset.sum_range (fun x => f (w * n + x))]

/-! ## Powers -/

/-- Two to a real difference. -/
theorem exp2_sub (x y : ℝ) : Ideal.exp2 ((x : EReal) - (y : EReal)) = ((2 : ℝ) ^ (x - y) : ℝ) := by
  rw [← EReal.coe_sub, Ideal.exp2_coe]; rfl

/-- The host's power of two, at a real difference. -/
theorem pow_two_sub (x y : ℝ) : Ideal.pow ((2 : ℝ) : EReal) ((x : EReal) - (y : EReal)) = ((2 : ℝ) ^ (x - y) : ℝ) := by
  rw [← EReal.coe_sub, Ideal.pow_coe_coe]; rfl

/-- Rescaling by `2 ^ (μ - μ')` replaces the one maximum by the other. -/
theorem rescale (μ μ' x : ℝ) : (2 : ℝ) ^ (μ - μ') * (2 : ℝ) ^ (x - μ) = (2 : ℝ) ^ (x - μ') := by
  rw [← Real.rpow_add (by norm_num)]; congr 1; ring

theorem two_pow_pos (x : ℝ) : 0 < (2 : ℝ) ^ x := Real.rpow_pos_of_pos (by norm_num) x

/-- The weight does not depend on a score subtracted from all of them. -/
theorem weight_shift (N : ℕ) (S : ℕ → ℝ) (μ : ℝ) (j : ℕ) :
    (2 : ℝ) ^ (S j - μ) / ∑ i ∈ range N, (2 : ℝ) ^ (S i - μ) = weight N S j := by
  have h : ∀ x : ℝ, (2 : ℝ) ^ (x - μ) = (2 : ℝ) ^ x / (2 : ℝ) ^ μ := fun x => Real.rpow_sub (by norm_num) x μ
  simp only [h, ← Finset.sum_div, weight]
  exact div_div_div_cancel_right₀ (two_pow_pos μ).ne' _ _

/-- The sum of the powers is positive. -/
theorem sum_pow_pos (N : ℕ) (hN : 0 < N) (S : ℕ → ℝ) (μ : ℝ) : 0 < ∑ i ∈ range N, (2 : ℝ) ^ (S i - μ) :=
  sum_pos (fun i _ => two_pow_pos _) ⟨0, mem_range.mpr hN⟩

/-! ## Maxima -/

/-- The largest of finitely many reals, folded from `⊥`, is a real. -/
theorem fold_max_coe {ι : Type*} [Fintype ι] [Nonempty ι] (f : ι → ℝ) :
    ∃ β : ℝ, (univ : Finset ι).fold max (⊥ : EReal) (fun i => (f i : EReal)) = (β : EReal) := by
  have ht : (univ : Finset ι).fold max (⊥ : EReal) (fun i => (f i : EReal)) < ⊤ :=
    (fold_max_lt _).mpr ⟨bot_lt_top, fun i _ => EReal.coe_lt_top _⟩
  have hb : ⊥ < (univ : Finset ι).fold max (⊥ : EReal) (fun i => (f i : EReal)) :=
    (lt_fold_max _).mpr (.inr ⟨Classical.arbitrary ι, mem_univ _, EReal.bot_lt_coe _⟩)
  exact ⟨_, (EReal.coe_toReal ht.ne hb.ne').symm⟩

/-! ## The plain formula -/

/-- The plain formula: powers of the scores less their maximum, divided by their sum, as weights. -/
theorem plain (N : ℕ) (hN : 0 < N) (S : ℕ → ℝ) (V : ℕ → EReal) (s v : Fin N → EReal)
    (hs : ∀ j, s j = (S j.val : EReal)) (hv : ∀ j, v j = V j.val) :
    (∑ j : Fin N, v j * Ideal.div (Ideal.pow ((2 : ℝ) : EReal) (s j - univ.fold max (⊥ : EReal) s))
      (∑ i : Fin N, Ideal.pow ((2 : ℝ) : EReal) (s i - univ.fold max (⊥ : EReal) s))) = attend N S V := by
  haveI : Nonempty (Fin N) := ⟨⟨0, hN⟩⟩
  obtain ⟨β, hβ⟩ := fold_max_coe fun j : Fin N => S j.val
  have hs' : s = fun j : Fin N => (S j.val : EReal) := funext hs
  subst hs'
  rw [hβ]
  simp only [pow_two_sub]
  rw [← real_sum univ fun i : Fin N => (2 : ℝ) ^ (S i.val - β), ← Finset.sum_range fun i => (2 : ℝ) ^ (S i - β), attend,
    Finset.sum_range fun j => (weight N S j : EReal) * V j]
  refine Finset.sum_congr rfl fun j _ => ?_
  rw [Ideal.div_coe (sum_pow_pos N hN S β).ne', ← EReal.coe_mul, mul_one_div, weight_shift, hv, mul_comm]

/-! ## The tiled formula -/

/-- A row's three buffers after `n` tiles of 512 scores: for some real `μ`, the maximum buffer is `μ` (or `⊥` before the
    first tile), lane `c` of the sum buffer adds `2 ^ (S j - μ)` over the `j` of that lane, and the weighted sums are
    those of the values seen so far. -/
def Row (S : ℕ → ℝ) (V : Fin 128 → ℕ → EReal) (n : ℕ) (m l a : Fin 128 → EReal) : Prop :=
  ∃ μ : ℝ, (∀ c, m c = if n = 0 then ⊥ else (μ : EReal))
    ∧ (∀ c, l c = ((∑ t ∈ range (4 * n), (2 : ℝ) ^ (S (128 * t + c.val) - μ) : ℝ) : EReal))
    ∧ ∀ d, a d = ∑ j ∈ range (512 * n), (((2 : ℝ) ^ (S j - μ) : ℝ) : EReal) * V d j

/-- Before the first tile. -/
theorem row_start (S : ℕ → ℝ) (V : Fin 128 → ℕ → EReal) (m l a : Fin 128 → EReal) (hm : ∀ c, m c = ⊥) (hl : ∀ c, l c = 0)
    (ha : ∀ c, a c = 0) : Row S V 0 m l a :=
  ⟨0, fun c => by rw [hm, if_pos rfl], fun c => by rw [hl]; simp, fun d => by rw [ha]; simp⟩

/-- One tile. -/
theorem row_step (S : ℕ → ℝ) (V : Fin 128 → ℕ → EReal) (n : ℕ) (m l a m' l' a' : Fin 128 → EReal) (h : Row S V n m l a)
    (s : Fin 512 → EReal) (vb : Fin 512 → Fin 128 → EReal)
    (hs : ∀ j, s j = (S (512 * n + j.val) : EReal)) (hv : ∀ j d, vb j d = V d (512 * n + j.val))
    (hm' : ∀ c, m' c = max (m c) (univ.fold max (⊥ : EReal) s))
    (p : Fin 512 → EReal) (hp : ∀ j, ∃ c, p j = Ideal.exp2 (s j - m' c))
    (hl' : ∀ c : Fin 128, l' c = Ideal.exp2 (m c - m' c) * l c
      + (p ⟨c.val, by omega⟩ + p ⟨128 + c.val, by omega⟩ + p ⟨256 + c.val, by omega⟩ + p ⟨384 + c.val, by omega⟩))
    (ha' : ∀ d, a' d = Ideal.exp2 (m d - m' d) * a d + ∑ j : Fin 512, p j * vb j d) :
    Row S V (n + 1) m' l' a' := by
  obtain ⟨μ, hm, hl, ha⟩ := h
  obtain ⟨β, hβ⟩ := fold_max_coe fun j : Fin 512 => S (512 * n + j.val)
  have hs' : s = fun j : Fin 512 => (S (512 * n + j.val) : EReal) := funext hs
  have hmax : ∃ μ' : ℝ, ∀ c, m' c = (μ' : EReal) := by
    by_cases hn : n = 0
    · exact ⟨β, fun c => by rw [hm', hm, if_pos hn, hs', hβ]; exact max_eq_right bot_le⟩
    · exact ⟨max μ β, fun c => by rw [hm', hm, if_neg hn, hs', hβ]; exact (EReal.coe_strictMono.monotone.map_max).symm⟩
  obtain ⟨μ', hμ'⟩ := hmax
  have hp' : ∀ j, p j = (((2 : ℝ) ^ (S (512 * n + j.val) - μ') : ℝ) : EReal) := fun j => by
    obtain ⟨c, hc⟩ := hp j
    rw [hc, hμ', hs, exp2_sub]
  have hα : ∀ c, n ≠ 0 → Ideal.exp2 (m c - m' c) = (((2 : ℝ) ^ (μ - μ') : ℝ) : EReal) := fun c hn => by
    rw [hm, if_neg hn, hμ', exp2_sub]
  refine ⟨μ', fun c => by rw [hμ', if_neg (Nat.succ_ne_zero n)], fun c => ?_, fun d => ?_⟩
  · have hold : Ideal.exp2 (m c - m' c) * l c
        = ((∑ t ∈ range (4 * n), (2 : ℝ) ^ (S (128 * t + c.val) - μ') : ℝ) : EReal) := by
      by_cases hn : n = 0
      · rw [hl, hn]; simp
      · rw [hα c hn, hl, ← EReal.coe_mul, mul_sum]
        simp only [rescale]
    rw [hl', hold]
    simp only [hp']
    rw [← EReal.coe_add, ← EReal.coe_add, ← EReal.coe_add, ← EReal.coe_add,
      show 4 * (n + 1) = 4 * n + 1 + 1 + 1 + 1 from by ring, sum_range_succ, sum_range_succ, sum_range_succ, sum_range_succ,
      show 128 * (4 * n) + c.val = 512 * n + c.val from by ring,
      show 128 * (4 * n + 1) + c.val = 512 * n + (128 + c.val) from by ring,
      show 128 * (4 * n + 1 + 1) + c.val = 512 * n + (256 + c.val) from by ring,
      show 128 * (4 * n + 1 + 1 + 1) + c.val = 512 * n + (384 + c.val) from by ring]
    congr 1
    ring
  · have hold : Ideal.exp2 (m d - m' d) * a d = ∑ j ∈ range (512 * n), (((2 : ℝ) ^ (S j - μ') : ℝ) : EReal) * V d j := by
      by_cases hn : n = 0
      · rw [ha, hn]; simp
      · rw [hα d hn, ha, coe_mul_sum _ (two_pow_pos _).le]
        refine sum_congr rfl fun j _ => ?_
        rw [← mul_assoc, ← EReal.coe_mul, rescale]
    rw [ha', hold, Nat.mul_succ, sum_range_add]
    congr 1
    rw [Finset.sum_range]
    exact sum_congr rfl fun j _ => by rw [hp', hv]

/-- After `n ≥ 1` tiles, the weighted sum over the sum of the lanes is the attention over the scores seen. -/
theorem row_end (S : ℕ → ℝ) (V : Fin 128 → ℕ → EReal) (n : ℕ) (hn : 0 < n) (m l a : Fin 128 → EReal) (h : Row S V n m l a)
    (d : Fin 128) : Ideal.div (a d) (∑ c : Fin 128, l c) = attend (512 * n) S (V d) := by
  obtain ⟨μ, -, hl, ha⟩ := h
  have hsum : ∑ c : Fin 128, l c = ((∑ j ∈ range (512 * n), (2 : ℝ) ^ (S j - μ) : ℝ) : EReal) := by
    simp only [hl]
    rw [← real_sum, sum_comm, show 512 * n = 128 * (4 * n) from by ring,
      sum_tiles 128 (4 * n) fun j => (2 : ℝ) ^ (S j - μ)]
  rw [hsum, Ideal.div_coe (sum_pow_pos _ (by omega) S μ).ne', ha, mul_comm,
    coe_mul_sum _ (one_div_pos.mpr (sum_pow_pos _ (by omega) S μ)).le, attend]
  refine sum_congr rfl fun j _ => ?_
  rw [← mul_assoc, ← EReal.coe_mul, one_div_mul_eq_div, weight_shift]

end Cert.Softmax

end
-- ==== Proof.MlaIdealRows.lean ====
/-
  What `MlaIdeal`'s body computes on a block, read at an index over the extended reals.

  Each row of a head runs through the tiled softmax of `Softmax`: `rows1` and `rows2` say that the head's three scratch
  buffers are, row by row, in the state that `Softmax.Row` describes, and `result_apply` reads the stored block off it.
-/
module

public import proofs.«01_k».proof.Proof.MlaIdealBody
public import proofs.«01_k».proof.Proof.Softmax
public import Idealize.ShloMosaic.Lib.Pointwise

@[expose] public section

noncomputable section

namespace Cert.MlaIdeal.Rows

open Cert.MlaIdeal Cert.MlaIdeal.Gen Cert.MlaIdeal.Body Cert.Softmax
open Idealize.ShloMosaic Finset

/-! ## One trip of one head -/

/-- Minus infinity's bits read as `⊥`. -/
theorem neg_inf : Ideal.ofBits .f32 0xFF800000#32 = ⊥ := by simp [Ideal.ofBits, Ideal.ieee]

section Head

variable (v1 : FVec Ideal S256x128 .bf16) (kb vb : Vec Ideal S1x512x128 .bf16) (m l a : Vec Ideal S256x128 .f32) (r : Fin 256)

/-- The scores of a tile. -/
theorem scores_apply (j : Fin 512) : k0_pay4 v1 kb (ix2 r j) = ∑ x : Fin 128, v1 (ix2 r x) * kb (ix3 0 j x) := by
  pointwise [k0_pay4]

/-- The new maximum. -/
theorem max_apply (c : Fin 128) : k0_pay5 v1 kb m (ix2 r c)
    = max (m (ix2 r c)) (univ.fold max (⊥ : EReal) fun j : Fin 512 => k0_pay4 v1 kb (ix2 r j)) := by
  pointwise [k0_pay5]
  rw [neg_inf]

/-- The powers of a tile: each against some lane's new maximum. -/
theorem power_apply (j : Fin 512) :
    ∃ c : Fin 128, k0_pay7 v1 kb m (ix2 r j) = Ideal.exp2 (k0_pay4 v1 kb (ix2 r j) - k0_pay5 v1 kb m (ix2 r c)) := by
  pointwise [k0_pay7]
  split
  · exact ⟨_, rfl⟩
  split
  · exact ⟨_, rfl⟩
  split
  · exact ⟨_, rfl⟩
  exact ⟨_, rfl⟩

/-- The rescaling factor. -/
theorem factor_apply (c : Fin 128) : k0_pay6 v1 kb m (ix2 r c) = Ideal.exp2 (m (ix2 r c) - k0_pay5 v1 kb m (ix2 r c)) := by
  pointwise [k0_pay6]
  rfl

/-- The maximum buffer after the trip. -/
theorem m_apply (c : Fin 128) : k0_pay8 v1 kb m (ix2 r c) = k0_pay5 v1 kb m (ix2 r c) := by
  pointwise [k0_pay8]

/-- The sum buffer after the trip. -/
theorem l_apply (c : Fin 128) : k0_pay9 v1 kb m l (ix2 r c) = k0_pay6 v1 kb m (ix2 r c) * l (ix2 r c)
    + (k0_pay7 v1 kb m (ix2 r ⟨c.val, by omega⟩) + k0_pay7 v1 kb m (ix2 r ⟨128 + c.val, by omega⟩)
      + k0_pay7 v1 kb m (ix2 r ⟨256 + c.val, by omega⟩) + k0_pay7 v1 kb m (ix2 r ⟨384 + c.val, by omega⟩)) := by
  pointwise [k0_pay9]

/-- The weighted sums after the trip. -/
theorem a_apply (d : Fin 128) : k0_pay12 (k0_pay10 v1 kb m a) (k0_pay11 v1 vb kb m) (ix2 r d)
    = k0_pay6 v1 kb m (ix2 r d) * a (ix2 r d) + ∑ j : Fin 512, k0_pay7 v1 kb m (ix2 r j) * vb (ix3 0 j d) := by
  pointwise [k0_pay12, k0_pay10, k0_pay11, k0_pay3]

/-- One trip moves a row one tile on. -/
theorem head_step (S : ℕ → ℝ) (V : Fin 128 → ℕ → EReal) (n : ℕ)
    (h : Row S V n (fun c => m (ix2 r c)) (fun c => l (ix2 r c)) (fun d => a (ix2 r d)))
    (hs : ∀ j : Fin 512, ∑ x : Fin 128, v1 (ix2 r x) * kb (ix3 0 j x) = (S (512 * n + j.val) : EReal))
    (hv : ∀ (j : Fin 512) (d : Fin 128), vb (ix3 0 j d) = V d (512 * n + j.val)) :
    Row S V (n + 1) (fun c => k0_pay8 v1 kb m (ix2 r c)) (fun c => k0_pay9 v1 kb m l (ix2 r c))
      (fun d => k0_pay12 (k0_pay10 v1 kb m a) (k0_pay11 v1 vb kb m) (ix2 r d)) := by
  refine row_step S V n _ _ _ _ _ _ h (fun j => k0_pay4 v1 kb (ix2 r j)) (fun j d => vb (ix3 0 j d))
    (fun j => by rw [scores_apply, hs]) hv (fun c => by rw [m_apply, max_apply]) (fun j => k0_pay7 v1 kb m (ix2 r j))
    (fun j => ?_) (fun c => ?_) fun d => ?_
  · obtain ⟨c, hc⟩ := power_apply v1 kb m r j
    exact ⟨c, by rw [hc, m_apply]⟩
  · rw [l_apply, factor_apply, m_apply]
  · rw [a_apply, factor_apply, m_apply]

end Head

/-! ## The loop -/

variable (X3 : Vec Ideal S1x256x256 .bf16) (X4 : Vec Ideal S1x8192x256 .bf16) (X5 : Vec Ideal S1x8192x128 .bf16)

/-- The scratch before the loop: the maxima at `⊥`, the sums at zero. -/
theorem mask_eq : Named.named (F := Ideal) (φ := .f32) κ "mask" 0xF149F2CA#32 = (⊥ : EReal) := by rfl

theorem trips_eq : k0_t1_loop.trips = 16 := by decide +kernel

theorem vBlk_apply (k : Fin k0_t1_loop.trips) (j : Fin 512) (d : Fin 128) (h : 512 * k.val + j.val < 8192) :
    vBlk X5 k (ix3 0 j d) = X5 (ix3 0 ⟨512 * k.val + j.val, h⟩ d) := by
  pointwise [vBlk]
  congr 1
  funext a; apply Fin.ext
  match a with
  | ⟨0, _⟩ => show k0_off1 k 0 + 0 = 0; rw [k0_off1_eq]; rfl
  | ⟨1, _⟩ => show k0_off1 k 1 + j.val = 512 * k.val + j.val; rw [k0_off1_eq]; rfl
  | ⟨2, _⟩ => show k0_off1 k 2 + d.val = d.val; rw [k0_off1_eq]; exact Nat.zero_add _

theorem kBlk1_apply (k : Fin k0_t1_loop.trips) (j : Fin 512) (x : Fin 128) (h : 512 * k.val + j.val < 8192) :
    kBlk1 X4 k (ix3 0 j x) = X4 (ix3 0 ⟨512 * k.val + j.val, h⟩ ⟨x.val, by omega⟩) := by
  pointwise [kBlk1]
  congr 1
  funext a; apply Fin.ext
  match a with
  | ⟨0, _⟩ => show k0_off2 k 0 + 0 = 0; rw [k0_off2_eq]; rfl
  | ⟨1, _⟩ => show k0_off2 k 1 + j.val = 512 * k.val + j.val; rw [k0_off2_eq]; rfl
  | ⟨2, _⟩ => show k0_off2 k 2 + x.val = x.val; rw [k0_off2_eq]; exact Nat.zero_add _

theorem kBlk2_apply (k : Fin k0_t1_loop.trips) (j : Fin 512) (x : Fin 128) (h : 512 * k.val + j.val < 8192) :
    kBlk2 X4 k (ix3 0 j x) = X4 (ix3 0 ⟨512 * k.val + j.val, h⟩ ⟨128 + x.val, by omega⟩) := by
  pointwise [kBlk2]
  congr 1
  funext a; apply Fin.ext
  match a with
  | ⟨0, _⟩ => show k0_off3 k 0 + 0 = 0; rw [k0_off3_eq]; rfl
  | ⟨1, _⟩ => show k0_off3 k 1 + j.val = 512 * k.val + j.val; rw [k0_off3_eq]; rfl
  | ⟨2, _⟩ => show k0_off3 k 2 + x.val = 128 + x.val; rw [k0_off3_eq]; rfl

theorem q1_apply (r : Fin 256) (x : Fin 128) : q1 X3 (ix2 r x) = X3 (ix3 0 r ⟨x.val, by omega⟩) := by
  pointwise [q1, k0_pay20]

theorem q2_apply (r : Fin 256) (x : Fin 128) : q2 X3 (ix2 r x) = X3 (ix3 0 r ⟨128 + x.val, by omega⟩) := by
  pointwise [q2, k0_pay21]

variable (r : Fin 256) (S : ℕ → ℝ) (V : Fin 128 → ℕ → EReal)

/-- The first head's rows before trip `n`. -/
theorem rows1 (v3 : FVec Ideal S256x128 .bf16)
    (hs : ∀ j : Fin 8192, ∑ x : Fin 128, X3 (ix3 0 r ⟨x.val, by omega⟩) * X4 (ix3 0 j ⟨x.val, by omega⟩) = (S j.val : EReal))
    (hv : ∀ (j : Fin 8192) (d : Fin 128), X5 (ix3 0 j d) = V d j.val) (n : ℕ) (hn : n ≤ 16) :
    Row S V n (fun c => (stateAt (q1 X3) v3 X4 X5 n).m1 (ix2 r c)) (fun c => (stateAt (q1 X3) v3 X4 X5 n).l1 (ix2 r c))
      (fun d => (stateAt (q1 X3) v3 X4 X5 n).a1 (ix2 r d)) := by
  induction n with
  | zero =>
    refine row_start S V _ _ _ (fun c => ?_) (fun c => ?_) fun c => ?_
    · show k0_pay22 (F := Ideal) (ix2 r c) = ⊥
      pointwise [k0_pay22]
      exact mask_eq
    · show k0_pay23 (F := Ideal) (ix2 r c) = 0
      pointwise [k0_pay23]
    · show k0_pay24 (F := Ideal) (ix2 r c) = 0
      pointwise [k0_pay24]
  | succ n ih =>
    have hk : n < k0_t1_loop.trips := by rw [trips_eq]; omega
    rw [show n + 1 = (⟨n, hk⟩ : Fin k0_t1_loop.trips).val + 1 from rfl, stateAt_succ]
    refine head_step (q1 X3) (kBlk1 X4 ⟨n, hk⟩) (vBlk X5 ⟨n, hk⟩) _ _ _ r S V n (ih (by omega)) (fun j => ?_) fun j d => ?_
    · rw [← hs ⟨512 * n + j.val, by omega⟩]
      refine sum_congr rfl fun x _ => ?_
      rw [q1_apply, kBlk1_apply X4 ⟨n, hk⟩ j x (by show 512 * n + j.val < 8192; omega)]
    · rw [vBlk_apply X5 ⟨n, hk⟩ j d (by show 512 * n + j.val < 8192; omega), hv]

/-- The second head's payloads are the first head's. -/
theorem twin_m (v3 : FVec Ideal S256x128 .bf16) (kb : Vec Ideal S1x512x128 .bf16) (m : Vec Ideal S256x128 .f32) :
    k0_pay17 v3 kb m = k0_pay8 v3 kb m := rfl
theorem twin_l (v3 : FVec Ideal S256x128 .bf16) (kb : Vec Ideal S1x512x128 .bf16) (m l : Vec Ideal S256x128 .f32) :
    k0_pay18 v3 kb m l = k0_pay9 v3 kb m l := rfl
theorem twin_a (v3 : FVec Ideal S256x128 .bf16) (kb vb : Vec Ideal S1x512x128 .bf16) (m a : Vec Ideal S256x128 .f32) :
    k0_pay1 (k0_pay19 v3 (k0_pay3 vb) kb m a) = k0_pay12 (k0_pay10 v3 kb m a) (k0_pay11 v3 vb kb m) := rfl

/-- The second head's rows before trip `n`. -/
theorem rows2 (v1 : FVec Ideal S256x128 .bf16)
    (hs : ∀ j : Fin 8192, ∑ x : Fin 128, X3 (ix3 0 r ⟨128 + x.val, by omega⟩) * X4 (ix3 0 j ⟨128 + x.val, by omega⟩) = (S j.val : EReal))
    (hv : ∀ (j : Fin 8192) (d : Fin 128), X5 (ix3 0 j d) = V d j.val) (n : ℕ) (hn : n ≤ 16) :
    Row S V n (fun c => (stateAt v1 (q2 X3) X4 X5 n).m2 (ix2 r c)) (fun c => (stateAt v1 (q2 X3) X4 X5 n).l2 (ix2 r c))
      (fun d => (stateAt v1 (q2 X3) X4 X5 n).a2 (ix2 r d)) := by
  induction n with
  | zero =>
    refine row_start S V _ _ _ (fun c => ?_) (fun c => ?_) fun c => ?_
    · show k0_pay25 (F := Ideal) (ix2 r c) = ⊥
      pointwise [k0_pay25]
      exact mask_eq
    · show k0_pay26 (F := Ideal) (ix2 r c) = 0
      pointwise [k0_pay26]
    · show k0_pay27 (F := Ideal) (ix2 r c) = 0
      pointwise [k0_pay27]
  | succ n ih =>
    have hk : n < k0_t1_loop.trips := by rw [trips_eq]; omega
    rw [show n + 1 = (⟨n, hk⟩ : Fin k0_t1_loop.trips).val + 1 from rfl, stateAt_succ]
    simp only [trip, twin_m, twin_l, twin_a]
    refine head_step (q2 X3) (kBlk2 X4 ⟨n, hk⟩) (vBlk X5 ⟨n, hk⟩) _ _ _ r S V n (ih (by omega)) (fun j => ?_) fun j d => ?_
    · rw [← hs ⟨512 * n + j.val, by omega⟩]
      refine sum_congr rfl fun x _ => ?_
      rw [q2_apply, kBlk2_apply X4 ⟨n, hk⟩ j x (by show 512 * n + j.val < 8192; omega)]
    · rw [vBlk_apply X5 ⟨n, hk⟩ j d (by show 512 * n + j.val < 8192; omega), hv]

/-! ## The stored block -/

/-- Lanes below 64 belong to the first head. -/
theorem lane_lt : ∀ d : Fin 128, IntOp.cmpi .slt (BitVec.ofNat 32 d.val) 64#32 = if d.val < 64 then 1#1 else 0#1 := by
  decide +kernel

/-- The stored block at row `r`, lane `d`: the first head's attention on the first 64 lanes, the second's on the rest. -/
theorem result_apply (S1 S2 : ℕ → ℝ)
    (hs1 : ∀ j : Fin 8192, ∑ x : Fin 128, X3 (ix3 0 r ⟨x.val, by omega⟩) * X4 (ix3 0 j ⟨x.val, by omega⟩) = (S1 j.val : EReal))
    (hs2 : ∀ j : Fin 8192, ∑ x : Fin 128, X3 (ix3 0 r ⟨128 + x.val, by omega⟩) * X4 (ix3 0 j ⟨128 + x.val, by omega⟩) = (S2 j.val : EReal))
    (hv : ∀ (j : Fin 8192) (d : Fin 128), X5 (ix3 0 j d) = V d j.val) (d : Fin 128) :
    result X3 X4 X5 (ix3 0 r d) = attend 8192 (if d.val < 64 then S1 else S2) (V d) := by
  have h1 := row_end S1 V 16 (by omega) _ _ _ (rows1 X3 X4 X5 r S1 V (q2 X3) hs1 hv 16 le_rfl) d
  have h2 := row_end S2 V 16 (by omega) _ _ _ (rows2 X3 X4 X5 r S2 V (q1 X3) hs2 hv 16 le_rfl) d
  unfold result finish
  rw [trips_eq]
  generalize stateAt (q1 X3) (q2 X3) X4 X5 16 = s at h1 h2 ⊢
  pointwise [k0_pay2]
  rw [lane_lt]
  by_cases hd : d.val < 64
  · rw [if_pos hd, if_pos hd]; exact h1
  · rw [if_neg hd, if_neg hd]; exact h2

end Cert.MlaIdeal.Rows

end
-- ==== Proof.MlaIdealValue.lean ====
/-
  The attention's value: the tiled kernel and the plain formula fill their result arrays with one function.

  `attention q k V` is that function, of real queries and keys and any values. `final3` says that the kernel's result array
  is `attention` of its argument arrays; `plain_eq` says so of the plain formula; `algebraic` puts the two together, the
  precondition giving the real queries and keys.
-/
module

public import proofs.«01_k».proof.Proof.MlaIdealRows
public import proofs.«01_k».proof.Proof.Gen.MlaRefIdeal.Run
public import proofs.«01_k».proof.Proof.Gen.Pre_finite_qk
public import proofs.«01_k».proof.Defs
public import Idealize.ShloMosaic.Lib.ReduceAll

@[expose] public section

set_option maxRecDepth 16384

noncomputable section

namespace Cert.MlaIdeal.Value

open Cert.MlaIdeal Cert.MlaIdeal.Gen Cert.MlaIdeal.Body Cert.MlaIdeal.Rows Cert.Softmax
open Idealize.ShloMosaic Idealize.ShloMosaic.TcCoe Idealize.SL.Sem Finset
open Idealize.ShloMosaic.Pipeline (Dat)

/-! ## The function -/

/-- Head `h`'s score of key `j` for query row `r` of batch `b`. -/
def score (q k : S8x8192x1024.Idx → ℝ) (b : Fin 8) (r : Fin 8192) (h : Fin 8) (j : Fin 8192) : ℝ :=
  ∑ x : Fin 128, q (ix3 b r ⟨h.val * 128 + x.val, by omega⟩) * k (ix3 b j ⟨h.val * 128 + x.val, by omega⟩)

/-- The scores as a sequence (zero past the last key). -/
def scores (q k : S8x8192x1024.Idx → ℝ) (b : Fin 8) (r : Fin 8192) (h : Fin 8) (j : ℕ) : ℝ :=
  if hj : j < 8192 then score q k b r h ⟨j, hj⟩ else 0

/-- Column `d` of the values as a sequence (zero past the last key). -/
def column (V : S8x8192x512.Idx → EReal) (b : Fin 8) (d : Fin 512) (j : ℕ) : EReal :=
  if hj : j < 8192 then V (ix3 b ⟨j, hj⟩ d) else 0

/-- The attention at row `r`, column `d` of batch `b`: column `d` belongs to head `d / 64`. -/
def attentionAt (q k : S8x8192x1024.Idx → ℝ) (V : S8x8192x512.Idx → EReal) (b : Fin 8) (r : Fin 8192) (d : Fin 512) : EReal :=
  attend 8192 (scores q k b r ⟨d.val / 64, by omega⟩) (column V b d)

/-- The attention's array. -/
def attention (q k : S8x8192x1024.Idx → ℝ) (V : S8x8192x512.Idx → EReal) : S8x8192x512.Idx → EReal := fun i =>
  attentionAt q k V (i 0) (i 1) (i 2)

/-- A score of real queries and keys, computed on the extended reals. -/
theorem score_coe (q k : S8x8192x1024.Idx → ℝ) (b : Fin 8) (r : Fin 8192) (h : Fin 8) (j : Fin 8192) :
    (∑ x : Fin 128, (q (ix3 b r ⟨h.val * 128 + x.val, by omega⟩) : EReal) * (k (ix3 b j ⟨h.val * 128 + x.val, by omega⟩) : EReal))
      = (scores q k b r h j.val : EReal) := by
  rw [scores, dif_pos j.isLt, score, real_sum]
  simp only [EReal.coe_mul]

/-! ## The kernel's array -/

variable (m : (ℓ : Loc nD τ sig) → Buf (Elt Ideal) ℓ) (ρ : Dev nD → PrngReg)

/-- Where the windows stand at a grid point. -/
theorem windows : ∀ t : Fin cfg0.N,
    win0_0.index t = ![t.val / 128, t.val % 32, t.val / 32 % 4] ∧ win0_1.index t = ![t.val / 128, 0, t.val / 32 % 4]
    ∧ win0_2.index t = ![t.val / 128, 0, t.val / 32 % 4] ∧ win0_3.index t = ![t.val / 128, t.val % 32, t.val / 32 % 4] :=
  (by decide +kernel : ∀ t : Fin grid0.N, _)

theorem points (t : Fin cfg0.N) : t.val < 1024 := t.isLt.trans_eq (by decide +kernel : grid0.N = 1024)

/-- The query block, read at an index. -/
theorem iblk0_apply (c : Dev nD) (t : Fin cfg0.N) (r : Fin 256) (x : Fin 256) :
    (iblk m c 0 t : Vec Ideal S1x256x256 .bf16) (ix3 0 r x) = m ((c : Thread nD τ).loc main_arg0)
      (ix3 ⟨t.val / 128, by have := points t; omega⟩ ⟨t.val % 32 * 256 + r.val, by omega⟩ ⟨t.val / 32 % 4 * 256 + x.val, by omega⟩) := by
  have hi := (windows t).1
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 128; rw [hi]; simp
  | ⟨1, _⟩ => show win0_0.index t 1 * 256 + 1 * r.val = t.val % 32 * 256 + r.val; rw [hi]; simp
  | ⟨2, _⟩ => show win0_0.index t 2 * 256 + 1 * x.val = t.val / 32 % 4 * 256 + x.val; rw [hi]; simp

/-- The key block, read at an index. -/
theorem iblk1_apply (c : Dev nD) (t : Fin cfg0.N) (j : Fin 8192) (x : Fin 256) :
    (iblk m c 1 t : Vec Ideal S1x8192x256 .bf16) (ix3 0 j x) = m ((c : Thread nD τ).loc main_arg1)
      (ix3 ⟨t.val / 128, by have := points t; omega⟩ j ⟨t.val / 32 % 4 * 256 + x.val, by omega⟩) := by
  have hi := (windows t).2.1
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 128; rw [hi]; simp
  | ⟨1, _⟩ => show win0_1.index t 1 * 8192 + 1 * j.val = j.val; rw [hi]; simp
  | ⟨2, _⟩ => show win0_1.index t 2 * 256 + 1 * x.val = t.val / 32 % 4 * 256 + x.val; rw [hi]; simp

/-- The value block, read at an index. -/
theorem iblk2_apply (c : Dev nD) (t : Fin cfg0.N) (j : Fin 8192) (d : Fin 128) :
    (iblk m c 2 t : Vec Ideal S1x8192x128 .bf16) (ix3 0 j d) = m ((c : Thread nD τ).loc main_arg2)
      (ix3 ⟨t.val / 128, by have := points t; omega⟩ j ⟨t.val / 32 % 4 * 128 + d.val, by omega⟩) := by
  have hi := (windows t).2.2.1
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 128; rw [hi]; simp
  | ⟨1, _⟩ => show win0_2.index t 1 * 8192 + 1 * j.val = j.val; rw [hi]; simp
  | ⟨2, _⟩ => show win0_2.index t 2 * 128 + 1 * d.val = t.val / 32 % 4 * 128 + d.val; rw [hi]; simp

section Real

variable (c : Dev nD) (q k : S8x8192x1024.Idx → ℝ)
  (hq : ∀ i, m ((c : Thread nD τ).loc main_arg0) i = (q i : EReal)) (hk : ∀ i, m ((c : Thread nD τ).loc main_arg1) i = (k i : EReal))

include hq hk

/-- The block stored at point `t`, at row `r` and lane `d`. -/
theorem outAt_apply (t : Fin cfg0.N) (r : Fin 256) (d : Fin 128) :
    outAt m c t (ix3 0 r d) = attentionAt q k (m ((c : Thread nD τ).loc main_arg2))
      ⟨t.val / 128, by have := points t; omega⟩ ⟨t.val % 32 * 256 + r.val, by omega⟩ ⟨t.val / 32 % 4 * 128 + d.val, by omega⟩ := by
  have ht := points t
  unfold outAt
  rw [result_apply (iblk m c 0 t) (iblk m c 1 t) (iblk m c 2 t) r
    (fun d : Fin 128 => column (m ((c : Thread nD τ).loc main_arg2)) ⟨t.val / 128, by omega⟩ ⟨t.val / 32 % 4 * 128 + d.val, by omega⟩)
    (scores q k ⟨t.val / 128, by omega⟩ ⟨t.val % 32 * 256 + r.val, by omega⟩ ⟨t.val / 32 % 4 * 2, by omega⟩)
    (scores q k ⟨t.val / 128, by omega⟩ ⟨t.val % 32 * 256 + r.val, by omega⟩ ⟨t.val / 32 % 4 * 2 + 1, by omega⟩)
    (fun j => ?_) (fun j => ?_) (fun j d => ?_)]
  · unfold attentionAt
    congr 1
    split
    · next hd => congr 1; apply Fin.ext; show _ = (t.val / 32 % 4 * 128 + d.val) / 64; simp only []; omega
    · next hd => congr 1; apply Fin.ext; show _ = (t.val / 32 % 4 * 128 + d.val) / 64; simp only []; omega
  · rw [← score_coe]
    refine sum_congr rfl fun x _ => ?_
    rw [iblk0_apply, iblk1_apply, hq, hk]
    have e : t.val / 32 % 4 * 256 + x.val = t.val / 32 % 4 * 2 * 128 + x.val := by omega
    simp only [e]
  · rw [← score_coe]
    refine sum_congr rfl fun x _ => ?_
    rw [iblk0_apply, iblk1_apply, hq, hk]
    have e : t.val / 32 % 4 * 256 + (128 + x.val) = (t.val / 32 % 4 * 2 + 1) * 128 + x.val := by omega
    simp only [e]
  · rw [iblk2_apply, column, dif_pos j.isLt]

/-- What a point writes back is its block of `attention`. -/
theorem flushed3_eq (t : Fin cfg0.N) :
    (dats m 0 c).flushed 3 t = ((cfg0.win 3).blk t).view.read (Elt Ideal)
      (attention q k (m ((c : Thread nD τ).loc main_arg2)) : Buf (Elt Ideal) ((c : Thread nD τ).loc main_v0)) := by
  show (cfg0.win 3).cut (grid0.coords t) ((dats m 0 c).after 3 t) = _
  rw [after0_3]
  have hi := (windows t).2.2.2
  have ht := points t
  funext y
  have hy0 : (y 0).val < 1 := (y 0).isLt
  have hy1 : (y 1).val < 256 := (y 1).isLt
  have hy2 : (y 2).val < 128 := (y 2).isLt
  have hx : (cfg0.win 3).xinj (grid0.coords t) y = (ix3 0 ⟨(y 1).val, hy1⟩ ⟨(y 2).val, hy2⟩ : S1x256x128.Idx) := by
    funext a; apply Fin.ext
    match a with
    | ⟨0, _⟩ => show (y 0).val = 0; omega
    | ⟨1, _⟩ => rfl
    | ⟨2, _⟩ => rfl
  have h0 : ((cfg0.win 3).blk t).view.emb y 0 = (⟨t.val / 128, by omega⟩ : Fin 8) := by
    apply Fin.ext; show win0_3.index t 0 * 1 + 1 * (y 0).val = t.val / 128; rw [hi]; simp
  have h1 : ((cfg0.win 3).blk t).view.emb y 1 = (⟨t.val % 32 * 256 + (y 1).val, by omega⟩ : Fin 8192) := by
    apply Fin.ext; show win0_3.index t 1 * 256 + 1 * (y 1).val = t.val % 32 * 256 + (y 1).val; rw [hi]; simp
  have h2 : ((cfg0.win 3).blk t).view.emb y 2 = (⟨t.val / 32 % 4 * 128 + (y 2).val, by omega⟩ : Fin 512) := by
    apply Fin.ext; show win0_3.index t 2 * 128 + 1 * (y 2).val = t.val / 32 % 4 * 128 + (y 2).val; rw [hi]; simp
  show outAt m c t ((cfg0.win 3).xinj (grid0.coords t) y)
    = attentionAt q k (m ((c : Thread nD τ).loc main_arg2)) (((cfg0.win 3).blk t).view.emb y 0) (((cfg0.win 3).blk t).view.emb y 1)
        (((cfg0.win 3).blk t).view.emb y 2)
  rw [hx, h0, h1, h2, outAt_apply m c q k hq hk]

omit hq hk in
/-- The blocks cover the array. -/
theorem covered (i : S8x8192x512.Idx) : ∃ t : Fin cfg0.N, (cfg0.win 3).flush t = true ∧ i ∈ ((cfg0.win 3).blk t).view.set := by
  have hi0 : (i 0).val < 8 := (i 0).isLt
  have hi1 : (i 1).val < 8192 := (i 1).isLt
  have hi2 : (i 2).val < 512 := (i 2).isLt
  have hN : grid0.N = 1024 := by decide +kernel
  obtain ⟨t, ht⟩ : ∃ t : Fin cfg0.N, t.val = (i 0).val * 128 + (i 2).val / 128 * 32 + (i 1).val / 256 :=
    ⟨⟨(i 0).val * 128 + (i 2).val / 128 * 32 + (i 1).val / 256, by show _ < grid0.N; rw [hN]; omega⟩, rfl⟩
  have hw := (windows t).2.2.2
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [hw]; simp only [Matrix.cons_val_zero]; omega
  | ⟨1, _⟩ =>
    show win0_3.index t 1 * 256 ≤ (i 1).val ∧ (i 1).val < win0_3.index t 1 * 256 + 256
    rw [hw]; simp only [Matrix.cons_val_one, Matrix.cons_val_zero]; omega
  | ⟨2, _⟩ =>
    show win0_3.index t 2 * 128 ≤ (i 2).val ∧ (i 2).val < win0_3.index t 2 * 128 + 128
    rw [hw]; simp only [Matrix.cons_val]; omega

/-- The kernel's result array. -/
theorem final3 : (dats m 0 c).arrAt 3 cfg0.N = (attention q k (m ((c : Thread nD τ).loc main_arg2)) : Buf (Elt Ideal) ((c : Thread nD τ).loc main_v0)) :=
  (dats m 0 c).arrAt_eq_of_cover 3 _ (fun t _ => flushed3_eq m c q k hq hk t) fun i => covered i

end Real

/-- The kernel's run: the result array at `attention`, the arguments unchanged. -/
theorem run (q k : Dev nD → S8x8192x1024.Idx → ℝ)
    (hq : ∀ (c : Dev nD) i, m ((c : Thread nD τ).loc main_arg0) i = (q c i : EReal)) (hk : ∀ (c : Dev nD) i, m ((c : Thread nD τ).loc main_arg1) i = (k c i : EReal)) :
    θ_run defs (onTc (τ := τ) (main (F := Ideal))) ⟨m, fun _ => 0, ρ⟩ fun r => ∀ c : Dev nD,
      r.2.mem ((c.tc : Thread nD τ).loc main_v0) = (attention (q c) (k c) (m ((c.tc : Thread nD τ).loc main_arg2)) : Buf (Elt Ideal) ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c (q c) (k c) (hq c) (hk c)),
      ((h c).1 0).trans ((dats m 0 c).arrAt_in 0 rfl _), ((h c).1 1).trans ((dats m 0 c).arrAt_in 1 rfl _),
      ((h c).1 2).trans ((dats m 0 c).arrAt_in 2 rfl _)⟩) (run_main m ρ)

end Cert.MlaIdeal.Value

end
-- ==== Proof.MlaRefRead.lean ====
/-
  The plain formula's result, read at an index: scores, powers of two of the scores less their maximum, their sum, and the
  values' sum with the quotients as weights.
-/
module

public import proofs.«01_k».proof.Proof.Gen.MlaRefIdeal.Run
public import Idealize.ShloMosaic.Lib.Pointwise

@[expose] public section

noncomputable section

namespace Cert.MlaRefIdeal.Read

open Idealize.ShloMosaic Cert.MlaRefIdeal Cert.MlaRefIdeal.Gen

/-- Head `d / 64`'s score of key `j`, as the plain formula adds it up. -/
def dotAt (x y : FVec Ideal S8x8192x1024 .bf16) (b : Fin 8) (r : Fin 8192) (d : Fin 512) (j : Fin 8192) : EReal :=
  ∑ t : Fin 128, x (ix3 b r ⟨d.val / 64 * 128 + t.val, by omega⟩) * y (ix3 b j ⟨d.val / 64 * 128 + t.val, by omega⟩)

/-- `dotAt` as a function of the key. -/
theorem dotAt_eq (x y : FVec Ideal S8x8192x1024 .bf16) (b : Fin 8) (r : Fin 8192) (d : Fin 512) : dotAt x y b r d
    = fun j => ∑ t : Fin 128, x (ix3 b r ⟨d.val / 64 * 128 + t.val, by omega⟩) * y (ix3 b j ⟨d.val / 64 * 128 + t.val, by omega⟩) := rfl

/-- The plain formula at an index. -/
theorem read (x y : FVec Ideal S8x8192x1024 .bf16) (z : FVec Ideal S8x8192x512 .bf16) (b : Fin 8) (r : Fin 8192) (d : Fin 512) :
    (truncf .bf16 (shapeCast _ (transpose S8x8192x8x64 [0, 3, 1, 2] (Host.dotGeneral dot_S8x8192x8x64_S8x8x8192x8192_S8x8x64x8192_1_3_3_2_02_01 none (shapeCast _ (extf .f32 z bitsLt_bf16_f32) shapeCasts_S8x8192x512_S8x8192x8x64) (Host.divf (Host.powf (broadcastInDim S8x8x8192x8192 ![] bcast_S_S8x8x8192x8192 (constant S_ .f32 0x40000000#32)) (subf (Host.dotGeneral dot_S8x8192x8x128_S8x8192x8x128_S8x8x8192x8192_3_3_1_1_02_02 none (shapeCast _ (extf .f32 x bitsLt_bf16_f32) shapeCasts_S8x8192x1024_S8x8192x8x128) (shapeCast _ (extf .f32 y bitsLt_bf16_f32) shapeCasts_S8x8192x1024_S8x8192x8x128)) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduce FloatOps.maximumf (Host.dotGeneral dot_S8x8192x8x128_S8x8192x8x128_S8x8x8192x8192_3_3_1_1_02_02 none (shapeCast _ (extf .f32 x bitsLt_bf16_f32) shapeCasts_S8x8192x1024_S8x8192x8x128) (shapeCast _ (extf .f32 y bitsLt_bf16_f32) shapeCasts_S8x8192x1024_S8x8192x8x128)) (constant S_ .f32 0xFF800000#32) reducesTo_S8x8x8192x8192_S8x8x8192_d3 h_S_))))) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduceAdd (Host.powf (broadcastInDim S8x8x8192x8192 ![] bcast_S_S8x8x8192x8192 (constant S_ .f32 0x40000000#32)) (subf (Host.dotGeneral dot_S8x8192x8x128_S8x8192x8x128_S8x8x8192x8192_3_3_1_1_02_02 none (shapeCast _ (extf .f32 x bitsLt_bf16_f32) shapeCasts_S8x8192x1024_S8x8192x8x128) (shapeCast _ (extf .f32 y bitsLt_bf16_f32) shapeCasts_S8x8192x1024_S8x8192x8x128)) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduce FloatOps.maximumf (Host.dotGeneral dot_S8x8192x8x128_S8x8192x8x128_S8x8x8192x8192_3_3_1_1_02_02 none (shapeCast _ (extf .f32 x bitsLt_bf16_f32) shapeCasts_S8x8192x1024_S8x8192x8x128) (shapeCast _ (extf .f32 y bitsLt_bf16_f32) shapeCasts_S8x8192x1024_S8x8192x8x128)) (constant S_ .f32 0xFF800000#32) reducesTo_S8x8x8192x8192_S8x8x8192_d3 h_S_))))) (constant S_ .f32 0x00000000#32) reducesTo_S8x8x8192x8192_S8x8x8192_d3 h_S_))))) transposes_S8x8x64x8192_S8x8192x8x64_0_3_1_2) shapeCasts_S8x8192x8x64_S8x8192x512) bitsLt_bf16_f32) (ix3 b r d)
    = ∑ j : Fin 8192, z (ix3 b j d) * Ideal.div (Ideal.pow (Ideal.ofBits .f32 0x40000000#32)
        (dotAt x y b r d j - Finset.univ.fold max (Ideal.ofBits .f32 0xFF800000#32) (dotAt x y b r d)))
      (∑ i : Fin 8192, Ideal.pow (Ideal.ofBits .f32 0x40000000#32)
        (dotAt x y b r d i - Finset.univ.fold max (Ideal.ofBits .f32 0xFF800000#32) (dotAt x y b r d))) := by
  generalize hA : (∑ j : Fin 8192, z (ix3 b j d) * Ideal.div (Ideal.pow (Ideal.ofBits .f32 0x40000000#32)
        (dotAt x y b r d j - Finset.univ.fold max (Ideal.ofBits .f32 0xFF800000#32) (dotAt x y b r d)))
      (∑ i : Fin 8192, Ideal.pow (Ideal.ofBits .f32 0x40000000#32)
        (dotAt x y b r d i - Finset.univ.fold max (Ideal.ofBits .f32 0xFF800000#32) (dotAt x y b r d)))) = A
  pointwise
  rw [← hA]
  simp only [dotAt_eq]

end Cert.MlaRefIdeal.Read

end
-- ==== Proof.MlaClaims.lean ====
/-
  The attention's claims: the plain formula's array is `attention` too, the precondition makes queries and keys real, and
  with both the kernel and the plain formula end with equal results.
-/
module

public import proofs.«01_k».proof.Proof.MlaIdealValue
public import proofs.«01_k».proof.Proof.MlaRefRead
public import proofs.«01_k».proof.Proof.MlaBody
public import proofs.«01_k».proof.Proof.Gen.Mla.Frame

@[expose] public section

noncomputable section

namespace Cert.Proof.MlaClaims

open Idealize.ShloMosaic Idealize.ShloMosaic.TcCoe Idealize.SL.Sem Finset
open Cert.MlaIdeal.Value Cert.Softmax

/-! ## The precondition -/

/-- An extended real whose absolute value is below `⊤` is a real. -/
theorem real_of_abs_lt (x : EReal) (h : max x (-x) < ⊤) : ∃ r : ℝ, x = (r : EReal) := by
  have h1 := (max_lt_iff.mp h).1
  have h2 := (max_lt_iff.mp h).2
  refine ⟨x.toReal, (EReal.coe_toReal h1.ne fun hb => ?_).symm⟩
  rw [hb, EReal.neg_bot] at h2
  exact lt_irrefl _ h2

/-- Infinity's bits read as `⊤`. -/
theorem pos_inf : Ideal.ofBits .bf16 0x7F80#16 = ⊤ := by simp [Ideal.ofBits, Ideal.ieee]

/-- One comparison of the precondition. -/
theorem real_of_cmp (x : EReal) (h : Ideal.cmp .olt (max x (-x)) ⊤ = 1#1) : ∃ r : ℝ, x = (r : EReal) := by
  refine real_of_abs_lt x ?_
  by_contra hn
  simp [Ideal.cmp, hn] at h

/-- The precondition: every query and every key is a real. -/
theorem real_of_pre (x y : Vec Ideal Cert.Pre_finite_qk.S8x8192x1024 .bf16) (z : Vec Ideal Cert.Pre_finite_qk.S8x8192x512 .bf16)
    (h : Cert.Pre_finite_qk.fn (F := Ideal) x y z = fun _ => 1#1) :
    (∀ i, ∃ r : ℝ, x i = (r : EReal)) ∧ ∀ i, ∃ r : ℝ, y i = (r : EReal) := by
  have hj := congrFun h (fun a => a.elim0)
  unfold Cert.Pre_finite_qk.fn at hj
  haveI : Subsingleton Cert.Pre_finite_qk.S_.Idx := ⟨fun a b => funext fun i => i.elim0⟩
  have hand : ∀ p q : BitVec 1, IntOp.andi p q = 1#1 → p = 1#1 ∧ q = 1#1 := by decide
  obtain ⟨hx, hy⟩ := hand _ _ hj
  constructor
  · intro i
    have hi := Host.reduce_andi_all _ _ _ _ _ hx i
    refine real_of_cmp (x i) ?_
    rw [← pos_inf]
    exact hi
  · intro i
    have hi := Host.reduce_andi_all _ _ _ _ _ hy i
    refine real_of_cmp (y i) ?_
    rw [← pos_inf]
    exact hi

/-! ## The plain formula -/

/-- Two's bits. -/
theorem two_bits : Ideal.ofBits .f32 0x40000000#32 = ((2 : ℝ) : EReal) := by
  simp [Ideal.ofBits, Ideal.ieee]
  norm_cast
  norm_num

section Plain

open Cert.MlaRefIdeal Cert.MlaRefIdeal.Gen

/-- The plain formula's array, of real queries and keys. -/
theorem plain_eq (x y : FVec Ideal S8x8192x1024 .bf16) (z : FVec Ideal S8x8192x512 .bf16) (q k : S8x8192x1024.Idx → ℝ)
    (hq : ∀ i, x i = (q i : EReal)) (hk : ∀ i, y i = (k i : EReal)) :
    truncf .bf16 (shapeCast _ (transpose S8x8192x8x64 [0, 3, 1, 2] (Host.dotGeneral dot_S8x8192x8x64_S8x8x8192x8192_S8x8x64x8192_1_3_3_2_02_01 none (shapeCast _ (extf .f32 z bitsLt_bf16_f32) shapeCasts_S8x8192x512_S8x8192x8x64) (Host.divf (Host.powf (broadcastInDim S8x8x8192x8192 ![] bcast_S_S8x8x8192x8192 (constant S_ .f32 0x40000000#32)) (subf (Host.dotGeneral dot_S8x8192x8x128_S8x8192x8x128_S8x8x8192x8192_3_3_1_1_02_02 none (shapeCast _ (extf .f32 x bitsLt_bf16_f32) shapeCasts_S8x8192x1024_S8x8192x8x128) (shapeCast _ (extf .f32 y bitsLt_bf16_f32) shapeCasts_S8x8192x1024_S8x8192x8x128)) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduce FloatOps.maximumf (Host.dotGeneral dot_S8x8192x8x128_S8x8192x8x128_S8x8x8192x8192_3_3_1_1_02_02 none (shapeCast _ (extf .f32 x bitsLt_bf16_f32) shapeCasts_S8x8192x1024_S8x8192x8x128) (shapeCast _ (extf .f32 y bitsLt_bf16_f32) shapeCasts_S8x8192x1024_S8x8192x8x128)) (constant S_ .f32 0xFF800000#32) reducesTo_S8x8x8192x8192_S8x8x8192_d3 h_S_))))) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduceAdd (Host.powf (broadcastInDim S8x8x8192x8192 ![] bcast_S_S8x8x8192x8192 (constant S_ .f32 0x40000000#32)) (subf (Host.dotGeneral dot_S8x8192x8x128_S8x8192x8x128_S8x8x8192x8192_3_3_1_1_02_02 none (shapeCast _ (extf .f32 x bitsLt_bf16_f32) shapeCasts_S8x8192x1024_S8x8192x8x128) (shapeCast _ (extf .f32 y bitsLt_bf16_f32) shapeCasts_S8x8192x1024_S8x8192x8x128)) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduce FloatOps.maximumf (Host.dotGeneral dot_S8x8192x8x128_S8x8192x8x128_S8x8x8192x8192_3_3_1_1_02_02 none (shapeCast _ (extf .f32 x bitsLt_bf16_f32) shapeCasts_S8x8192x1024_S8x8192x8x128) (shapeCast _ (extf .f32 y bitsLt_bf16_f32) shapeCasts_S8x8192x1024_S8x8192x8x128)) (constant S_ .f32 0xFF800000#32) reducesTo_S8x8x8192x8192_S8x8x8192_d3 h_S_))))) (constant S_ .f32 0x00000000#32) reducesTo_S8x8x8192x8192_S8x8x8192_d3 h_S_))))) transposes_S8x8x64x8192_S8x8192x8x64_0_3_1_2) shapeCasts_S8x8192x8x64_S8x8192x512) bitsLt_bf16_f32 = attention q k z := by
  funext i
  obtain ⟨b, r, d, rfl⟩ : ∃ (b : Fin 8) (r : Fin 8192) (d : Fin 512), i = ix3 b r d := ⟨i 0, i 1, i 2, by
    funext a; match a with | ⟨0, _⟩ => rfl | ⟨1, _⟩ => rfl | ⟨2, _⟩ => rfl⟩
  have e : attention q k z (ix3 b r d) = attentionAt q k z b r d := rfl
  rw [e, Cert.MlaRefIdeal.Read.read, two_bits, Cert.MlaIdeal.Rows.neg_inf]
  exact plain 8192 (by omega) (scores q k b r ⟨d.val / 64, by omega⟩) (column z b d) (Cert.MlaRefIdeal.Read.dotAt x y b r d)
    (fun j => z (ix3 b j d))
    (fun j => by rw [← score_coe, Cert.MlaRefIdeal.Read.dotAt]; exact sum_congr rfl fun t _ => by rw [hq, hk])
    (fun j => by rw [column, dif_pos j.isLt])

end Plain

/-! ## The claims -/

/-- The kernel and the plain formula end with equal results. -/
theorem algebraic : Cert.algebraic_MlaIdeal_MlaRefIdeal_pre_finite_qk := by
  intro m ρ m' ρ' hpre hagree
  have hreal := fun c => real_of_pre _ _ _ (hpre c)
  choose q hq using fun c => (hreal c).1
  choose k hk using fun c => (hreal c).2
  refine ⟨_, Cert.MlaIdeal.Value.run m ρ q k hq hk, ?_⟩
  refine (θ_run Cert.MlaRefIdeal.defs _ _).mono (fun _ h c => ⟨(h c).1.trans ?_, (h c).2⟩)
    (Cert.MlaRefIdeal.Value.run (F := Ideal) m' ρ')
  rw [(hagree c).1, (hagree c).2.1, (hagree c).2.2]
  exact plain_eq _ _ _ (q c) (k c) (hq c) (hk c)

theorem frame_p : Cert.quiescent_Mla := fun m ρ _ => Cert.Mla.Body.frame m ρ
theorem frame_pi : Cert.quiescent_MlaIdeal := fun m ρ _ => Cert.MlaIdeal.Body.frame m ρ
theorem frame_pi_pre : Cert.quiescent_MlaIdeal_pre_finite_qk := fun m ρ _ => Cert.MlaIdeal.Body.frame m ρ
theorem frame_ri : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)
theorem frame_ri_pre : Cert.quiescent_MlaRefIdeal_pre_finite_qk := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The named constant: the mask's value is minus infinity. -/
theorem preserves : Cert.preserves_Mla_MlaIdeal :=
  IdealRules.named_const.statement Cert.MlaIdeal.κ "mask" .f32 0xF149F2CA#32 (⊥ : EReal) rfl

end Cert.Proof.MlaClaims

end
-- ==== Proof.MlpMath.lean ====
/-
  The MLP layer as a function of real sums: a root-mean-square norm, a hidden layer of squared positive parts, the
  residual sum, and the final norm, over the extended reals.
-/
module

public import Idealize.ShloMosaic.Lib.Pointwise
public import Idealize.ShloMosaic.Lib.Pipeline.ValueKit

@[expose] public section

noncomputable section

namespace Cert.MlpMath

open Idealize.ShloMosaic Finset

/-- The number added to a mean square before its root is taken. -/
def eps : EReal := ((1 / 1000000 : ℝ) : EReal)

/-- One divided by a million. -/
theorem eps_eq : Ideal.div (Ideal.ofBits .f32 0x3F800000#32) (Ideal.ofBits .f32 0x49742400#32) = eps := by
  have h1 : Ideal.ofBits .f32 0x3F800000#32 = ((1 : ℝ) : EReal) := by
    simp [Ideal.ofBits, Ideal.ieee]; norm_cast; norm_num
  have h2 : Ideal.ofBits .f32 0x49742400#32 = ((1000000 : ℝ) : EReal) := by
    simp [Ideal.ofBits, Ideal.ieee]; norm_cast; norm_num
  rw [h1, h2, Ideal.div_coe (by norm_num)]
  simp [eps]

/-- The norm of a row: each entry over the root of the mean square, times its gain. -/
def rms (x g : Fin 1024 → EReal) (d : Fin 1024) : EReal :=
  x d * Ideal.rsqrt (Ideal.div (∑ k : Fin 1024, x k * x k) (Ideal.ofBits .f32 0x44800000#32) + eps) * g d

/-- A hidden unit: the positive part of a weighted sum, squared. -/
def unit (h w : Fin 1024 → EReal) : EReal := max (∑ k : Fin 1024, h k * w k) 0 * max (∑ k : Fin 1024, h k * w k) 0

/-- The row after the layer. -/
def row (x g : Fin 1024 → EReal) (wu : Fin 1024 → Fin 4096 → EReal) (wd : Fin 4096 → Fin 1024 → EReal) (d : Fin 1024) : EReal :=
  x d + ∑ l : Fin 4096, unit (rms x g) (fun k => wu k l) * wd l d

/-- The row after the layer and the final norm. -/
def out (x g : Fin 1024 → EReal) (wu : Fin 1024 → Fin 4096 → EReal) (wd : Fin 4096 → Fin 1024 → EReal) (gf : Fin 1024 → EReal)
    (d : Fin 1024) : EReal := rms (row x g wu wd) gf d

/-- The hidden layer's sum, tile by tile: four tiles of 1024 units. -/
theorem sum_tiles (f : Fin 4096 → EReal) :
    ∑ s : Fin 4, ∑ k : Fin 1024, f ⟨s.val * 1024 + k.val, by omega⟩ = ∑ l : Fin 4096, f l :=
  Fin.sum_mul_add_fin 4 1024 f (by norm_num)

end Cert.MlpMath

end
-- ==== Proof.MlpIdealRows.lean ====
/-
  What `MlpIdeal`'s body computes on its blocks, read at an index over the extended reals.
-/
module

public import proofs.«01_k».proof.Proof.Gen.MlpIdeal.Value
public import proofs.«01_k».proof.Proof.MlpMath

@[expose] public section

noncomputable section

namespace Cert.MlpIdeal.Rows

open Cert.MlpIdeal Cert.MlpIdeal.Gen Idealize.ShloMosaic Cert.MlpMath

/-- The named constant is `eps`. -/
theorem named_eps : (Named.named (F := Ideal) κ "eps" (0x358637BD#32 : BitVec 32) : Ideal .f32) = eps := rfl

/-- The first norm. -/
theorem pay1_apply (x : Vec Ideal S1024x1024 .f32) (g : Vec Ideal S1x1024 .f32) (r d : Fin 1024) :
    k0_pay1 x g (ix2 r d) = rms (fun k => x (ix2 r k)) (fun k => g (ix2 0 k)) d := by
  rw [rms, ← named_eps]
  pointwise [k0_pay1]

/-- The row the sum starts from. -/
theorem pay2_apply (x : Vec Ideal S1024x1024 .f32) (r d : Fin 1024) : k0_pay2 x (ix2 r d) = x (ix2 r d) := by
  pointwise [k0_pay2]

/-- One tile of hidden units added. -/
theorem pay3_apply (h wu : Vec Ideal S1024x1024 .bf16) (a : Vec Ideal S1024x1024 .f32) (wd : Vec Ideal S1024x1024 .bf16) (r d : Fin 1024) :
    k0_pay3 h wu a wd (ix2 r d)
      = a (ix2 r d) + ∑ l : Fin 1024, unit (fun k => h (ix2 r k)) (fun k => wu (ix2 k l)) * wd (ix2 l d) := by
  simp only [unit]
  pointwise [k0_pay3]

/-- The final norm. -/
theorem pay4_apply (x : Vec Ideal S1024x1024 .f32) (g : Vec Ideal S1x1024 .f32) (r d : Fin 1024) :
    k0_pay4 x g (ix2 r d) = rms (fun k => x (ix2 r k)) (fun k => g (ix2 0 k)) d := by
  rw [rms, ← named_eps]
  pointwise [k0_pay4]

end Cert.MlpIdeal.Rows

end
-- ==== Proof.MlpIdealValue.lean ====
/-
  The MLP kernel's result array as a function of its argument arrays.
-/
module

public import proofs.«01_k».proof.Proof.MlpIdealRows

@[expose] public section

set_option maxRecDepth 16384

noncomputable section

namespace Cert.MlpIdeal.Value

open Cert.MlpIdeal Cert.MlpIdeal.Gen Cert.MlpIdeal.Rows Cert.MlpMath
open Idealize.ShloMosaic Idealize.ShloMosaic.TcCoe Idealize.SL.Sem Finset
open Idealize.ShloMosaic.Pipeline (Dat)

variable (m : (ℓ : Loc nD τ sig) → Buf (Elt Ideal) ℓ) (ρ : Dev nD → PrngReg) (c : Dev nD)

/-! ## The argument arrays as rows and columns -/

/-- Row `i` of the input, its batches one after the other. -/
def xs (i : Fin 65536) (k : Fin 1024) : EReal :=
  (m ((c : Thread nD τ).loc main_arg0) : FVec Ideal S8x8192x1024 .f32) (ix3 ⟨i.val / 8192, by omega⟩ ⟨i.val % 8192, by omega⟩ k)
/-- The first norm's gains. -/
def gs (k : Fin 1024) : EReal := (m ((c : Thread nD τ).loc main_arg1) : FVec Ideal S1024 .f32) (ix1 k)
/-- The weights into the hidden units. -/
def ups (k : Fin 1024) (l : Fin 4096) : EReal := (m ((c : Thread nD τ).loc main_arg2) : FVec Ideal S1024x4096 .f32) (ix2 k l)
/-- The weights out of the hidden units. -/
def downs (l : Fin 4096) (d : Fin 1024) : EReal := (m ((c : Thread nD τ).loc main_arg3) : FVec Ideal S4096x1024 .f32) (ix2 l d)
/-- The final norm's gains. -/
def gfs (k : Fin 1024) : EReal := (m ((c : Thread nD τ).loc main_arg4) : FVec Ideal S1024 .f32) (ix1 k)

/-! ## What the region finds -/

theorem V_v0 : V m c main_v0 = (shapeCast S65536x1024 (m ((c : Thread nD τ).loc main_arg0) : FVec Ideal S8x8192x1024 .f32) shapeCasts_S8x8192x1024_S65536x1024 : FVec Ideal S65536x1024 .f32) := by
  unfold V; simp only [hostOps0]; after_results_simp <;> rfl
theorem V_v1 : V m c main_v1 = (broadcastInDim S1x1024 ![1] bcast_S1024_S1x1024_1 (m ((c : Thread nD τ).loc main_arg1) : FVec Ideal S1024 .f32) : FVec Ideal S1x1024 .f32) := by
  unfold V; simp only [hostOps0]; after_results_simp <;> rfl
theorem V_v2 : V m c main_v2 = (truncf .bf16 (m ((c : Thread nD τ).loc main_arg2) : FVec Ideal S1024x4096 .f32) bitsLt_bf16_f32 : FVec Ideal S1024x4096 .bf16) := by
  unfold V; simp only [hostOps0]; after_results_simp <;> rfl
theorem V_v3 : V m c main_v3 = (truncf .bf16 (m ((c : Thread nD τ).loc main_arg3) : FVec Ideal S4096x1024 .f32) bitsLt_bf16_f32 : FVec Ideal S4096x1024 .bf16) := by
  unfold V; simp only [hostOps0]; after_results_simp <;> rfl
theorem V_v4 : V m c main_v4 = (broadcastInDim S1x1024 ![1] bcast_S1024_S1x1024_1 (m ((c : Thread nD τ).loc main_arg4) : FVec Ideal S1024 .f32) : FVec Ideal S1x1024 .f32) := by
  unfold V; simp only [hostOps0]; after_results_simp <;> rfl

/-- The flattened input at an index. -/
theorem flat_apply (y : FVec Ideal S8x8192x1024 .f32) (i : Fin 65536) (d : Fin 1024) :
    (shapeCast S65536x1024 y shapeCasts_S8x8192x1024_S65536x1024 : FVec Ideal S65536x1024 .f32) (ix2 i d)
      = y (ix3 ⟨i.val / 8192, by omega⟩ ⟨i.val % 8192, by omega⟩ d) := by
  pointwise

/-- Gains as a row, at an index. -/
theorem gain_apply (y : FVec Ideal S1024 .f32) (d : Fin 1024) :
    (broadcastInDim S1x1024 ![1] bcast_S1024_S1x1024_1 y : FVec Ideal S1x1024 .f32) (ix2 0 d) = y (ix1 d) := by
  pointwise

/-! ## The blocks -/

/-- Where the windows stand at a grid point. -/
theorem windows : ∀ t : Fin cfg0.N,
    win0_0.index t = ![t.val / 4, 0] ∧ win0_1.index t = ![0, 0] ∧ win0_2.index t = ![0, t.val % 4]
    ∧ win0_3.index t = ![t.val % 4, 0] ∧ win0_4.index t = ![0, 0] :=
  (by decide +kernel : ∀ t : Fin grid0.N, _)

theorem points (t : Fin cfg0.N) : t.val < 256 := t.isLt.trans_eq (by decide +kernel : grid0.N = 256)

theorem iblk0_apply (t : Fin cfg0.N) (r k : Fin 1024) :
    (iblk m c 0 t : Vec Ideal S1024x1024 .f32) (ix2 r k) = xs m c ⟨t.val / 4 * 1024 + r.val, by have := points t; omega⟩ k := by
  have hi := (windows t).1
  unfold iblk
  rw [View.read_apply]
  show V m c main_v0 _ = _
  rw [V_v0]
  refine Eq.trans ?_ (flat_apply (m ((c : Thread nD τ).loc main_arg0)) _ k)
  congr 1
  funext a
  apply Fin.ext
  match a with
  | ⟨0, _⟩ => show win0_0.index t 0 * 1024 + 1 * r.val = t.val / 4 * 1024 + r.val; rw [hi]; simp
  | ⟨1, _⟩ => show win0_0.index t 1 * 1024 + 1 * k.val = k.val; rw [hi]; simp

theorem iblk1_apply (t : Fin cfg0.N) (k : Fin 1024) : (iblk m c 1 t : Vec Ideal S1x1024 .f32) (ix2 0 k) = gs m c k := by
  have hi := (windows t).2.1
  unfold iblk
  rw [View.read_apply]
  show V m c main_v1 _ = _
  rw [V_v1]
  refine Eq.trans ?_ (gain_apply (m ((c : Thread nD τ).loc main_arg1)) k)
  congr 1
  funext a
  apply Fin.ext
  match a with
  | ⟨0, _⟩ => show win0_1.index t 0 * 1 + 1 * 0 = 0; rw [hi]; simp
  | ⟨1, _⟩ => show win0_1.index t 1 * 1024 + 1 * k.val = k.val; rw [hi]; simp

theorem iblk2_apply (t : Fin cfg0.N) (k l : Fin 1024) :
    (iblk m c 2 t : Vec Ideal S1024x1024 .bf16) (ix2 k l) = ups m c k ⟨t.val % 4 * 1024 + l.val, by omega⟩ := by
  have hi := (windows t).2.2.1
  unfold iblk
  rw [View.read_apply]
  show V m c main_v2 _ = _
  rw [V_v2]
  show (m ((c : Thread nD τ).loc main_arg2) : FVec Ideal S1024x4096 .f32) _ = (m ((c : Thread nD τ).loc main_arg2) : FVec Ideal S1024x4096 .f32) _
  congr 1
  funext a
  apply Fin.ext
  match a with
  | ⟨0, _⟩ => show win0_2.index t 0 * 1024 + 1 * k.val = k.val; rw [hi]; simp
  | ⟨1, _⟩ => show win0_2.index t 1 * 1024 + 1 * l.val = t.val % 4 * 1024 + l.val; rw [hi]; simp

theorem iblk3_apply (t : Fin cfg0.N) (l d : Fin 1024) :
    (iblk m c 3 t : Vec Ideal S1024x1024 .bf16) (ix2 l d) = downs m c ⟨t.val % 4 * 1024 + l.val, by omega⟩ d := by
  have hi := (windows t).2.2.2.1
  unfold iblk
  rw [View.read_apply]
  show V m c main_v3 _ = _
  rw [V_v3]
  show (m ((c : Thread nD τ).loc main_arg3) : FVec Ideal S4096x1024 .f32) _ = (m ((c : Thread nD τ).loc main_arg3) : FVec Ideal S4096x1024 .f32) _
  congr 1
  funext a
  apply Fin.ext
  match a with
  | ⟨0, _⟩ => show win0_3.index t 0 * 1024 + 1 * l.val = t.val % 4 * 1024 + l.val; rw [hi]; simp
  | ⟨1, _⟩ => show win0_3.index t 1 * 1024 + 1 * d.val = d.val; rw [hi]; simp

theorem iblk4_apply (t : Fin cfg0.N) (k : Fin 1024) : (iblk m c 4 t : Vec Ideal S1x1024 .f32) (ix2 0 k) = gfs m c k := by
  have hi := (windows t).2.2.2.2
  unfold iblk
  rw [View.read_apply]
  show V m c main_v4 _ = _
  rw [V_v4]
  refine Eq.trans ?_ (gain_apply (m ((c : Thread nD τ).loc main_arg4)) k)
  congr 1
  funext a
  apply Fin.ext
  match a with
  | ⟨0, _⟩ => show win0_4.index t 0 * 1 + 1 * 0 = 0; rw [hi]; simp
  | ⟨1, _⟩ => show win0_4.index t 1 * 1024 + 1 * k.val = k.val; rw [hi]; simp

/-! ## The run over a block's four tiles -/

/-- Row `i` of the input, normed. -/
def hs (i : Fin 65536) : Fin 1024 → EReal := rms (xs m c i) (gs m c)

/-- What tile `s` adds to row `i` at column `d`. -/
def tile (i : Fin 65536) (d : Fin 1024) (s : ℕ) : EReal :=
  ∑ l : Fin 1024, unit (hs m c i) (fun k => ups m c k ⟨s % 4 * 1024 + l.val, by omega⟩) * downs m c ⟨s % 4 * 1024 + l.val, by omega⟩ d

/-- A block's first point: the normed rows. -/
theorem h_first (t : Fin cfg0.N) (h0 : t.val % 4 = 0) : (outsAt0 m c t.val t.isLt).2.1 = k0_pay1 (iblk m c 0 t) (iblk m c 1 t) := by
  rw [outsAt0_A m c t h0 (by omega)]
  frame_out

/-- A block's first point: the sums. -/
theorem acc_first (t : Fin cfg0.N) (h0 : t.val % 4 = 0) : (outsAt0 m c t.val t.isLt).2.2
    = k0_pay3 (outsAt0 m c t.val t.isLt).2.1 (iblk m c 2 t) (k0_pay2 (iblk m c 0 t)) (iblk m c 3 t) := by
  rw [h_first m c t h0, outsAt0_A m c t h0 (by omega)]
  frame_out

/-- A later point keeps the normed rows. -/
theorem h_later (t : Fin cfg0.N) (h0 : ¬t.val % 4 = 0) : (outsAt0 m c t.val t.isLt).2.1
    = (outsAt0 m c (t.val - 1) (Nat.lt_of_le_of_lt (Nat.sub_le _ _) t.isLt)).2.1 := by
  by_cases h1 : t.val % 4 = 3
  · rw [outsAt0_C m c t h0 h1]; rfl
  · rw [outsAt0_B m c t h0 h1]; rfl

/-- The buffers carried between points, read back. -/
theorem carried (t : Fin cfg0.N) (X : Vec Ideal S1024x1024 .bf16 × Vec Ideal S1024x1024 .f32) :
    k0_pay3 ((View.whole cc0_scratch0).read (Elt Ideal) ((Memref.isWhole_whole cc0_scratch0).unread X.1)) (iblk m c 2 t)
        ((View.whole cc0_scratch1).read (Elt Ideal) ((Memref.isWhole_whole cc0_scratch1).unread X.2)) (iblk m c 3 t)
      = k0_pay3 X.1 (iblk m c 2 t) X.2 (iblk m c 3 t) :=
  congrArg₂ (fun a b => k0_pay3 a (iblk m c 2 t) b (iblk m c 3 t))
    (Memref.IsWhole.read_unread (Memref.isWhole_whole cc0_scratch0) _) (Memref.IsWhole.read_unread (Memref.isWhole_whole cc0_scratch1) _)

/-- A later point's sums. -/
theorem acc_later (t : Fin cfg0.N) (h0 : ¬t.val % 4 = 0) : (outsAt0 m c t.val t.isLt).2.2
    = k0_pay3 (outsAt0 m c (t.val - 1) (Nat.lt_of_le_of_lt (Nat.sub_le _ _) t.isLt)).2.1 (iblk m c 2 t)
        (outsAt0 m c (t.val - 1) (Nat.lt_of_le_of_lt (Nat.sub_le _ _) t.isLt)).2.2 (iblk m c 3 t) := by
  by_cases h1 : t.val % 4 = 3
  · rw [outsAt0_C m c t h0 h1]; frame_out; exact carried m c t (outsAt0 m c (t.val - 1) (Nat.lt_of_le_of_lt (Nat.sub_le _ _) t.isLt)).2
  · rw [outsAt0_B m c t h0 h1]; frame_out; exact carried m c t (outsAt0 m c (t.val - 1) (Nat.lt_of_le_of_lt (Nat.sub_le _ _) t.isLt)).2

/-- A block's last point: what is stored. -/
theorem out_last (t : Fin cfg0.N) (h1 : t.val % 4 = 3) : (outsAt0 m c t.val t.isLt).1
    = k0_pay4 (outsAt0 m c t.val t.isLt).2.2 (iblk m c 4 t) := by
  rw [acc_later m c t (by omega), outsAt0_C m c t (by omega) h1]
  frame_out
  exact congrArg (fun a => k0_pay4 a (iblk m c 4 t)) (carried m c t (outsAt0 m c (t.val - 1) (Nat.lt_of_le_of_lt (Nat.sub_le _ _) t.isLt)).2)

/-- The row of the arrays that row `r` of point `n`'s block is. -/
abbrev rowOf (n : ℕ) (hn : n < cfg0.N) (r : Fin 1024) : Fin 65536 :=
  ⟨n / 4 * 1024 + r.val, by have h : n < 256 := points ⟨n, hn⟩; omega⟩

/-- A point's tile, from its blocks. -/
theorem tile_eq (t : Fin cfg0.N) (h : Vec Ideal S1024x1024 .bf16) (r d : Fin 1024) (hh : ∀ k : Fin 1024, h (ix2 r k) = hs m c (rowOf t.val t.isLt r) k) :
    ∑ l : Fin 1024, unit (fun k => h (ix2 r k)) (fun k => (iblk m c 2 t : Vec Ideal S1024x1024 .bf16) (ix2 k l))
        * (iblk m c 3 t : Vec Ideal S1024x1024 .bf16) (ix2 l d) = tile m c (rowOf t.val t.isLt r) d (t.val % 4) := by
  unfold tile
  refine sum_congr rfl fun l _ => ?_
  simp only [hh, iblk2_apply, iblk3_apply, Nat.mod_mod]

/-- After point `n` the normed rows are those of its block, and each sum holds the input and the tiles met so far. -/
theorem state (n : ℕ) : ∀ (hn : n < cfg0.N) (r : Fin 1024),
    (∀ d : Fin 1024, (outsAt0 m c n hn).2.1 (ix2 r d) = hs m c (rowOf n hn r) d)
    ∧ ∀ d : Fin 1024, (outsAt0 m c n hn).2.2 (ix2 r d)
        = xs m c (rowOf n hn r) d + ∑ s ∈ range (n % 4 + 1), tile m c (rowOf n hn r) d s := by
  induction n with
  | zero =>
    intro hn r
    have hh : ∀ d : Fin 1024, (outsAt0 m c 0 hn).2.1 (ix2 r d) = hs m c (rowOf 0 hn r) d := fun d => by
      rw [h_first m c ⟨0, hn⟩ (Nat.zero_mod _), pay1_apply]
      simp only [iblk0_apply, iblk1_apply]
      rfl
    refine ⟨hh, fun d => ?_⟩
    rw [acc_first m c ⟨0, hn⟩ (Nat.zero_mod _), pay3_apply, tile_eq m c ⟨0, hn⟩ _ r d hh, pay2_apply, iblk0_apply]
    exact congrArg (xs m c (rowOf 0 hn r) d + ·) (sum_range_one (fun s => tile m c (rowOf 0 hn r) d s)).symm
  | succ n ih =>
    intro hn r
    by_cases h0 : (n + 1) % 4 = 0
    · have hh : ∀ d : Fin 1024, (outsAt0 m c (n + 1) hn).2.1 (ix2 r d) = hs m c (rowOf (n + 1) hn r) d := fun d => by
        rw [h_first m c ⟨n + 1, hn⟩ h0, pay1_apply]
        simp only [iblk0_apply, iblk1_apply]
        rfl
      refine ⟨hh, fun d => ?_⟩
      rw [acc_first m c ⟨n + 1, hn⟩ h0, pay3_apply, tile_eq m c ⟨n + 1, hn⟩ _ r d hh, pay2_apply, iblk0_apply]
      simp [h0]
    · obtain ⟨ih1, ih2⟩ := ih (Nat.lt_of_succ_lt hn) r
      have e : rowOf n (Nat.lt_of_succ_lt hn) r = rowOf (n + 1) hn r := by
        apply Fin.ext; show n / 4 * 1024 + r.val = (n + 1) / 4 * 1024 + r.val; omega
      rw [e] at ih1 ih2
      have hmod : (n + 1) % 4 = n % 4 + 1 := by omega
      refine ⟨fun d => ?_, fun d => ?_⟩
      · rw [h_later m c ⟨n + 1, hn⟩ h0]; exact ih1 d
      · have e2 := ih2 d
        rw [acc_later m c ⟨n + 1, hn⟩ h0, pay3_apply]
        refine (congrArg₂ (· + ·) e2 (tile_eq m c ⟨n + 1, hn⟩ (outsAt0 m c n (Nat.lt_of_succ_lt hn)).2.1 r d ih1)).trans ?_
        show _ + tile m c (rowOf (n + 1) hn r) d ((n + 1) % 4) = _
        rw [add_assoc, hmod, sum_range_succ _ (n % 4 + 1)]

/-- The four tiles are the whole hidden layer. -/
theorem tiles (i : Fin 65536) (d : Fin 1024) :
    xs m c i d + ∑ s ∈ range 4, tile m c i d s = row (xs m c i) (gs m c) (ups m c) (downs m c) d := by
  rw [row, Finset.sum_range (fun s => tile m c i d s)]
  refine congrArg (xs m c i d + ·) (Eq.trans ?_ (sum_tiles fun l => unit (rms (xs m c i) (gs m c)) (fun k => ups m c k l) * downs m c l d))
  refine sum_congr rfl fun s _ => ?_
  have hs4 : s.val % 4 = s.val := Nat.mod_eq_of_lt s.isLt
  simp only [tile, hs, hs4]

/-- What a block's last point stores. -/
theorem out_apply (t : Fin cfg0.N) (h1 : t.val % 4 = 3) (r d : Fin 1024) : (outsAt0 m c t.val t.isLt).1 (ix2 r d)
    = out (xs m c (rowOf t.val t.isLt r)) (gs m c) (ups m c) (downs m c) (gfs m c) d := by
  rw [out_last m c t h1, pay4_apply, out]
  have e : ∀ k : Fin 1024, (outsAt0 m c t.val t.isLt).2.2 (ix2 r k) = row (xs m c (rowOf t.val t.isLt r)) (gs m c) (ups m c) (downs m c) k := fun k => by
    rw [(state m c t.val t.isLt r).2 k, h1, tiles]
  simp only [e, iblk4_apply]

/-- The kernel's result array at an index. -/
theorem G5_apply (i : Fin 65536) (d : Fin 1024) : (G5 m c : FVec Ideal S65536x1024 .f32) (ix2 i d)
    = out (xs m c i) (gs m c) (ups m c) (downs m c) (gfs m c) d := by
  have hN : cfg0.N = 256 := N_0
  have hrun : run5Of (ix2 i d : S65536x1024.Idx) = i.val / 1024 := by
    show 1 * (i.val / 1024 - 0) + 1 * (d.val / 1024 - 0) = _
    omega
  have hp : pt5Of (ix2 i d : S65536x1024.Idx) = 4 * (i.val / 1024) + 3 := by rw [pt5Of, hrun]
  have hlt : 4 * (i.val / 1024) + 3 < cfg0.N := by omega
  unfold G5
  rw [dif_pos (by rw [hp]; exact hlt), fold0_congr m c _ _ (4 * (i.val / 1024) + 3) (by omega) hp, ← outsAt0_sweep m c _ hlt]
  have hl : loc5Of (ix2 i d : S65536x1024.Idx) = (ix2 ⟨i.val % 1024, by omega⟩ d : S1024x1024.Idx) := by
    funext a; apply Fin.ext
    match a with
    | ⟨0, _⟩ => rfl
    | ⟨1, _⟩ => show d.val % 1024 = d.val; omega
  rw [hl]
  refine (out_apply m c ⟨_, hlt⟩ (by show (4 * (i.val / 1024) + 3) % 4 = 3; omega) _ d).trans ?_
  have e : rowOf (4 * (i.val / 1024) + 3) hlt ⟨i.val % 1024, by omega⟩ = i := by
    apply Fin.ext; show (4 * (i.val / 1024) + 3) / 4 * 1024 + i.val % 1024 = i.val; omega
  simp only [e]

end Cert.MlpIdeal.Value

end
-- ==== Proof.MlpRefRead.lean ====
/-
  The plain formula's MLP, read at an index.
-/
module

public import proofs.«01_k».proof.Proof.Gen.MlpRefIdeal.Run
public import proofs.«01_k».proof.Proof.MlpMath

@[expose] public section

noncomputable section

namespace Cert.MlpRefIdeal.Read

open Idealize.ShloMosaic Cert.MlpRefIdeal Cert.MlpRefIdeal.Gen Cert.MlpMath

/-- The plain formula's norm. -/
abbrev refNorm (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (id (Host.divf (constant S_ .f32 0x3F800000#32) (constant S_ .f32 0x49742400#32)))))))) (broadcastInDim S8x8192x1024 ![0, 1, 2] bcast_S1x1x1024_S8x8192x1024_0_1_2 (broadcastInDim S1x1x1024 ![2] bcast_S1024_S1x1x1024_2 g))

/-- The plain formula's row before the final norm, from the normed row. -/
abbrev refRow (x h : FVec Ideal S8x8192x1024 .f32) (wu : FVec Ideal S1024x4096 .f32) (wd : FVec Ideal S4096x1024 .f32) : FVec Ideal S8x8192x1024 .f32 :=
  addf x (Host.dotGeneral dot_S8x8192x4096_S4096x1024_S8x8192x1024_2_0_01_1_n_n none (mulf (maximumf (Host.dotGeneral dot_S8x8192x1024_S1024x4096_S8x8192x4096_2_0_01_1_n_n none h wu) (broadcastInDim S8x8192x4096 ![] bcast_S_S8x8192x4096 (constant S_ .f32 0x00000000#32))) (maximumf (Host.dotGeneral dot_S8x8192x1024_S1024x4096_S8x8192x4096_2_0_01_1_n_n none h wu) (broadcastInDim S8x8192x4096 ![] bcast_S_S8x8192x4096 (constant S_ .f32 0x00000000#32)))) wd)

/-- The norm at an index. -/
theorem norm_read (x : FVec Ideal S8x8192x1024 .f32) (g : FVec Ideal S1024 .f32) (b : Fin 8) (r : Fin 8192) (d : Fin 1024) :
    refNorm x g (ix3 b r d) = rms (fun k => x (ix3 b r k)) (fun k => g (ix1 k)) d := by
  rw [rms, ← eps_eq]
  simp only [refNorm, id]
  pointwise

/-- The row at an index. -/
theorem row_read (x h : FVec Ideal S8x8192x1024 .f32) (wu : FVec Ideal S1024x4096 .f32) (wd : FVec Ideal S4096x1024 .f32)
    (b : Fin 8) (r : Fin 8192) (d : Fin 1024) :
    refRow x h wu wd (ix3 b r d)
      = x (ix3 b r d) + ∑ l : Fin 4096, unit (fun k => h (ix3 b r k)) (fun k => wu (ix2 k l)) * wd (ix2 l d) := by
  simp only [unit]
  pointwise

/-- The plain formula's result is its norm of its row of its norm. -/
theorem res_eq (m : (ℓ : Loc nD τ sig) → Buf (Elt Ideal) ℓ) (c : Dev nD) : Value.res_main_v35 m c
    = (shapeCast _ (refNorm (refRow (m ((c.tc : Thread nD τ).loc main_arg0)) (refNorm (m ((c.tc : Thread nD τ).loc main_arg0)) (m ((c.tc : Thread nD τ).loc main_arg1)))
        (m ((c.tc : Thread nD τ).loc main_arg2)) (m ((c.tc : Thread nD τ).loc main_arg3))) (m ((c.tc : Thread nD τ).loc main_arg4))) shapeCasts_S8x8192x1024_S65536x1024 : FVec Ideal S65536x1024 .f32) := rfl

/-- The flattened array at an index: row `r` of batch `b` is row `8192 b + r`. -/
theorem flat_read (y : FVec Ideal S8x8192x1024 .f32) (i : Fin 65536) (d : Fin 1024) :
    (shapeCast S65536x1024 y shapeCasts_S8x8192x1024_S65536x1024 : FVec Ideal S65536x1024 .f32) (ix2 i d)
      = y (ix3 ⟨i.val / 8192, by omega⟩ ⟨i.val % 8192, by omega⟩ d) := by
  pointwise

end Cert.MlpRefIdeal.Read

end
-- ==== Proof.MlpClaims.lean ====
/-
  The MLP's claims: the kernel and the plain formula end with equal results, and the runs' frames.
-/
module

public import proofs.«01_k».proof.Proof.MlpIdealValue
public import proofs.«01_k».proof.Proof.MlpRefRead
public import proofs.«01_k».proof.Proof.Gen.Mlp.Frame
public import proofs.«01_k».proof.Proof.Gen.Pre_finite_qk
public import proofs.«01_k».proof.Defs

@[expose] public section

noncomputable section

namespace Cert.Proof.MlpClaims

open Idealize.ShloMosaic Idealize.ShloMosaic.TcCoe Idealize.SL.Sem Finset Cert.MlpMath

/-- The plain formula's result at an index. -/
theorem plain_apply (m : (ℓ : Loc Cert.MlpRefIdeal.nD Cert.MlpRefIdeal.τ Cert.MlpRefIdeal.sig) → Buf (Elt Ideal) ℓ) (c : Dev Cert.MlpRefIdeal.nD)
    (x : FVec Ideal Cert.MlpRefIdeal.S8x8192x1024 .f32) (g : FVec Ideal Cert.MlpRefIdeal.S1024 .f32) (wu : FVec Ideal Cert.MlpRefIdeal.S1024x4096 .f32)
    (wd : FVec Ideal Cert.MlpRefIdeal.S4096x1024 .f32) (gf : FVec Ideal Cert.MlpRefIdeal.S1024 .f32)
    (hx : m ((c.tc : Thread Cert.MlpRefIdeal.nD Cert.MlpRefIdeal.τ).loc Cert.MlpRefIdeal.main_arg0) = x)
    (hg : m ((c.tc : Thread Cert.MlpRefIdeal.nD Cert.MlpRefIdeal.τ).loc Cert.MlpRefIdeal.main_arg1) = g)
    (hu : m ((c.tc : Thread Cert.MlpRefIdeal.nD Cert.MlpRefIdeal.τ).loc Cert.MlpRefIdeal.main_arg2) = wu)
    (hd : m ((c.tc : Thread Cert.MlpRefIdeal.nD Cert.MlpRefIdeal.τ).loc Cert.MlpRefIdeal.main_arg3) = wd)
    (hf : m ((c.tc : Thread Cert.MlpRefIdeal.nD Cert.MlpRefIdeal.τ).loc Cert.MlpRefIdeal.main_arg4) = gf) (i : Fin 65536) (d : Fin 1024) :
    (Cert.MlpRefIdeal.Value.res_main_v35 m c : FVec Ideal Cert.MlpRefIdeal.S65536x1024 .f32) (ix2 i d)
      = out (fun k => x (ix3 ⟨i.val / 8192, by omega⟩ ⟨i.val % 8192, by omega⟩ k)) (fun k => g (ix1 k)) (fun k l => wu (ix2 k l))
          (fun l d => wd (ix2 l d)) (fun k => gf (ix1 k)) d := by
  rw [Cert.MlpRefIdeal.Read.res_eq, hx, hg, hu, hd, hf, Cert.MlpRefIdeal.Read.flat_read, Cert.MlpRefIdeal.Read.norm_read]
  simp only [Cert.MlpRefIdeal.Read.row_read, Cert.MlpRefIdeal.Read.norm_read]
  rfl

/-- The kernel and the plain formula end with equal results. -/
theorem algebraic : Cert.algebraic_MlpIdeal_MlpRefIdeal := by
  intro m ρ m' ρ' _ hagree
  refine ⟨_, Cert.MlpIdeal.Value.run m ρ, ?_⟩
  refine (θ_run Cert.MlpRefIdeal.defs _ _).mono (fun _ h c => ⟨(h c).1.trans ?_, (h c).2⟩)
    (Cert.MlpRefIdeal.Value.run (F := Ideal) m' ρ')
  obtain ⟨h0, h1, h2, h3, h4⟩ := hagree c
  funext j
  obtain ⟨i, d, rfl⟩ : ∃ (i : Fin 65536) (d : Fin 1024), j = ix2 i d := ⟨j 0, j 1, by
    funext a; match a with | ⟨0, _⟩ => rfl | ⟨1, _⟩ => rfl⟩
  exact (plain_apply m' c _ _ _ _ _ h0 h1 h2 h3 h4 i d).trans (Cert.MlpIdeal.Value.G5_apply m c i d).symm

theorem frame_p : Cert.quiescent_Mlp := fun m ρ _ => Cert.Mlp.Gen.frame m ρ
theorem frame_pi : Cert.quiescent_MlpIdeal := fun m ρ _ => Cert.MlpIdeal.Gen.frame m ρ
theorem frame_ri : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- The named constant: the norm's small number is one millionth. -/
theorem preserves : Cert.preserves_Mlp_MlpIdeal :=
  IdealRules.named_const.statement Cert.MlpIdeal.κ "eps" .f32 0x358637BD#32 ((1 / 1000000 : ℝ) : EReal) rfl

end Cert.Proof.MlpClaims

end
-- ==== Proof.DiffIdealBody.lean ====
/-
  The body of the program `DiffIdeal` at one grid point, run on the contents of its buffers.

  One head's queries come in two halves of 64 lanes; `k0_pay21` and `k0_pay22` are the queries with the other half set to zero.
  Per half the body keeps three scratch buffers: the running row maximum, the running row sum (one partial sum per lane)
  and the running weighted sum of the values. `State` is the six of them, `start` what the body sets before its loop,
  `trip` what one trip over 512 keys makes of them, `stateAt` their contents before trip `k`, and `result` the block that
  is stored at the end. `body_run` says that the printed body, on buffers that hold the parameters, a query block, the
  keys and the values, ends with that block in the output's buffer. The rest hands this to the launch; the queries, the
  keys and the values are three windows on one array, which share it.
-/
module

public import proofs.«01_k».proof.Proof.Owned
public import proofs.«01_k».proof.Proof.Gen.DiffIdeal.Frame
public import proofs.«01_k».proof.Proof.Gen.DiffIdeal.Skeleton
public import proofs.«01_k».proof.Proof.Gen.DiffIdeal.Loops

@[expose] public section

set_option maxRecDepth 16384

noncomputable section

namespace Cert.DiffIdeal.Body

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes -/

/-- The six scratch buffers: per half the running maximum, the running sum per lane, the running weighted sum. -/
structure State (F : FTy → Type) [FloatOps F] where
  m1 : Vec F S256x128 .f32
  l1 : Vec F S256x128 .f32
  a1 : Vec F S256x128 .f32
  m2 : Vec F S256x128 .f32
  l2 : Vec F S256x128 .f32
  a2 : Vec F S256x128 .f32

/-- The scratch buffers before the loop. -/
def start : State F := ⟨k0_pay23 (F := F), k0_pay24 (F := F), k0_pay25 (F := F), k0_pay26 (F := F), k0_pay27 (F := F), k0_pay28 (F := F)⟩

/-- The keys, or the values, of trip `k`. -/
def blkAt (X : Vec F S1x8192x128 .bf16) (k : Fin k0_t1_loop.trips) : Vec F S1x512x128 .bf16 :=
  View.ld X (Rect.unit (s := S1x8192x128) (k0_off1 k) S1x512x128.size (k0_off1_inb k))

/-- One trip: masked queries `v6`, `v10`, keys `kb`, values `vb`, on the scratch buffers `s`. -/
def trip (v6 v10 : FVec F S256x128 .bf16) (kb vb : Vec F S1x512x128 .bf16) (s : State F) : State F where
  m1 := k0_pay8 v6 kb s.m1
  l1 := k0_pay9 v6 kb s.m1 s.l1
  a1 := k0_pay12 (k0_pay10 v6 kb s.m1 s.a1) (k0_pay11 v6 kb vb s.m1)
  m2 := k0_pay17 v10 (k0_pay2 kb) s.m2
  l2 := k0_pay18 v10 (k0_pay2 kb) s.m2 s.l2
  a2 := k0_pay19 v10 (k0_pay2 kb) (k0_pay3 vb) s.m2 s.a2

/-- The scratch buffers before trip `k` (from the last trip on, after the loop). -/
def stateAt (v6 v10 : FVec F S256x128 .bf16) (X6 X7 : Vec F S1x8192x128 .bf16) : ℕ → State F
  | 0 => start
  | k + 1 =>
    if h : k < k0_t1_loop.trips then trip v6 v10 (blkAt X6 ⟨k, h⟩) (blkAt X7 ⟨k, h⟩) (stateAt v6 v10 X6 X7 k)
    else stateAt v6 v10 X6 X7 k

/-- One more trip. -/
theorem stateAt_succ (v6 v10 : FVec F S256x128 .bf16) (X6 X7 : Vec F S1x8192x128 .bf16) (k : Fin k0_t1_loop.trips) :
    stateAt v6 v10 X6 X7 (k.val + 1) = trip v6 v10 (blkAt X6 k) (blkAt X7 k) (stateAt v6 v10 X6 X7 k.val) := by
  rw [stateAt, dif_pos k.isLt]

/-- The block that the scratch buffers give with the parameters `X3` and the scale `X4`. -/
def finish (X3 : Vec F S4x64 .f32) (X4 : Vec F S1x128 .f32) (s : State F) : Vec F S1x256x128 .bf16 :=
  k0_pay1 (k0_pay29 s.a1 s.l1) (k0_pay30 X3 s.a2 s.l2) X4

/-- The block that the body stores: from the parameters, the scale, the query block, the keys and the values. -/
def result (X3 : Vec F S4x64 .f32) (X4 : Vec F S1x128 .f32) (X5 : Vec F S1x256x128 .bf16) (X6 X7 : Vec F S1x8192x128 .bf16) :
    Vec F S1x256x128 .bf16 :=
  finish X3 X4 (stateAt (k0_pay21 X5) (k0_pay22 X5) X6 X7 k0_t1_loop.trips)

/-! ## The body's run -/

section Run

variable (c : Dev nD) (i : grid0.Coords)
  (arg3 : Memref sig .tc .vmem S4x64 .f32) (harg3 : arg3.IsWhole)
  (arg4 : Memref sig .tc .vmem S1x128 .f32) (harg4 : arg4.IsWhole)
  (arg5 : Memref sig .tc .vmem S1x256x128 .bf16) (harg5 : arg5.IsWhole)
  (arg6 : Memref sig .tc .vmem S1x8192x128 .bf16) (harg6 : arg6.IsWhole)
  (arg7 : Memref sig .tc .vmem S1x8192x128 .bf16) (harg7 : arg7.IsWhole)
  (arg8 : Memref sig .tc .vmem S1x256x128 .bf16) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S256x128 .f32) (harg11 : arg11.IsWhole)
  (arg12 : Memref sig .tc .vmem S256x128 .f32) (harg12 : arg12.IsWhole)
  (arg13 : Memref sig .tc .vmem S256x128 .f32) (harg13 : arg13.IsWhole)
  (arg14 : Memref sig .tc .vmem S256x128 .f32) (harg14 : arg14.IsWhole)

/-- The twelve buffers of the body at named contents. -/
def held (X3 : Vec F S4x64 .f32) (X4 : Vec F S1x128 .f32) (X5 : Vec F S1x256x128 .bf16)
    (X6 X7 : Vec F S1x8192x128 .bf16) (X8 : Vec F S1x256x128 .bf16) (s : State F) : sProp 𝕄 :=
  iprop(owns (c : Thread nD τ) arg3 fullShare X3 ∗ owns (c : Thread nD τ) arg4 fullShare X4 ∗ owns (c : Thread nD τ) arg5 fullShare X5
    ∗ owns (c : Thread nD τ) arg6 fullShare X6 ∗ owns (c : Thread nD τ) arg7 fullShare X7 ∗ owns (c : Thread nD τ) arg8 fullShare X8
    ∗ owns (c : Thread nD τ) arg9 fullShare s.m1 ∗ owns (c : Thread nD τ) arg10 fullShare s.l1 ∗ owns (c : Thread nD τ) arg11 fullShare s.a1
    ∗ owns (c : Thread nD τ) arg12 fullShare s.m2 ∗ owns (c : Thread nD τ) arg13 fullShare s.l2 ∗ owns (c : Thread nD τ) arg14 fullShare s.a2)

/-- The part before the loop, but for its last two stores. -/
theorem part3_run (X3 : Vec F S4x64 .f32) (X4 : Vec F S1x128 .f32) (X5 : Vec F S1x256x128 .bf16)
    (X6 X7 : Vec F S1x8192x128 .bf16) (X8 : Vec F S1x256x128 .bf16) (s : State F) (Q) :
    iprop(held c arg3 arg4 arg5 arg6 arg7 arg8 arg9 arg10 arg11 arg12 arg13 arg14 X3 X4 X5 X6 X7 X8 s
        ∗ (held c arg3 arg4 arg5 arg6 arg7 arg8 arg9 arg10 arg11 arg12 arg13 arg14 X3 X4 X5 X6 X7 X8 { (start : State F) with l2 := s.l2, a2 := s.a2 }
            -∗ Q ⟨k0_pay21 X5, k0_pay22 X5, k0_pay27 (F := F)⟩))
      ⊢ wp frame (wpE (defs₀ (F := F)) Variants.none (c : Thread nD τ) none) Set.univ (k0_part3 i arg3 harg3 arg4 harg4 arg5 harg5 arg6 harg6 arg7 harg7 arg8 harg8 arg9 harg9 arg10 harg10 arg11 harg11 arg12 harg12 arg13 harg13 arg14 harg14) Q := by
  rw [k0_part3_eq_skeleton]
  unfold k0_part3_skel held
  iintro ⟨⟨H3, H4, H5, H6, H7, H8, H9, H10, H11, H12, H13, H14⟩, HK⟩
  iapply (Owned.load Variants.none (c : Thread nD τ) none Set.univ) $$ H5; iintro H5
  iapply (Owned.load Variants.none (c : Thread nD τ) none Set.univ) $$ H9; iintro H9
  iapply (Owned.store Variants.none (c : Thread nD τ) none Set.univ (by decide)) $$ H9; iintro H9
  iapply (Owned.load Variants.none (c : Thread nD τ) none Set.univ) $$ H10; iintro H10
  iapply (Owned.store Variants.none (c : Thread nD τ) none Set.univ (by decide)) $$ H10; iintro H10
  iapply (Owned.load Variants.none (c : Thread nD τ) none Set.univ) $$ H11; iintro H11
  iapply (Owned.store Variants.none (c : Thread nD τ) none Set.univ (by decide)) $$ H11; iintro H11
  iapply (Owned.load Variants.none (c : Thread nD τ) none Set.univ) $$ H12; iintro H12
  iapply (Owned.store Variants.none (c : Thread nD τ) none Set.univ (by decide)) $$ H12; iintro H12
  iapply (Owned.load Variants.none (c : Thread nD τ) none Set.univ) $$ H13; iintro H13
  rw [wp_pure]
  simp only [View.ld_unit_lit (S := S1x256x128) _ _ (show ∀ a, (![0, 0, 0] : Fin 3 → Nat) a = 0 by decide)]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- One trip's first part: the first half, but for the store of its weighted sum. -/
theorem part1_run (v6 : FVec F S256x128 .bf16) (k : Fin k0_t1_loop.trips) (X3 : Vec F S4x64 .f32) (X4 : Vec F S1x128 .f32) (X5 : Vec F S1x256x128 .bf16)
    (X6 X7 : Vec F S1x8192x128 .bf16) (X8 : Vec F S1x256x128 .bf16) (s : State F) (Q) :
    iprop(held c arg3 arg4 arg5 arg6 arg7 arg8 arg9 arg10 arg11 arg12 arg13 arg14 X3 X4 X5 X6 X7 X8 s
        ∗ (held c arg3 arg4 arg5 arg6 arg7 arg8 arg9 arg10 arg11 arg12 arg13 arg14 X3 X4 X5 X6 X7 X8
              { s with m1 := k0_pay8 v6 (blkAt X6 k) s.m1, l1 := k0_pay9 v6 (blkAt X6 k) s.m1 s.l1 }
            -∗ Q ⟨k0_pay2 (blkAt X6 k), k0_pay3 (blkAt X7 k), k0_pay10 v6 (blkAt X6 k) s.m1 s.a1, k0_pay11 v6 (blkAt X6 k) (blkAt X7 k) s.m1⟩))
      ⊢ wp frame (wpE (defs₀ (F := F)) Variants.none (c : Thread nD τ) none) Set.univ (k0_part1 i arg3 harg3 arg4 harg4 arg5 harg5 arg6 harg6 arg7 harg7 arg8 harg8 arg9 harg9 arg10 harg10 arg11 harg11 arg12 harg12 arg13 harg13 arg14 harg14 v6 0#32 1#32 k) Q := by
  rw [k0_part1_eq_skeleton]
  unfold k0_part1_skel held blkAt
  dsimp only
  iintro ⟨⟨H3, H4, H5, H6, H7, H8, H9, H10, H11, H12, H13, H14⟩, HK⟩
  iapply (Owned.load Variants.none (c : Thread nD τ) none Set.univ) $$ H6; iintro H6
  iapply (Owned.load Variants.none (c : Thread nD τ) none Set.univ) $$ H7; iintro H7
  iapply (Owned.load Variants.none (c : Thread nD τ) none Set.univ) $$ H9; iintro H9
  iapply (Owned.load Variants.none (c : Thread nD τ) none Set.univ) $$ H9; iintro H9
  iapply (Owned.store Variants.none (c : Thread nD τ) none Set.univ (by decide)) $$ H9; iintro H9
  iapply (Owned.load Variants.none (c : Thread nD τ) none Set.univ) $$ H10; iintro H10
  iapply (Owned.load Variants.none (c : Thread nD τ) none Set.univ) $$ H10; iintro H10
  iapply (Owned.store Variants.none (c : Thread nD τ) none Set.univ (by decide)) $$ H10; iintro H10
  iapply (Owned.load Variants.none (c : Thread nD τ) none Set.univ) $$ H11; iintro H11
  rw [wp_pure]
  simp only [View.ld_unit_lit (S := S256x128) _ _ (show ∀ a, (![0, 0] : Fin 2 → Nat) a = 0 by decide)]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- One trip's second part: the first half's weighted sum stored, then the second half. -/
theorem part2_run (v10 : FVec F S256x128 .bf16) (v91 v94 : FVec F S512x128 .bf16) (v123 v125 : FVec F S256x128 .f32)
    (X3 : Vec F S4x64 .f32) (X4 : Vec F S1x128 .f32) (X5 : Vec F S1x256x128 .bf16)
    (X6 X7 : Vec F S1x8192x128 .bf16) (X8 : Vec F S1x256x128 .bf16) (s : State F) (Q) :
    iprop(held c arg3 arg4 arg5 arg6 arg7 arg8 arg9 arg10 arg11 arg12 arg13 arg14 X3 X4 X5 X6 X7 X8 s
        ∗ (held c arg3 arg4 arg5 arg6 arg7 arg8 arg9 arg10 arg11 arg12 arg13 arg14 X3 X4 X5 X6 X7 X8
              { s with a1 := k0_pay12 v123 v125, m2 := k0_pay17 v10 v91 s.m2, l2 := k0_pay18 v10 v91 s.m2 s.l2, a2 := k0_pay19 v10 v91 v94 s.m2 s.a2 }
            -∗ Q ⟨⟩))
      ⊢ wp frame (wpE (defs₀ (F := F)) Variants.none (c : Thread nD τ) none) Set.univ (k0_part2 i arg3 harg3 arg4 harg4 arg5 harg5 arg6 harg6 arg7 harg7 arg8 harg8 arg9 harg9 arg10 harg10 arg11 harg11 arg12 harg12 arg13 harg13 arg14 harg14 v10 v91 v94 v123 v125) Q := by
  rw [k0_part2_eq_skeleton]
  unfold k0_part2_skel held
  dsimp only
  iintro ⟨⟨H3, H4, H5, H6, H7, H8, H9, H10, H11, H12, H13, H14⟩, HK⟩
  iapply (Owned.load Variants.none (c : Thread nD τ) none Set.univ) $$ H11; iintro H11
  iapply (Owned.store Variants.none (c : Thread nD τ) none Set.univ (by decide)) $$ H11; iintro H11
  iapply (Owned.load Variants.none (c : Thread nD τ) none Set.univ) $$ H12; iintro H12
  iapply (Owned.load Variants.none (c : Thread nD τ) none Set.univ) $$ H12; iintro H12
  iapply (Owned.store Variants.none (c : Thread nD τ) none Set.univ (by decide)) $$ H12; iintro H12
  iapply (Owned.load Variants.none (c : Thread nD τ) none Set.univ) $$ H13; iintro H13
  iapply (Owned.load Variants.none (c : Thread nD τ) none Set.univ) $$ H13; iintro H13
  iapply (Owned.store Variants.none (c : Thread nD τ) none Set.univ (by decide)) $$ H13; iintro H13
  iapply (Owned.load Variants.none (c : Thread nD τ) none Set.univ) $$ H14; iintro H14
  iapply (Owned.load Variants.none (c : Thread nD τ) none Set.univ) $$ H14; iintro H14
  iapply (Owned.store Variants.none (c : Thread nD τ) none Set.univ (by decide)) $$ H14; iintro H14
  rw [wp_pure]
  simp only [View.ld_unit_lit (S := S256x128) _ _ (show ∀ a, (![0, 0] : Fin 2 → Nat) a = 0 by decide)]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- One whole trip. -/
theorem trip_run (v6 v10 : FVec F S256x128 .bf16) (v30 : FVec F S256x128 .f32) (k : Fin k0_t1_loop.trips) (acc : Unit) (X3 : Vec F S4x64 .f32) (X4 : Vec F S1x128 .f32) (X5 : Vec F S1x256x128 .bf16)
    (X6 X7 : Vec F S1x8192x128 .bf16) (X8 : Vec F S1x256x128 .bf16) (s : State F) :
    held c arg3 arg4 arg5 arg6 arg7 arg8 arg9 arg10 arg11 arg12 arg13 arg14 X3 X4 X5 X6 X7 X8 s
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 v6 v10 v30 k acc)
        (fun _ => held c arg3 arg4 arg5 arg6 arg7 arg8 arg9 arg10 arg11 arg12 arg13 arg14 X3 X4 X5 X6 X7 X8 (trip v6 v10 (blkAt X6 k) (blkAt X7 k) s)) := by
  unfold k0_t1_body
  dsimp only
  rw [wp_bind]
  iintro H
  iapply (part1_run (F := F) c i arg3 harg3 arg4 harg4 arg5 harg5 arg6 harg6 arg7 harg7 arg8 harg8 arg9 harg9 arg10 harg10 arg11 harg11 arg12 harg12 arg13 harg13 arg14 harg14 v6 k X3 X4 X5 X6 X7 X8 s _)
  isplitl [H]; · iexact H
  iintro H
  rw [wp_bind]
  iapply (part2_run (F := F) c i arg3 harg3 arg4 harg4 arg5 harg5 arg6 harg6 arg7 harg7 arg8 harg8 arg9 harg9 arg10 harg10 arg11 harg11 arg12 harg12 arg13 harg13 arg14 harg14 v10 _ _ _ _ X3 X4 X5 X6 X7 X8 _ _)
  isplitl [H]; · iexact H
  iintro H
  rw [wp_pure]
  imodintro
  unfold held trip
  iexact H

/-- The part with the loop, from the scratch buffers that the part before it leaves. -/
theorem part4_run (v6 v10 : FVec F S256x128 .bf16) (X3 : Vec F S4x64 .f32) (X4 : Vec F S1x128 .f32) (X5 : Vec F S1x256x128 .bf16)
    (X6 X7 : Vec F S1x8192x128 .bf16) (X8 : Vec F S1x256x128 .bf16) (l2 a2 : Vec F S256x128 .f32) (Q) :
    iprop(held c arg3 arg4 arg5 arg6 arg7 arg8 arg9 arg10 arg11 arg12 arg13 arg14 X3 X4 X5 X6 X7 X8 { (start : State F) with l2 := l2, a2 := a2 }
        ∗ (held c arg3 arg4 arg5 arg6 arg7 arg8 arg9 arg10 arg11 arg12 arg13 arg14 X3 X4 X5 X6 X7 X8 (stateAt v6 v10 X6 X7 k0_t1_loop.trips)
            -∗ Q ⟨k0_pay29 (stateAt v6 v10 X6 X7 k0_t1_loop.trips).a1 (stateAt v6 v10 X6 X7 k0_t1_loop.trips).l1,
                  k0_pay30 X3 (stateAt v6 v10 X6 X7 k0_t1_loop.trips).a2 (stateAt v6 v10 X6 X7 k0_t1_loop.trips).l2⟩))
      ⊢ wp frame (wpE (defs₀ (F := F)) Variants.none (c : Thread nD τ) none) Set.univ (k0_part4 i arg3 harg3 arg4 harg4 arg5 harg5 arg6 harg6 arg7 harg7 arg8 harg8 arg9 harg9 arg10 harg10 arg11 harg11 arg12 harg12 arg13 harg13 arg14 harg14 v6 v10 (k0_pay27 (F := F))) Q := by
  rw [k0_part4_eq_skeleton]
  unfold k0_part4_skel held
  dsimp only
  iintro ⟨⟨H3, H4, H5, H6, H7, H8, H9, H10, H11, H12, H13, H14⟩, HK⟩
  iapply (Owned.store Variants.none (c : Thread nD τ) none Set.univ (by decide)) $$ H13; iintro H13
  iapply (Owned.load Variants.none (c : Thread nD τ) none Set.univ) $$ H14; iintro H14
  iapply (Owned.store Variants.none (c : Thread nD τ) none Set.univ (by decide)) $$ H14; iintro H14
  iapply (Scf.wp_for_bind frame (wpE (defs₀ (F := F)) Variants.none (c : Thread nD τ) none) Set.univ _ _ _ k0_t1_ok ⟨⟩ _
    (fun k _ => held c arg3 arg4 arg5 arg6 arg7 arg8 arg9 arg10 arg11 arg12 arg13 arg14 X3 X4 X5 X6 X7 X8 (stateAt v6 v10 X6 X7 k))
    (fun k acc => by
      refine (trip_run (F := F) c i arg3 harg3 arg4 harg4 arg5 harg5 arg6 harg6 arg7 harg7 arg8 harg8 arg9 harg9 arg10 harg10 arg11 harg11 arg12 harg12 arg13 harg13 arg14 harg14 v6 v10 (k0_pay27 (F := F)) k acc X3 X4 X5 X6 X7 X8 (stateAt v6 v10 X6 X7 k.val)).trans ?_
      rw [stateAt_succ])) $$ [H3 H4 H5 H6 H7 H8 H9 H10 H11 H12 H13 H14]
  · unfold held
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %u H
  unfold held
  icases H with ⟨H3, H4, H5, H6, H7, H8, H9, H10, H11, H12, H13, H14⟩
  iapply (Owned.load Variants.none (c : Thread nD τ) none Set.univ) $$ H3; iintro H3
  iapply (Owned.load Variants.none (c : Thread nD τ) none Set.univ) $$ H11; iintro H11
  iapply (Owned.load Variants.none (c : Thread nD τ) none Set.univ) $$ H10; iintro H10
  iapply (Owned.load Variants.none (c : Thread nD τ) none Set.univ) $$ H14; iintro H14
  iapply (Owned.load Variants.none (c : Thread nD τ) none Set.univ) $$ H13; iintro H13
  rw [wp_pure]
  simp only [View.ld_unit_lit (S := S256x128) _ _ (show ∀ a, (![0, 0] : Fin 2 → Nat) a = 0 by decide), View.ld_unit_lit (S := S4x64) _ _ (show ∀ a, (![0, 0] : Fin 2 → Nat) a = 0 by decide)]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body: the inputs stay, the output's buffer ends at `result`. -/
theorem body_run (X3 : Vec F S4x64 .f32) (X4 : Vec F S1x128 .f32) (X5 : Vec F S1x256x128 .bf16)
    (X6 X7 : Vec F S1x8192x128 .bf16) (X8 : Vec F S1x256x128 .bf16) (s : State F)
    (Q : PUnit → sProp (MT nD τ sig Unit (Elt F) ℕ (UR sig nD τ) ℕ)) :
    iprop(held c arg3 arg4 arg5 arg6 arg7 arg8 arg9 arg10 arg11 arg12 arg13 arg14 X3 X4 X5 X6 X7 X8 s
        ∗ (held c arg3 arg4 arg5 arg6 arg7 arg8 arg9 arg10 arg11 arg12 arg13 arg14 X3 X4 X5 X6 X7 (result X3 X4 X5 X6 X7)
            (stateAt (k0_pay21 X5) (k0_pay22 X5) X6 X7 k0_t1_loop.trips) -∗ Q ⟨⟩))
      ⊢ wp frame (wpE (defs₀ (F := F)) Variants.none (c : Thread nD τ) none) Set.univ (cc0_diff_attention (F := F) i arg3 harg3 arg4 harg4 arg5 harg5 arg6 harg6 arg7 harg7 arg8 harg8 arg9 harg9 arg10 harg10 arg11 harg11 arg12 harg12 arg13 harg13 arg14 harg14) Q := by
  rw [cc0_diff_attention_eq_skeleton]
  unfold cc0_diff_attention_skel
  rw [wp_bind]
  iintro ⟨H, HK⟩
  iapply (part3_run (F := F) c i arg3 harg3 arg4 harg4 arg5 harg5 arg6 harg6 arg7 harg7 arg8 harg8 arg9 harg9 arg10 harg10 arg11 harg11 arg12 harg12 arg13 harg13 arg14 harg14 X3 X4 X5 X6 X7 X8 s _)
  isplitl [H]; · iexact H
  iintro H
  dsimp only
  rw [wp_bind]
  iapply (part4_run (F := F) c i arg3 harg3 arg4 harg4 arg5 harg5 arg6 harg6 arg7 harg7 arg8 harg8 arg9 harg9 arg10 harg10 arg11 harg11 arg12 harg12 arg13 harg13 arg14 harg14 (k0_pay21 X5) (k0_pay22 X5) X3 X4 X5 X6 X7 X8 s.l2 s.a2 _)
  isplitl [H]; · iexact H
  iintro H
  dsimp only
  unfold held
  icases H with ⟨H3, H4, H5, H6, H7, H8, H9, H10, H11, H12, H13, H14⟩
  iapply (Owned.load Variants.none (c : Thread nD τ) none Set.univ) $$ H4; iintro H4
  iapply (Owned.load Variants.none (c : Thread nD τ) none Set.univ) $$ H8; iintro H8
  iapply (Owned.store Variants.none (c : Thread nD τ) none Set.univ (by decide)) $$ H8; iintro H8
  rw [wp_pure]
  simp only [View.ld_unit_lit (S := S1x128) _ _ (show ∀ a, (![0, 0] : Fin 2 → Nat) a = 0 by decide)]
  imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Run

/-! ## The launch -/

variable (m : (ℓ : Loc nD τ sig) → Buf (Elt F) ℓ) (ρ : Dev nD → PrngReg)

/-- What the body leaves in the output's buffer at point `t`. -/
def outAt (c : Dev nD) (t : Fin cfg0.N) : Vec F S1x256x128 .bf16 :=
  result (iblk m c 0 t) (iblk m c 1 t) (iblk m c 2 t) (iblk m c 3 t) (iblk m c 4 t)

/-- The proof data of the pipelined call: inputs stay, the output's block is `outAt`, the scratch buffers are at
    anything; each input holds its share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is entered with at point `t`. -/
def bodyPre (c : Dev nD) (t : Fin cfg0.N) : sProp 𝕄 := iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body leaves at point `t`. -/
def bodyPost (c : Dev nD) (t : Fin cfg0.N) : sProp 𝕄 := iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

/-- A scratch buffer at anything is held at some contents. -/
theorem scratch_held (c : Dev nD) (b : Ref sig .tc) : (iprop(∃ f, ((c : Thread nD τ).loc b) ↦{fullShare} f) : sProp 𝕄)
    ⊢ iprop(∃ X, owns (c : Thread nD τ) (Memref.whole b) fullShare X) := by
  iintro ⟨%f, H⟩
  iexists f
  rw [owns_whole]
  iexact H

/-- And the converse. -/
theorem held_scratch (c : Dev nD) (b : Ref sig .tc) (X : b.ty.Contents (Elt F)) : (owns (c : Thread nD τ) (Memref.whole b) fullShare X : sProp 𝕄)
    ⊢ iprop(∃ f, ((c : Thread nD τ).loc b) ↦{fullShare} f) := by
  rw [owns_whole_eq]
  iintro ⟨%f, %hf, H⟩
  iexists f
  iexact H

set_option maxHeartbeats 1000000 in
/-- The body at point `t`. -/
theorem sound_body (c : Dev nD) (t : Fin cfg0.N) : bodyPre m c t
    ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [show (dats m 0 c).leavesExact 0 t = owns (c : Thread nD τ) (st0_0 t) fullShare ((dats m 0 c).after 0 t) from by
    unfold Dat.leavesExact; rw [show cfg0.idle 0 (grid0.coords t) = false from rfl], after0_0]
  rw [show (dats m 0 c).leavesExact 1 t = owns (c : Thread nD τ) (st0_1 t) fullShare ((dats m 0 c).after 1 t) from by
    unfold Dat.leavesExact; rw [show cfg0.idle 1 (grid0.coords t) = false from rfl], after0_1]
  rw [show (dats m 0 c).leavesExact 2 t = owns (c : Thread nD τ) (st0_2 t) fullShare ((dats m 0 c).after 2 t) from by
    unfold Dat.leavesExact; rw [show cfg0.idle 2 (grid0.coords t) = false from rfl], after0_2]
  rw [show (dats m 0 c).leavesExact 3 t = owns (c : Thread nD τ) (st0_3 t) fullShare ((dats m 0 c).after 3 t) from by
    unfold Dat.leavesExact; rw [show cfg0.idle 3 (grid0.coords t) = false from rfl], after0_3]
  rw [show (dats m 0 c).leavesExact 4 t = owns (c : Thread nD τ) (st0_4 t) fullShare ((dats m 0 c).after 4 t) from by
    unfold Dat.leavesExact; rw [show cfg0.idle 4 (grid0.coords t) = false from rfl], after0_4]
  rw [show (dats m 0 c).leavesExact 5 t = owns (c : Thread nD τ) (st0_5 t) fullShare ((dats m 0 c).after 5 t) from by
    unfold Dat.leavesExact; rw [show cfg0.idle 5 (grid0.coords t) = false from rfl], after0_5]
  unfold Pipeline.ΦA
  rw [scopedRest0_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩⟩
  ihave ⟨%s0, S0⟩ := (scratch_held (F := F) c cc0_scratch0) $$ S0
  ihave ⟨%s1, S1⟩ := (scratch_held (F := F) c cc0_scratch1) $$ S1
  ihave ⟨%s2, S2⟩ := (scratch_held (F := F) c cc0_scratch2) $$ S2
  ihave ⟨%s3, S3⟩ := (scratch_held (F := F) c cc0_scratch3) $$ S3
  ihave ⟨%s4, S4⟩ := (scratch_held (F := F) c cc0_scratch4) $$ S4
  ihave ⟨%s5, S5⟩ := (scratch_held (F := F) c cc0_scratch5) $$ S5
  iapply (body_run (F := F) c (grid0.coords t) _ _ _ _ _ _ _ _ _ _ _ _ _ _ _ _ _ _ _ _ _ _ _ _ (iblk m c 0 t) (iblk m c 1 t) (iblk m c 2 t) (iblk m c 3 t) (iblk m c 4 t) _ ⟨s0, s1, s2, s3, s4, s5⟩ _)
  unfold held
  isplitl [S0 S1 S2 S3 S4 S5 H0 H1 H2 H3 H4 H5]
  · isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    iexact S5
  iintro ⟨H0, H1, H2, H3, H4, H5, S0, S1, S2, S3, S4, S5⟩
  isplitl [S0 S1 S2 S3 S4 S5 Hg]
  · isplitl [S0 S1 S2 S3 S4 S5]
    · isplitl [S0]; · iapply (held_scratch (F := F) c cc0_scratch0 _); iexact S0
      isplitl [S1]; · iapply (held_scratch (F := F) c cc0_scratch1 _); iexact S1
      isplitl [S2]; · iapply (held_scratch (F := F) c cc0_scratch2 _); iexact S2
      isplitl [S3]; · iapply (held_scratch (F := F) c cc0_scratch3 _); iexact S3
      isplitl [S4]; · iapply (held_scratch (F := F) c cc0_scratch4 _); iexact S4
      iapply (held_scratch (F := F) c cc0_scratch5 _); iexact S5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body as the pipeline calls it at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end at what the proof data says, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every execution ends, the argument arrays are unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.DiffIdeal.Body

end
-- ==== Proof.DiffMath.lean ====
/-
  The arithmetic of one row of differential attention, on the extended reals.

  Two score sequences give two attentions over the same values; the second is weighed with a number that is computed from
  four rows of parameters, the difference is normed over its 128 lanes, and a gain and a constant are multiplied on.
  With real values and a real weight it does not matter whether the two attentions or their weights are subtracted.
-/
module

public import proofs.«01_k».proof.Proof.Softmax

@[expose] public section

noncomputable section

namespace Cert.DiffMath

open Idealize.ShloMosaic Finset Cert.Softmax

/-- The constant part of the second attention's weight. -/
def lam : EReal := ((1 / 5 : ℝ) : EReal)

/-- One less `lam`. -/
def lamc : EReal := ((4 / 5 : ℝ) : EReal)

/-- The number added to a mean square before its root is taken. -/
def eps : EReal := ((1 / 1000000 : ℝ) : EReal)

theorem one_bits : Ideal.ofBits .f32 0x3F800000#32 = ((1 : ℝ) : EReal) := by
  simp [Ideal.ofBits, Ideal.ieee]; norm_cast; norm_num

/-- One divided by five. -/
theorem lam_eq : Ideal.div (Ideal.ofBits .f32 0x3F800000#32) (Ideal.ofBits .f32 0x40A00000#32) = lam := by
  have h2 : Ideal.ofBits .f32 0x40A00000#32 = ((5 : ℝ) : EReal) := by
    simp [Ideal.ofBits, Ideal.ieee]; norm_cast; norm_num
  rw [one_bits, h2, Ideal.div_coe (by norm_num)]
  simp [lam]

/-- One less one fifth. -/
theorem lamc_eq : Ideal.ofBits .f32 0x3F800000#32 - lam = lamc := by
  rw [one_bits, lam, lamc, ← EReal.coe_sub]
  norm_num

/-- One divided by a million. -/
theorem eps_eq : Ideal.div (Ideal.ofBits .f32 0x3F800000#32) (Ideal.ofBits .f32 0x49742400#32) = eps := by
  have h2 : Ideal.ofBits .f32 0x49742400#32 = ((1000000 : ℝ) : EReal) := by
    simp [Ideal.ofBits, Ideal.ieee]; norm_cast; norm_num
  rw [one_bits, h2, Ideal.div_coe (by norm_num)]
  simp [eps]

/-- The second attention's weight, from the four rows of parameters. -/
def second (p : Fin 4 → Fin 64 → EReal) : EReal :=
  Ideal.exp (∑ t : Fin 64, p 0 t * p 1 t) - Ideal.exp (∑ t : Fin 64, p 2 t * p 3 t) + lam

/-- Of real parameters the weight is a real. -/
theorem second_real (p : Fin 4 → Fin 64 → EReal) (h : ∀ a t, ∃ r : ℝ, p a t = (r : EReal)) : ∃ r : ℝ, second p = (r : EReal) := by
  choose r hr using h
  have hp : p = fun a t => (r a t : EReal) := by funext a t; exact hr a t
  refine ⟨Real.exp (∑ t : Fin 64, r 0 t * r 1 t) - Real.exp (∑ t : Fin 64, r 2 t * r 3 t) + 1 / 5, ?_⟩
  subst hp
  simp only [second, lam, ← EReal.coe_mul]
  rw [← real_sum, ← real_sum, Ideal.exp_coe, Ideal.exp_coe, ← EReal.coe_sub, ← EReal.coe_add]

/-- A row's norm over its 128 lanes, times its gain and `lamc`. -/
def normed (o g : Fin 128 → EReal) (d : Fin 128) : EReal :=
  o d * Ideal.rsqrt (Ideal.div (∑ t : Fin 128, o t * o t) (Ideal.ofBits .f32 0x43000000#32) + eps) * g d * lamc

/-- The difference of the two attentions over the values `V`. -/
def differ (N : ℕ) (S1 S2 : ℕ → ℝ) (lm : EReal) (V : ℕ → EReal) : EReal := attend N S1 V - lm * attend N S2 V

/-- The plain formula's quotient is the weight. -/
theorem quotient_eq (N : ℕ) (hN : 0 < N) (S : ℕ → ℝ) (s : Fin N → EReal) (hs : ∀ j, s j = (S j.val : EReal)) (j : Fin N) :
    Ideal.div (Ideal.pow ((2 : ℝ) : EReal) (s j - univ.fold max (⊥ : EReal) s))
      (∑ i : Fin N, Ideal.pow ((2 : ℝ) : EReal) (s i - univ.fold max (⊥ : EReal) s)) = (weight N S j.val : EReal) := by
  haveI : Nonempty (Fin N) := ⟨⟨0, hN⟩⟩
  obtain ⟨β, hβ⟩ := fold_max_coe fun j : Fin N => S j.val
  have hs' : s = fun j : Fin N => (S j.val : EReal) := funext hs
  subst hs'
  rw [hβ]
  simp only [pow_two_sub]
  rw [← real_sum univ fun i : Fin N => (2 : ℝ) ^ (S i.val - β), ← Finset.sum_range fun i => (2 : ℝ) ^ (S i - β),
    Ideal.div_coe (sum_pow_pos N hN S β).ne', ← EReal.coe_mul, mul_one_div, weight_shift]

/-- Subtracting the weights subtracts the attentions, for real values and a real weight. -/
theorem differ_eq (N : ℕ) (S1 S2 : ℕ → ℝ) (lm : ℝ) (V : ℕ → ℝ) :
    (∑ j : Fin N, (V j.val : EReal) * ((weight N S1 j.val : EReal) - (lm : EReal) * (weight N S2 j.val : EReal)))
      = differ N S1 S2 (lm : EReal) fun j => (V j : EReal) := by
  simp only [differ, attend, ← EReal.coe_mul, ← EReal.coe_sub]
  rw [← real_sum, ← real_sum, ← real_sum, ← EReal.coe_mul, ← EReal.coe_sub, mul_sum, ← sum_sub_distrib, Finset.sum_range]
  congr 1
  exact sum_congr rfl fun j _ => by ring

end Cert.DiffMath

end
-- ==== Proof.DiffIdealRows.lean ====
/-
  What `DiffIdeal`'s body computes on a block, read at an index over the extended reals.

  Each row of a half runs through the tiled softmax of `Softmax`: `rows1` and `rows2` say that the half's three scratch
  buffers are, row by row, in the state that `Softmax.Row` describes, and `result_apply` reads the stored block off it.
-/
module

public import proofs.«01_k».proof.Proof.DiffIdealBody
public import proofs.«01_k».proof.Proof.DiffMath
public import Idealize.ShloMosaic.Lib.Pointwise

@[expose] public section

noncomputable section

namespace Cert.DiffIdeal.Rows

open Cert.DiffIdeal Cert.DiffIdeal.Gen Cert.DiffIdeal.Body Cert.Softmax Cert.DiffMath
open Idealize.ShloMosaic Finset

/-! ## One trip of one half -/

/-- Minus infinity's bits read as `⊥`. -/
theorem neg_inf : Ideal.ofBits .f32 0xFF800000#32 = ⊥ := by simp [Ideal.ofBits, Ideal.ieee]

section Half

variable (v : FVec Ideal S256x128 .bf16) (kb vb : Vec Ideal S1x512x128 .bf16) (m l a : Vec Ideal S256x128 .f32) (r : Fin 256)

/-- The scores of a tile. -/
theorem scores_apply (j : Fin 512) : k0_pay4 v kb (ix2 r j) = ∑ x : Fin 128, v (ix2 r x) * kb (ix3 0 j x) := by
  pointwise [k0_pay4, k0_pay2]

/-- The new maximum. -/
theorem max_apply (c : Fin 128) : k0_pay5 v kb m (ix2 r c)
    = max (m (ix2 r c)) (univ.fold max (⊥ : EReal) fun j : Fin 512 => k0_pay4 v kb (ix2 r j)) := by
  pointwise [k0_pay5]
  rw [neg_inf]

/-- The powers of a tile: each against some lane's new maximum. -/
theorem power_apply (j : Fin 512) :
    ∃ c : Fin 128, k0_pay7 v kb m (ix2 r j) = Ideal.exp2 (k0_pay4 v kb (ix2 r j) - k0_pay5 v kb m (ix2 r c)) := by
  pointwise [k0_pay7]
  split
  · exact ⟨_, rfl⟩
  split
  · exact ⟨_, rfl⟩
  split
  · exact ⟨_, rfl⟩
  exact ⟨_, rfl⟩

/-- The rescaling factor. -/
theorem factor_apply (c : Fin 128) : k0_pay6 v kb m (ix2 r c) = Ideal.exp2 (m (ix2 r c) - k0_pay5 v kb m (ix2 r c)) := by
  pointwise [k0_pay6]
  rfl

/-- The maximum buffer after the trip. -/
theorem m_apply (c : Fin 128) : k0_pay8 v kb m (ix2 r c) = k0_pay5 v kb m (ix2 r c) := by
  pointwise [k0_pay8]

/-- The sum buffer after the trip. -/
theorem l_apply (c : Fin 128) : k0_pay9 v kb m l (ix2 r c) = k0_pay6 v kb m (ix2 r c) * l (ix2 r c)
    + (k0_pay7 v kb m (ix2 r ⟨c.val, by omega⟩) + k0_pay7 v kb m (ix2 r ⟨128 + c.val, by omega⟩)
      + k0_pay7 v kb m (ix2 r ⟨256 + c.val, by omega⟩) + k0_pay7 v kb m (ix2 r ⟨384 + c.val, by omega⟩)) := by
  pointwise [k0_pay9]

/-- The weighted sums after the trip. -/
theorem a_apply (d : Fin 128) : k0_pay12 (k0_pay10 v kb m a) (k0_pay11 v kb vb m) (ix2 r d)
    = k0_pay6 v kb m (ix2 r d) * a (ix2 r d) + ∑ j : Fin 512, k0_pay7 v kb m (ix2 r j) * vb (ix3 0 j d) := by
  pointwise [k0_pay12, k0_pay10, k0_pay11, k0_pay3]

/-- One trip moves a row one tile on. -/
theorem half_step (S : ℕ → ℝ) (V : Fin 128 → ℕ → EReal) (n : ℕ)
    (h : Row S V n (fun c => m (ix2 r c)) (fun c => l (ix2 r c)) (fun d => a (ix2 r d)))
    (hs : ∀ j : Fin 512, ∑ x : Fin 128, v (ix2 r x) * kb (ix3 0 j x) = (S (512 * n + j.val) : EReal))
    (hv : ∀ (j : Fin 512) (d : Fin 128), vb (ix3 0 j d) = V d (512 * n + j.val)) :
    Row S V (n + 1) (fun c => k0_pay8 v kb m (ix2 r c)) (fun c => k0_pay9 v kb m l (ix2 r c))
      (fun d => k0_pay12 (k0_pay10 v kb m a) (k0_pay11 v kb vb m) (ix2 r d)) := by
  refine row_step S V n _ _ _ _ _ _ h (fun j => k0_pay4 v kb (ix2 r j)) (fun j d => vb (ix3 0 j d))
    (fun j => by rw [scores_apply, hs]) hv (fun c => by rw [m_apply, max_apply]) (fun j => k0_pay7 v kb m (ix2 r j))
    (fun j => ?_) (fun c => ?_) fun d => ?_
  · obtain ⟨c, hc⟩ := power_apply v kb m r j
    exact ⟨c, by rw [hc, m_apply]⟩
  · rw [l_apply, factor_apply, m_apply]
  · rw [a_apply, factor_apply, m_apply]

/-- The second half's payloads are the first half's. -/
theorem twin_m : k0_pay17 v (k0_pay2 kb) m = k0_pay8 v kb m := rfl
theorem twin_l : k0_pay18 v (k0_pay2 kb) m l = k0_pay9 v kb m l := rfl
theorem twin_a : k0_pay19 v (k0_pay2 kb) (k0_pay3 vb) m a = k0_pay12 (k0_pay10 v kb m a) (k0_pay11 v kb vb m) := rfl

end Half

/-! ## The loop -/

/-- The scratch before the loop: the maxima at `⊥`, the sums at zero. -/
theorem mask_eq : Named.named (F := Ideal) (φ := .f32) κ "mask" 0xF149F2CA#32 = (⊥ : EReal) := by rfl

theorem trips_eq : k0_t1_loop.trips = 16 := by decide +kernel

theorem off_eq : ∀ k : Fin k0_t1_loop.trips, k0_off1 k = ![0, 512 * k.val, 0] := by decide +kernel

/-- Trip `k` reads rows `512 k` to `512 k + 511`. -/
theorem blkAt_apply (X : Vec Ideal S1x8192x128 .bf16) (k : Fin k0_t1_loop.trips) (j : Fin 512) (d : Fin 128) (h : 512 * k.val + j.val < 8192) :
    blkAt X k (ix3 0 j d) = X (ix3 0 ⟨512 * k.val + j.val, h⟩ d) := by
  pointwise [blkAt]
  congr 1
  funext a; apply Fin.ext
  match a with
  | ⟨0, _⟩ => show k0_off1 k 0 + 0 = 0; rw [off_eq]; rfl
  | ⟨1, _⟩ => show k0_off1 k 1 + j.val = 512 * k.val + j.val; rw [off_eq]; rfl
  | ⟨2, _⟩ => show k0_off1 k 2 + d.val = d.val; rw [off_eq]; exact Nat.zero_add _

/-- Lanes below 64 belong to the first half. -/
theorem lane_lt : ∀ d : Fin 128, IntOp.cmpi .slt (BitVec.ofNat 32 d.val) 64#32 = if d.val < 64 then 1#1 else 0#1 := by
  decide +kernel

/-- The other lanes belong to the second half. -/
theorem lane_ge : ∀ d : Fin 128, IntOp.cmpi .sge (BitVec.ofNat 32 d.val) 64#32 = if d.val < 64 then 0#1 else 1#1 := by
  decide +kernel

/-- The first half's queries: the other lanes are zero. -/
theorem q1_apply (X5 : Vec Ideal S1x256x128 .bf16) (r : Fin 256) (x : Fin 128) :
    k0_pay21 X5 (ix2 r x) = if x.val < 64 then X5 (ix3 0 r x) else 0 := by
  pointwise [k0_pay21, k0_pay20]
  rw [lane_lt]
  by_cases hx : x.val < 64
  · rw [if_pos hx, if_pos hx]; rfl
  · rw [if_neg hx, if_neg hx]; rfl

/-- The second half's queries. -/
theorem q2_apply (X5 : Vec Ideal S1x256x128 .bf16) (r : Fin 256) (x : Fin 128) :
    k0_pay22 X5 (ix2 r x) = if x.val < 64 then 0 else X5 (ix3 0 r x) := by
  pointwise [k0_pay22, k0_pay20]
  rw [lane_ge]
  by_cases hx : x.val < 64
  · rw [if_pos hx, if_pos hx]; rfl
  · rw [if_neg hx, if_neg hx]; rfl

/-- A sum over 128 lanes whose second half is zero. -/
theorem sum_low (f g : Fin 128 → EReal) : ∑ x : Fin 128, (if x.val < 64 then f x else 0) * g x
    = ∑ t : Fin 64, f ⟨t.val, by omega⟩ * g ⟨t.val, by omega⟩ := by
  rw [show (∑ x : Fin 128, (if x.val < 64 then f x else 0) * g x) = ∑ x : Fin (64 + 64), (if x.val < 64 then f x else 0) * g x from rfl,
    Fin.sum_univ_add]
  have h2 : ∀ t : Fin 64, (if (Fin.natAdd 64 t : Fin (64 + 64)).val < 64 then f (Fin.natAdd 64 t) else 0) * g (Fin.natAdd 64 t) = 0 := fun t => by
    rw [if_neg (by simp), zero_mul]
  rw [sum_eq_zero fun t _ => h2 t, add_zero]
  refine sum_congr rfl fun t _ => ?_
  rw [if_pos (by simp)]
  rfl

/-- A sum over 128 lanes whose first half is zero. -/
theorem sum_high (f g : Fin 128 → EReal) : ∑ x : Fin 128, (if x.val < 64 then 0 else f x) * g x
    = ∑ t : Fin 64, f ⟨64 + t.val, by omega⟩ * g ⟨64 + t.val, by omega⟩ := by
  rw [show (∑ x : Fin 128, (if x.val < 64 then 0 else f x) * g x) = ∑ x : Fin (64 + 64), (if x.val < 64 then 0 else f x) * g x from rfl,
    Fin.sum_univ_add]
  have h2 : ∀ t : Fin 64, (if (Fin.castAdd 64 t : Fin (64 + 64)).val < 64 then 0 else f (Fin.castAdd 64 t)) * g (Fin.castAdd 64 t) = 0 := fun t => by
    rw [if_pos (by simp), zero_mul]
  rw [sum_eq_zero fun t _ => h2 t, zero_add]
  refine sum_congr rfl fun t _ => ?_
  rw [if_neg (by simp)]
  rfl

variable (X5 : Vec Ideal S1x256x128 .bf16) (X6 X7 : Vec Ideal S1x8192x128 .bf16) (r : Fin 256) (S : ℕ → ℝ) (V : Fin 128 → ℕ → EReal)

/-- The first half's rows before trip `n`. -/
theorem rows1 (v10 : FVec Ideal S256x128 .bf16)
    (hs : ∀ j : Fin 8192, ∑ t : Fin 64, X5 (ix3 0 r ⟨t.val, by omega⟩) * X6 (ix3 0 j ⟨t.val, by omega⟩) = (S j.val : EReal))
    (hv : ∀ (j : Fin 8192) (d : Fin 128), X7 (ix3 0 j d) = V d j.val) (n : ℕ) (hn : n ≤ 16) :
    Row S V n (fun c => (stateAt (k0_pay21 X5) v10 X6 X7 n).m1 (ix2 r c)) (fun c => (stateAt (k0_pay21 X5) v10 X6 X7 n).l1 (ix2 r c))
      (fun d => (stateAt (k0_pay21 X5) v10 X6 X7 n).a1 (ix2 r d)) := by
  induction n with
  | zero =>
    refine row_start S V _ _ _ (fun c => ?_) (fun c => ?_) fun c => ?_
    · show k0_pay23 (F := Ideal) (ix2 r c) = ⊥
      pointwise [k0_pay23]
      exact mask_eq
    · show k0_pay24 (F := Ideal) (ix2 r c) = 0
      pointwise [k0_pay24]
    · show k0_pay25 (F := Ideal) (ix2 r c) = 0
      pointwise [k0_pay25]
  | succ n ih =>
    have hk : n < k0_t1_loop.trips := by rw [trips_eq]; omega
    rw [show n + 1 = (⟨n, hk⟩ : Fin k0_t1_loop.trips).val + 1 from rfl, stateAt_succ]
    refine half_step (k0_pay21 X5) (blkAt X6 ⟨n, hk⟩) (blkAt X7 ⟨n, hk⟩) _ _ _ r S V n (ih (by omega)) (fun j => ?_) fun j d => ?_
    · rw [← hs ⟨512 * n + j.val, by omega⟩, ← sum_low (fun x => X5 (ix3 0 r x)) fun x => X6 (ix3 0 ⟨512 * n + j.val, by omega⟩ x)]
      refine sum_congr rfl fun x _ => ?_
      rw [q1_apply, blkAt_apply X6 ⟨n, hk⟩ j x (by show 512 * n + j.val < 8192; omega)]
    · rw [blkAt_apply X7 ⟨n, hk⟩ j d (by show 512 * n + j.val < 8192; omega), hv]

/-- The second half's rows before trip `n`. -/
theorem rows2 (v6 : FVec Ideal S256x128 .bf16)
    (hs : ∀ j : Fin 8192, ∑ t : Fin 64, X5 (ix3 0 r ⟨64 + t.val, by omega⟩) * X6 (ix3 0 j ⟨64 + t.val, by omega⟩) = (S j.val : EReal))
    (hv : ∀ (j : Fin 8192) (d : Fin 128), X7 (ix3 0 j d) = V d j.val) (n : ℕ) (hn : n ≤ 16) :
    Row S V n (fun c => (stateAt v6 (k0_pay22 X5) X6 X7 n).m2 (ix2 r c)) (fun c => (stateAt v6 (k0_pay22 X5) X6 X7 n).l2 (ix2 r c))
      (fun d => (stateAt v6 (k0_pay22 X5) X6 X7 n).a2 (ix2 r d)) := by
  induction n with
  | zero =>
    refine row_start S V _ _ _ (fun c => ?_) (fun c => ?_) fun c => ?_
    · show k0_pay26 (F := Ideal) (ix2 r c) = ⊥
      pointwise [k0_pay26]
      exact mask_eq
    · show k0_pay27 (F := Ideal) (ix2 r c) = 0
      pointwise [k0_pay27]
    · show k0_pay28 (F := Ideal) (ix2 r c) = 0
      pointwise [k0_pay28]
  | succ n ih =>
    have hk : n < k0_t1_loop.trips := by rw [trips_eq]; omega
    rw [show n + 1 = (⟨n, hk⟩ : Fin k0_t1_loop.trips).val + 1 from rfl, stateAt_succ]
    simp only [trip, twin_m, twin_l, twin_a]
    refine half_step (k0_pay22 X5) (blkAt X6 ⟨n, hk⟩) (blkAt X7 ⟨n, hk⟩) _ _ _ r S V n (ih (by omega)) (fun j => ?_) fun j d => ?_
    · rw [← hs ⟨512 * n + j.val, by omega⟩, ← sum_high (fun x => X5 (ix3 0 r x)) fun x => X6 (ix3 0 ⟨512 * n + j.val, by omega⟩ x)]
      refine sum_congr rfl fun x _ => ?_
      rw [q2_apply, blkAt_apply X6 ⟨n, hk⟩ j x (by show 512 * n + j.val < 8192; omega)]
    · rw [blkAt_apply X7 ⟨n, hk⟩ j d (by show 512 * n + j.val < 8192; omega), hv]

/-! ## The stored block -/

theorem named_eps : (Named.named (F := Ideal) κ "eps" (0x358637BD#32 : BitVec 32) : Ideal .f32) = eps := rfl
theorem named_lam : (Named.named (F := Ideal) κ "lam" (0x3E4CCCCD#32 : BitVec 32) : Ideal .f32) = lam := rfl
theorem named_lamc : (Named.named (F := Ideal) κ "lamc" (0x3F4CCCCD#32 : BitVec 32) : Ideal .f32) = lamc := rfl

/-- The first half's quotient. -/
theorem first_apply (a l : Vec Ideal S256x128 .f32) (d : Fin 128) :
    k0_pay29 a l (ix2 r d) = Ideal.div (a (ix2 r d)) (∑ c : Fin 128, l (ix2 r c)) := by
  pointwise [k0_pay29]

/-- The second half's quotient with its weight. -/
theorem second_apply (X3 : Vec Ideal S4x64 .f32) (a l : Vec Ideal S256x128 .f32) (d : Fin 128) :
    k0_pay30 X3 a l (ix2 r d) = second (fun i t => X3 (ix2 i t)) * Ideal.div (a (ix2 r d)) (∑ c : Fin 128, l (ix2 r c)) := by
  rw [second, ← named_lam]
  pointwise [k0_pay30]

/-- The norm of the difference. -/
theorem norm_apply (x y : FVec Ideal S256x128 .f32) (g : Vec Ideal S1x128 .f32) (d : Fin 128) :
    k0_pay1 x y g (ix3 0 r d) = normed (fun t => x (ix2 r t) - y (ix2 r t)) (fun t => g (ix2 0 t)) d := by
  rw [normed, ← named_eps, ← named_lamc]
  pointwise [k0_pay1]

/-- The stored block at row `r`, lane `d`. -/
theorem result_apply (X3 : Vec Ideal S4x64 .f32) (X4 : Vec Ideal S1x128 .f32) (S1 S2 : ℕ → ℝ)
    (hs1 : ∀ j : Fin 8192, ∑ t : Fin 64, X5 (ix3 0 r ⟨t.val, by omega⟩) * X6 (ix3 0 j ⟨t.val, by omega⟩) = (S1 j.val : EReal))
    (hs2 : ∀ j : Fin 8192, ∑ t : Fin 64, X5 (ix3 0 r ⟨64 + t.val, by omega⟩) * X6 (ix3 0 j ⟨64 + t.val, by omega⟩) = (S2 j.val : EReal))
    (hv : ∀ (j : Fin 8192) (d : Fin 128), X7 (ix3 0 j d) = V d j.val) (d : Fin 128) :
    result X3 X4 X5 X6 X7 (ix3 0 r d)
      = normed (fun t => differ 8192 S1 S2 (second fun i t => X3 (ix2 i t)) (V t)) (fun t => X4 (ix2 0 t)) d := by
  have h1 := row_end S1 V 16 (by omega) _ _ _ (rows1 X5 X6 X7 r S1 V (k0_pay22 X5) hs1 hv 16 le_rfl)
  have h2 := row_end S2 V 16 (by omega) _ _ _ (rows2 X5 X6 X7 r S2 V (k0_pay21 X5) hs2 hv 16 le_rfl)
  rw [show 512 * 16 = 8192 from by norm_num] at h1 h2
  unfold result finish
  rw [trips_eq, norm_apply]
  refine congrArg (fun o => normed o (fun t => X4 (ix2 0 t)) d) (funext fun t => ?_)
  rw [first_apply, second_apply, h1 t, h2 t, differ]

end Cert.DiffIdeal.Rows

end
-- ==== Proof.DiffIdealValue.lean ====
/-
  The differential attention's value: the function that the tiled kernel's result array holds.

  `differential q k X p g` is that function: of real queries and keys, of the array `X` for its values, of the parameters
  and the gains. `final5` says that the kernel's result array is `differential` of its argument arrays.
-/
module

public import proofs.«01_k».proof.Proof.DiffIdealRows

@[expose] public section

set_option maxRecDepth 16384

noncomputable section

namespace Cert.DiffIdeal.Value

open Cert.DiffIdeal Cert.DiffIdeal.Gen Cert.DiffIdeal.Body Cert.DiffIdeal.Rows Cert.Softmax Cert.DiffMath
open Idealize.ShloMosaic Idealize.ShloMosaic.TcCoe Idealize.SL.Sem Finset
open Idealize.ShloMosaic.Pipeline (Dat)

/-! ## The function -/

/-- The query columns of an array. -/
def queries (X : S8x8192x3840.Idx → EReal) (b : Fin 8) (r : Fin 8192) (d : Fin 512) : EReal := X (ix3 b r ⟨d.val, by omega⟩)

/-- The key columns of an array. -/
def keys (X : S8x8192x3840.Idx → EReal) (b : Fin 8) (r : Fin 8192) (d : Fin 512) : EReal := X (ix3 b r ⟨1280 + d.val, by omega⟩)

/-- The score of key `j` for query row `r` of batch `b`, in half `s` of head `h`. -/
def score (q k : Fin 8 → Fin 8192 → Fin 512 → ℝ) (b : Fin 8) (r : Fin 8192) (h : Fin 4) (s : Fin 2) (j : Fin 8192) : ℝ :=
  ∑ t : Fin 64, q b r ⟨h.val * 128 + s.val * 64 + t.val, by omega⟩ * k b j ⟨h.val * 128 + s.val * 64 + t.val, by omega⟩

/-- The scores as a sequence (zero past the last key). -/
def scores (q k : Fin 8 → Fin 8192 → Fin 512 → ℝ) (b : Fin 8) (r : Fin 8192) (h : Fin 4) (s : Fin 2) (j : ℕ) : ℝ :=
  if hj : j < 8192 then score q k b r h s ⟨j, hj⟩ else 0

/-- Column `d` of head `h`'s values as a sequence (zero past the last key). -/
def column (X : S8x8192x3840.Idx → EReal) (b : Fin 8) (h : Fin 4) (d : Fin 128) (j : ℕ) : EReal :=
  if hj : j < 8192 then X (ix3 b ⟨j, hj⟩ ⟨2560 + (h.val * 128 + d.val), by omega⟩) else 0

/-- The differential attention at row `r`, head `h`, lane `d` of batch `b`. -/
def differentialAt (q k : Fin 8 → Fin 8192 → Fin 512 → ℝ) (X : S8x8192x3840.Idx → EReal) (p : S4x64.Idx → EReal) (g : S128.Idx → EReal)
    (b : Fin 8) (r : Fin 8192) (h : Fin 4) (d : Fin 128) : EReal :=
  normed (fun t => differ 8192 (scores q k b r h 0) (scores q k b r h 1) (second fun i t => p (ix2 i t)) (column X b h t))
    (fun t => g (ix1 t)) d

/-- The differential attention's array: column `d` belongs to head `d / 128`. -/
def differential (q k : Fin 8 → Fin 8192 → Fin 512 → ℝ) (X : S8x8192x3840.Idx → EReal) (p : S4x64.Idx → EReal) (g : S128.Idx → EReal) :
    S8x8192x512.Idx → EReal := fun i =>
  differentialAt q k X p g (i 0) (i 1) ⟨(i 2).val / 128, Nat.div_lt_of_lt_mul (i 2).isLt⟩ ⟨(i 2).val % 128, Nat.mod_lt _ (by norm_num)⟩

/-- A score of real queries and keys, computed on the extended reals. -/
theorem score_coe (q k : Fin 8 → Fin 8192 → Fin 512 → ℝ) (b : Fin 8) (r : Fin 8192) (h : Fin 4) (s : Fin 2) (j : Fin 8192) :
    (∑ t : Fin 64, (q b r ⟨h.val * 128 + s.val * 64 + t.val, by omega⟩ : EReal) * (k b j ⟨h.val * 128 + s.val * 64 + t.val, by omega⟩ : EReal))
      = (scores q k b r h s j.val : EReal) := by
  rw [scores, dif_pos j.isLt, score, real_sum]
  simp only [EReal.coe_mul]

/-! ## The kernel's array -/

variable (m : (ℓ : Loc nD τ sig) → Buf (Elt Ideal) ℓ) (ρ : Dev nD → PrngReg)

/-- Where the windows stand at a grid point. -/
theorem windows : ∀ t : Fin cfg0.N,
    win0_0.index t = ![0, 0] ∧ win0_1.index t = ![0, 0]
    ∧ win0_2.index t = ![t.val / 128, t.val % 32, t.val / 32 % 4] ∧ win0_3.index t = ![t.val / 128, 0, 10 + t.val / 32 % 4]
    ∧ win0_4.index t = ![t.val / 128, 0, 20 + t.val / 32 % 4] ∧ win0_5.index t = ![t.val / 128, t.val % 32, t.val / 32 % 4] :=
  (by decide +kernel : ∀ t : Fin grid0.N, _)

theorem points (t : Fin cfg0.N) : t.val < 1024 := t.isLt.trans_eq (by decide +kernel : grid0.N = 1024)

theorem V_v0 (c : Dev nD) : V m c main_v0 = (broadcastInDim S1x128 ![1] bcast_S128_S1x128_1 (m ((c : Thread nD τ).loc main_arg2) : FVec Ideal S128 .f32) : FVec Ideal S1x128 .f32) := by
  unfold V; simp only [hostOps0]; after_results_simp <;> rfl

/-- Gains as a row, at an index. -/
theorem gain_apply (y : FVec Ideal S128 .f32) (d : Fin 128) :
    (broadcastInDim S1x128 ![1] bcast_S128_S1x128_1 y : FVec Ideal S1x128 .f32) (ix2 0 d) = y (ix1 d) := by
  pointwise

/-- The parameters, read at an index. -/
theorem iblk0_apply (c : Dev nD) (t : Fin cfg0.N) (i : Fin 4) (x : Fin 64) :
    (iblk m c 0 t : Vec Ideal S4x64 .f32) (ix2 i x) = m ((c : Thread nD τ).loc main_arg1) (ix2 i x) := by
  have hi := (windows t).1
  unfold iblk
  rw [View.read_apply]
  show V m c main_arg1 _ = m (c.tc.loc main_arg1) _
  rw [V_main_arg1]
  congr 1
  funext a
  apply Fin.ext
  match a with
  | ⟨0, _⟩ => show win0_0.index t 0 * 4 + 1 * i.val = i.val; rw [hi]; simp
  | ⟨1, _⟩ => show win0_0.index t 1 * 64 + 1 * x.val = x.val; rw [hi]; simp

/-- The gains, read at an index. -/
theorem iblk1_apply (c : Dev nD) (t : Fin cfg0.N) (d : Fin 128) :
    (iblk m c 1 t : Vec Ideal S1x128 .f32) (ix2 0 d) = m ((c : Thread nD τ).loc main_arg2) (ix1 d) := by
  have hi := (windows t).2.1
  unfold iblk
  rw [View.read_apply]
  show V m c main_v0 _ = _
  rw [V_v0]
  refine Eq.trans ?_ (gain_apply (m ((c : Thread nD τ).loc main_arg2)) d)
  congr 1
  funext a
  apply Fin.ext
  match a with
  | ⟨0, _⟩ => show win0_1.index t 0 * 1 + 1 * 0 = 0; rw [hi]; simp
  | ⟨1, _⟩ => show win0_1.index t 1 * 128 + 1 * d.val = d.val; rw [hi]; simp

/-- The query block, read at an index. -/
theorem iblk2_apply (c : Dev nD) (t : Fin cfg0.N) (r : Fin 256) (x : Fin 128) :
    (iblk m c 2 t : Vec Ideal S1x256x128 .bf16) (ix3 0 r x) = m ((c : Thread nD τ).loc main_arg0)
      (ix3 ⟨t.val / 128, by have := points t; omega⟩ ⟨t.val % 32 * 256 + r.val, by omega⟩ ⟨t.val / 32 % 4 * 128 + x.val, by omega⟩) := by
  have hi := (windows t).2.2.1
  unfold iblk
  rw [View.read_apply]
  show V m c main_arg0 _ = m (c.tc.loc main_arg0) _
  rw [V_main_arg0]
  congr 1
  funext a
  apply Fin.ext
  match a with
  | ⟨0, _⟩ => show win0_2.index t 0 * 1 + 1 * 0 = t.val / 128; rw [hi]; simp
  | ⟨1, _⟩ => show win0_2.index t 1 * 256 + 1 * r.val = t.val % 32 * 256 + r.val; rw [hi]; simp
  | ⟨2, _⟩ => show win0_2.index t 2 * 128 + 1 * x.val = t.val / 32 % 4 * 128 + x.val; rw [hi]; simp

/-- The key block, read at an index. -/
theorem iblk3_apply (c : Dev nD) (t : Fin cfg0.N) (j : Fin 8192) (x : Fin 128) :
    (iblk m c 3 t : Vec Ideal S1x8192x128 .bf16) (ix3 0 j x) = m ((c : Thread nD τ).loc main_arg0)
      (ix3 ⟨t.val / 128, by have := points t; omega⟩ j ⟨1280 + (t.val / 32 % 4 * 128 + x.val), by omega⟩) := by
  have hi := (windows t).2.2.2.1
  unfold iblk
  rw [View.read_apply]
  show V m c main_arg0 _ = m (c.tc.loc main_arg0) _
  rw [V_main_arg0]
  congr 1
  funext a
  apply Fin.ext
  match a with
  | ⟨0, _⟩ => show win0_3.index t 0 * 1 + 1 * 0 = t.val / 128; rw [hi]; simp
  | ⟨1, _⟩ => show win0_3.index t 1 * 8192 + 1 * j.val = j.val; rw [hi]; simp
  | ⟨2, _⟩ => show win0_3.index t 2 * 128 + 1 * x.val = 1280 + (t.val / 32 % 4 * 128 + x.val); rw [hi]; simp only [Matrix.cons_val]; omega

/-- The value block, read at an index. -/
theorem iblk4_apply (c : Dev nD) (t : Fin cfg0.N) (j : Fin 8192) (d : Fin 128) :
    (iblk m c 4 t : Vec Ideal S1x8192x128 .bf16) (ix3 0 j d) = m ((c : Thread nD τ).loc main_arg0)
      (ix3 ⟨t.val / 128, by have := points t; omega⟩ j ⟨2560 + (t.val / 32 % 4 * 128 + d.val), by omega⟩) := by
  have hi := (windows t).2.2.2.2.1
  unfold iblk
  rw [View.read_apply]
  show V m c main_arg0 _ = m (c.tc.loc main_arg0) _
  rw [V_main_arg0]
  congr 1
  funext a
  apply Fin.ext
  match a with
  | ⟨0, _⟩ => show win0_4.index t 0 * 1 + 1 * 0 = t.val / 128; rw [hi]; simp
  | ⟨1, _⟩ => show win0_4.index t 1 * 8192 + 1 * j.val = j.val; rw [hi]; simp
  | ⟨2, _⟩ => show win0_4.index t 2 * 128 + 1 * d.val = 2560 + (t.val / 32 % 4 * 128 + d.val); rw [hi]; simp only [Matrix.cons_val]; omega

section Real

variable (c : Dev nD) (q k : Fin 8 → Fin 8192 → Fin 512 → ℝ)
  (hq : ∀ b r d, queries (m ((c : Thread nD τ).loc main_arg0)) b r d = (q b r d : EReal))
  (hk : ∀ b r d, keys (m ((c : Thread nD τ).loc main_arg0)) b r d = (k b r d : EReal))

/-- The array that the kernel's result holds. -/
abbrev resultOf (c : Dev nD) (q k : Fin 8 → Fin 8192 → Fin 512 → ℝ) : S8x8192x512.Idx → EReal :=
  differential q k (m ((c : Thread nD τ).loc main_arg0)) (m ((c : Thread nD τ).loc main_arg1)) (m ((c : Thread nD τ).loc main_arg2))

include hq hk

/-- The block stored at point `t`, at row `r` and lane `d`. -/
theorem outAt_apply (t : Fin cfg0.N) (r : Fin 256) (d : Fin 128) :
    outAt m c t (ix3 0 r d) = differentialAt q k (m ((c : Thread nD τ).loc main_arg0)) (m ((c : Thread nD τ).loc main_arg1))
      (m ((c : Thread nD τ).loc main_arg2))
      ⟨t.val / 128, by have := points t; omega⟩ ⟨t.val % 32 * 256 + r.val, by omega⟩ ⟨t.val / 32 % 4, by omega⟩ d := by
  have ht := points t
  unfold outAt
  rw [result_apply (iblk m c 2 t) (iblk m c 3 t) (iblk m c 4 t) r
    (column (m ((c : Thread nD τ).loc main_arg0)) ⟨t.val / 128, by omega⟩ ⟨t.val / 32 % 4, by omega⟩)
    (iblk m c 0 t) (iblk m c 1 t)
    (scores q k ⟨t.val / 128, by omega⟩ ⟨t.val % 32 * 256 + r.val, by omega⟩ ⟨t.val / 32 % 4, by omega⟩ 0)
    (scores q k ⟨t.val / 128, by omega⟩ ⟨t.val % 32 * 256 + r.val, by omega⟩ ⟨t.val / 32 % 4, by omega⟩ 1)
    (fun j => ?_) (fun j => ?_) (fun j d => ?_)]
  · unfold differentialAt
    have e0 : (fun (i : Fin 4) (x : Fin 64) => (iblk m c 0 t : Vec Ideal S4x64 .f32) (ix2 i x))
        = fun i x => m ((c : Thread nD τ).loc main_arg1) (ix2 i x) := by funext i x; exact iblk0_apply m c t i x
    have e1 : (fun x : Fin 128 => (iblk m c 1 t : Vec Ideal S1x128 .f32) (ix2 0 x))
        = fun x => m ((c : Thread nD τ).loc main_arg2) (ix1 x) := by funext x; exact iblk1_apply m c t x
    rw [e0, e1]
  · rw [← score_coe]
    refine sum_congr rfl fun x _ => ?_
    rw [iblk2_apply, iblk3_apply, ← hq, ← hk, queries, keys]
    have e : t.val / 32 % 4 * 128 + x.val = t.val / 32 % 4 * 128 + 0 * 64 + x.val := by omega
    simp only [e]
    rfl
  · rw [← score_coe]
    refine sum_congr rfl fun x _ => ?_
    rw [iblk2_apply, iblk3_apply, ← hq, ← hk, queries, keys]
    have e : t.val / 32 % 4 * 128 + (64 + x.val) = t.val / 32 % 4 * 128 + 1 * 64 + x.val := by omega
    simp only [e]
    rfl
  · rw [iblk4_apply, column, dif_pos j.isLt]

/-- What a point writes back is its block of `differential`. -/
theorem flushed5_eq (t : Fin cfg0.N) :
    (dats m 0 c).flushed 5 t = ((cfg0.win 5).blk t).view.read (Elt Ideal)
      (resultOf m c q k : Buf (Elt Ideal) ((c : Thread nD τ).loc main_v1)) := by
  show (cfg0.win 5).cut (grid0.coords t) ((dats m 0 c).after 5 t) = _
  rw [after0_5]
  have hi := (windows t).2.2.2.2.2
  have ht := points t
  funext y
  have hy0 : (y 0).val < 1 := (y 0).isLt
  have hy1 : (y 1).val < 256 := (y 1).isLt
  have hy2 : (y 2).val < 128 := (y 2).isLt
  have hx : (cfg0.win 5).xinj (grid0.coords t) y = (ix3 0 ⟨(y 1).val, hy1⟩ ⟨(y 2).val, hy2⟩ : S1x256x128.Idx) := by
    funext a; apply Fin.ext
    match a with
    | ⟨0, _⟩ => show (y 0).val = 0; omega
    | ⟨1, _⟩ => rfl
    | ⟨2, _⟩ => rfl
  have h0 : ((cfg0.win 5).blk t).view.emb y 0 = (⟨t.val / 128, by omega⟩ : Fin 8) := by
    apply Fin.ext; show win0_5.index t 0 * 1 + 1 * (y 0).val = t.val / 128; rw [hi]; simp
  have h1 : ((cfg0.win 5).blk t).view.emb y 1 = (⟨t.val % 32 * 256 + (y 1).val, by omega⟩ : Fin 8192) := by
    apply Fin.ext; show win0_5.index t 1 * 256 + 1 * (y 1).val = t.val % 32 * 256 + (y 1).val; rw [hi]; simp
  have h2 : ((cfg0.win 5).blk t).view.emb y 2 = (⟨t.val / 32 % 4 * 128 + (y 2).val, by omega⟩ : Fin 512) := by
    apply Fin.ext; show win0_5.index t 2 * 128 + 1 * (y 2).val = t.val / 32 % 4 * 128 + (y 2).val; rw [hi]; simp
  show outAt m c t ((cfg0.win 5).xinj (grid0.coords t) y)
    = differentialAt q k _ _ _ (((cfg0.win 5).blk t).view.emb y 0) (((cfg0.win 5).blk t).view.emb y 1)
        ⟨(((cfg0.win 5).blk t).view.emb y 2).val / 128, _⟩ ⟨(((cfg0.win 5).blk t).view.emb y 2).val % 128, _⟩
  rw [hx, h0, h1, outAt_apply m c q k hq hk]
  congr 1
  · apply Fin.ext; show t.val / 32 % 4 = (((cfg0.win 5).blk t).view.emb y 2).val / 128; rw [h2]; show _ = (t.val / 32 % 4 * 128 + (y 2).val) / 128; omega
  · apply Fin.ext; show (y 2).val = (((cfg0.win 5).blk t).view.emb y 2).val % 128; rw [h2]; show _ = (t.val / 32 % 4 * 128 + (y 2).val) % 128; omega

omit hq hk in
/-- The blocks cover the array. -/
theorem covered (i : S8x8192x512.Idx) : ∃ t : Fin cfg0.N, (cfg0.win 5).flush t = true ∧ i ∈ ((cfg0.win 5).blk t).view.set := by
  have hi0 : (i 0).val < 8 := (i 0).isLt
  have hi1 : (i 1).val < 8192 := (i 1).isLt
  have hi2 : (i 2).val < 512 := (i 2).isLt
  have hN : grid0.N = 1024 := by decide +kernel
  obtain ⟨t, ht⟩ : ∃ t : Fin cfg0.N, t.val = (i 0).val * 128 + (i 2).val / 128 * 32 + (i 1).val / 256 :=
    ⟨⟨(i 0).val * 128 + (i 2).val / 128 * 32 + (i 1).val / 256, by show _ < grid0.N; rw [hN]; omega⟩, rfl⟩
  have hw := (windows t).2.2.2.2.2
  refine ⟨t, flush0_5 t, ?_⟩
  show i ∈ ((View.whole main_v1).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [hw]; simp only [Matrix.cons_val_zero]; omega
  | ⟨1, _⟩ =>
    show win0_5.index t 1 * 256 ≤ (i 1).val ∧ (i 1).val < win0_5.index t 1 * 256 + 256
    rw [hw]; simp only [Matrix.cons_val_one, Matrix.cons_val_zero]; omega
  | ⟨2, _⟩ =>
    show win0_5.index t 2 * 128 ≤ (i 2).val ∧ (i 2).val < win0_5.index t 2 * 128 + 128
    rw [hw]; simp only [Matrix.cons_val]; omega

/-- The kernel's result array. -/
theorem final5 : (dats m 0 c).arrAt 5 cfg0.N = (resultOf m c q k : Buf (Elt Ideal) ((c : Thread nD τ).loc main_v1)) :=
  (dats m 0 c).arrAt_eq_of_cover 5 _ (fun t _ => flushed5_eq m c q k hq hk t) fun i => covered i

end Real

/-- The kernel's run: the result array at `differential`, the arguments unchanged. -/
theorem run (q k : Dev nD → Fin 8 → Fin 8192 → Fin 512 → ℝ)
    (hq : ∀ (c : Dev nD) b r d, queries (m ((c : Thread nD τ).loc main_arg0)) b r d = (q c b r d : EReal))
    (hk : ∀ (c : Dev nD) b r d, keys (m ((c : Thread nD τ).loc main_arg0)) b r d = (k c b r d : EReal)) :
    θ_run defs (onTc (τ := τ) (main (F := Ideal))) ⟨m, fun _ => 0, ρ⟩ fun r => ∀ c : Dev nD,
      r.2.mem ((c.tc : Thread nD τ).loc main_v1) = (resultOf m c (q c) (k c) : Buf (Elt Ideal) ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).trans (final5 m c (q c) (k c) (hq c) (hk c)), h.2 c⟩)
    (θ_run_and ((θ_run defs _ _).mono (fun _ h c => (h c).1 5) (run_main m ρ)) (unchanged m ρ))

end Cert.DiffIdeal.Value

end
-- ==== Proof.DiffRefRead.lean ====
/-
  The plain formula's differential attention, read at an index, step by step: scores, powers, quotients, the parameters'
  weight, the difference of the quotients, the values' sum and the norm.
-/
module

public import proofs.«01_k».proof.Proof.Gen.DiffRefIdeal.Run
public import proofs.«01_k».proof.Proof.DiffMath
public import Idealize.ShloMosaic.Lib.Pointwise

@[expose] public section

noncomputable section

namespace Cert.DiffRefIdeal.Read

open Idealize.ShloMosaic Cert.DiffRefIdeal Cert.DiffRefIdeal.Gen Cert.DiffMath

/-- The scores. -/
abbrev refScores (x : FVec Ideal S8x8192x3840 .bf16) : FVec Ideal S8x4x2x8192x8192 .f32 :=
  Host.dotGeneral dot_S8x8192x4x2x64_S8x8192x4x2x64_S8x4x2x8192x8192_4_4_1_1_023_023 none (shapeCast _ (extractStridedSlice S8x8192x512 ![0, 0, 0] (extf .f32 x bitsLt_bf16_f32) slices_S8x8192x3840_S8x8192x512_0_0_0) shapeCasts_S8x8192x512_S8x8192x4x2x64) (shapeCast _ (extractStridedSlice S8x8192x512 ![0, 0, 1280] (extf .f32 x bitsLt_bf16_f32) slices_S8x8192x3840_S8x8192x512_0_0_1280) shapeCasts_S8x8192x512_S8x8192x4x2x64)

/-- The powers of the scores less their maximum. -/
abbrev refPowers (s : FVec Ideal S8x4x2x8192x8192 .f32) : FVec Ideal S8x4x2x8192x8192 .f32 :=
  Host.powf (broadcastInDim S8x4x2x8192x8192 ![] bcast_S_S8x4x2x8192x8192 (constant S_ .f32 0x40000000#32)) (subf s (broadcastInDim S8x4x2x8192x8192 ![0, 1, 2, 3, 4] bcast_S8x4x2x8192x1_S8x4x2x8192x8192_0_1_2_3_4 (broadcastInDim S8x4x2x8192x1 ![0, 1, 2, 3] bcast_S8x4x2x8192_S8x4x2x8192x1_0_1_2_3 (Host.reduce FloatOps.maximumf s (constant S_ .f32 0xFF800000#32) reducesTo_S8x4x2x8192x8192_S8x4x2x8192_d4 h_S_))))

/-- The powers over their sum. -/
abbrev refQuot (e : FVec Ideal S8x4x2x8192x8192 .f32) : FVec Ideal S8x4x2x8192x8192 .f32 :=
  Host.divf e (broadcastInDim S8x4x2x8192x8192 ![0, 1, 2, 3, 4] bcast_S8x4x2x8192x1_S8x4x2x8192x8192_0_1_2_3_4 (broadcastInDim S8x4x2x8192x1 ![0, 1, 2, 3] bcast_S8x4x2x8192_S8x4x2x8192x1_0_1_2_3 (Host.reduceAdd e (constant S_ .f32 0x00000000#32) reducesTo_S8x4x2x8192x8192_S8x4x2x8192_d4 h_S_)))

/-- One fifth, as the plain formula computes it. -/
abbrev refFifth : FVec Ideal S_ .f32 := Host.divf (constant S_ .f32 0x3F800000#32) (constant S_ .f32 0x40A00000#32)

/-- The weight of the second attention. -/
abbrev refSecond (p : FVec Ideal S4x64 .f32) : FVec Ideal S_ .f32 :=
  addf (subf (Host.exp (Host.reduceAdd (mulf (shapeCast _ (extractStridedSlice S1x64 ![0, 0] p slices_S4x64_S1x64_0_0) shapeCasts_S1x64_S64) (shapeCast _ (extractStridedSlice S1x64 ![1, 0] p slices_S4x64_S1x64_1_0) shapeCasts_S1x64_S64)) (constant S_ .f32 0x00000000#32) reducesTo_S64_S_d0 h_S_)) (Host.exp (Host.reduceAdd (mulf (shapeCast _ (extractStridedSlice S1x64 ![2, 0] p slices_S4x64_S1x64_2_0) shapeCasts_S1x64_S64) (shapeCast _ (extractStridedSlice S1x64 ![3, 0] p slices_S4x64_S1x64_3_0) shapeCasts_S1x64_S64)) (constant S_ .f32 0x00000000#32) reducesTo_S64_S_d0 h_S_))) (id refFifth)

/-- The difference of the quotients. -/
abbrev refDiff (p : FVec Ideal S8x4x2x8192x8192 .f32) (l : FVec Ideal S_ .f32) : FVec Ideal S8x4x8192x8192 .f32 :=
  subf (shapeCast _ (extractStridedSlice S8x4x1x8192x8192 ![0, 0, 0, 0, 0] p slices_S8x4x2x8192x8192_S8x4x1x8192x8192_0_0_0_0_0) shapeCasts_S8x4x1x8192x8192_S8x4x8192x8192) (mulf (broadcastInDim S8x4x8192x8192 ![] bcast_S_S8x4x8192x8192 l) (shapeCast _ (extractStridedSlice S8x4x1x8192x8192 ![0, 0, 1, 0, 0] p slices_S8x4x2x8192x8192_S8x4x1x8192x8192_0_0_1_0_0) shapeCasts_S8x4x1x8192x8192_S8x4x8192x8192))

/-- The values' sum. -/
abbrev refOut (x : FVec Ideal S8x8192x3840 .bf16) (a : FVec Ideal S8x4x8192x8192 .f32) : FVec Ideal S8x8192x4x128 .f32 :=
  transpose S8x8192x4x128 [0, 3, 1, 2] (Host.dotGeneral dot_S8x8192x4x128_S8x4x8192x8192_S8x4x128x8192_1_3_3_2_02_01 none (shapeCast _ (extractStridedSlice S8x8192x512 ![0, 0, 2560] (extf .f32 x bitsLt_bf16_f32) slices_S8x8192x3840_S8x8192x512_0_0_2560) shapeCasts_S8x8192x512_S8x8192x4x128) a) transposes_S8x4x128x8192_S8x8192x4x128_0_3_1_2

/-- The norm, the gain and the constant. -/
abbrev refNorm (o : FVec Ideal S8x8192x4x128 .f32) (g : FVec Ideal S128 .f32) : FVec Ideal S8x8192x4x128 .f32 :=
  mulf (mulf (mulf o (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf o o) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (id (Host.divf (constant S_ .f32 0x3F800000#32) (constant S_ .f32 0x49742400#32)))))))) (broadcastInDim S8x8192x4x128 ![0, 1, 2, 3] bcast_S1x1x1x128_S8x8192x4x128_0_1_2_3 (broadcastInDim S1x1x1x128 ![3] bcast_S128_S1x1x1x128_3 g))) (broadcastInDim S8x8192x4x128 ![] bcast_S_S8x8192x4x128 (id (subf (constant S_ .f32 0x3F800000#32) refFifth)))

/-- The result. -/
abbrev refResult (x : FVec Ideal S8x8192x3840 .bf16) (p : FVec Ideal S4x64 .f32) (g : FVec Ideal S128 .f32) : FVec Ideal S8x8192x512 .bf16 :=
  truncf .bf16 (shapeCast _ (refNorm (refOut x (refDiff (refQuot (refPowers (refScores x))) (refSecond p))) g) shapeCasts_S8x8192x4x128_S8x8192x512) bitsLt_bf16_f32

/-- The printed result is `refResult` of the arguments. -/
theorem res_eq (m : (ℓ : Loc nD τ sig) → Buf (Elt Ideal) ℓ) (c : Dev nD) : Value.res_main_v65 (F := Ideal) m c
    = refResult (m ((c.tc : Thread nD τ).loc main_arg0)) (m ((c.tc : Thread nD τ).loc main_arg1)) (m ((c.tc : Thread nD τ).loc main_arg2)) := rfl

/-- A score. -/
theorem scores_read (x : FVec Ideal S8x8192x3840 .bf16) (b : Fin 8) (h : Fin 4) (k : Fin 2) (r j : Fin 8192) :
    refScores x (ix5 b h k r j) = ∑ t : Fin 64, x (ix3 b r ⟨h.val * 128 + k.val * 64 + t.val, by omega⟩)
      * x (ix3 b j ⟨1280 + (h.val * 128 + k.val * 64 + t.val), by omega⟩) := by
  pointwise

theorem powers_read (s : FVec Ideal S8x4x2x8192x8192 .f32) (b : Fin 8) (h : Fin 4) (k : Fin 2) (r j : Fin 8192) :
    refPowers s (ix5 b h k r j) = Ideal.pow (Ideal.ofBits .f32 0x40000000#32)
      (s (ix5 b h k r j) - Finset.univ.fold max (Ideal.ofBits .f32 0xFF800000#32) fun i : Fin 8192 => s (ix5 b h k r i)) := by
  pointwise

theorem quot_read (e : FVec Ideal S8x4x2x8192x8192 .f32) (b : Fin 8) (h : Fin 4) (k : Fin 2) (r j : Fin 8192) :
    refQuot e (ix5 b h k r j) = Ideal.div (e (ix5 b h k r j)) (∑ i : Fin 8192, e (ix5 b h k r i)) := by
  pointwise

theorem fifth_read : refFifth ix0 = lam := by
  rw [← lam_eq]
  pointwise

theorem second_read (p : FVec Ideal S4x64 .f32) : refSecond p ix0 = second fun a t => p (ix2 a t) := by
  rw [second, ← lam_eq]
  simp only [refSecond, refFifth, id]
  pointwise

theorem diff_read (p : FVec Ideal S8x4x2x8192x8192 .f32) (l : FVec Ideal S_ .f32) (b : Fin 8) (h : Fin 4) (r j : Fin 8192) :
    refDiff p l (ix4 b h r j) = p (ix5 b h 0 r j) - l ix0 * p (ix5 b h 1 r j) := by
  pointwise

theorem out_read (x : FVec Ideal S8x8192x3840 .bf16) (a : FVec Ideal S8x4x8192x8192 .f32) (b : Fin 8) (r : Fin 8192) (h : Fin 4) (d : Fin 128) :
    refOut x a (ix4 b r h d) = ∑ j : Fin 8192, x (ix3 b j ⟨2560 + (h.val * 128 + d.val), by omega⟩) * a (ix4 b h r j) := by
  pointwise

theorem norm_read (o : FVec Ideal S8x8192x4x128 .f32) (g : FVec Ideal S128 .f32) (b : Fin 8) (r : Fin 8192) (h : Fin 4) (d : Fin 128) :
    refNorm o g (ix4 b r h d) = normed (fun t => o (ix4 b r h t)) (fun t => g (ix1 t)) d := by
  rw [normed, ← eps_eq, ← lamc_eq, ← lam_eq]
  simp only [refNorm, refFifth, id]
  pointwise

theorem result_read (x : FVec Ideal S8x8192x3840 .bf16) (p : FVec Ideal S4x64 .f32) (g : FVec Ideal S128 .f32) (b : Fin 8) (r : Fin 8192) (d : Fin 512) :
    refResult x p g (ix3 b r d) = refNorm (refOut x (refDiff (refQuot (refPowers (refScores x))) (refSecond p))) g
      (ix4 b r ⟨d.val / 128, by omega⟩ ⟨d.val % 128, by omega⟩) := by
  unfold refResult
  generalize refNorm (refOut x (refDiff (refQuot (refPowers (refScores x))) (refSecond p))) g = y
  pointwise

end Cert.DiffRefIdeal.Read

end
-- ==== Proof.DiffClaims.lean ====
/-
  The differential attention's claims: the plain formula's array is `differential` too, the precondition makes queries,
  keys, values and parameters real, and with that the kernel and the plain formula end with equal results.
-/
module

public import proofs.«01_k».proof.Proof.DiffIdealValue
public import proofs.«01_k».proof.Proof.DiffRefRead
public import proofs.«01_k».proof.Proof.DiffBody
public import proofs.«01_k».proof.Proof.MlaClaims
public import proofs.«01_k».proof.Proof.Gen.Pre_finite_diff

@[expose] public section

set_option maxRecDepth 16384

noncomputable section

namespace Cert.Proof.DiffClaims

open Idealize.ShloMosaic Idealize.ShloMosaic.TcCoe Idealize.SL.Sem Finset
open Cert.DiffIdeal.Value Cert.Softmax Cert.DiffMath

/-! ## The precondition -/

/-- Infinity's bits read as `⊤`. -/
theorem pos_inf : Ideal.ofBits .f32 0x7F800000#32 = ⊤ := by simp [Ideal.ofBits, Ideal.ieee]

section Pre

open Cert.Pre_finite_diff Cert.Pre_finite_diff.Gen

/-- The query columns. -/
theorem query_slice (x : FVec Ideal S8x8192x3840 .bf16) (h) (b : Fin 8) (r : Fin 8192) (d : Fin 512) :
    (extractStridedSlice S8x8192x512 ![0, 0, 0] x h : FVec Ideal S8x8192x512 .bf16) (ix3 b r d) = x (ix3 b r ⟨d.val, by omega⟩) := by
  pointwise

/-- The key columns. -/
theorem key_slice (x : FVec Ideal S8x8192x3840 .bf16) (h) (b : Fin 8) (r : Fin 8192) (d : Fin 512) :
    (extractStridedSlice S8x8192x512 ![0, 0, 1280] x h : FVec Ideal S8x8192x512 .bf16) (ix3 b r d) = x (ix3 b r ⟨1280 + d.val, by omega⟩) := by
  pointwise

/-- The value columns. -/
theorem value_slice (x : FVec Ideal S8x8192x3840 .bf16) (h) (b : Fin 8) (r : Fin 8192) (d : Fin 512) :
    (extractStridedSlice S8x8192x512 ![0, 0, 2560] x h : FVec Ideal S8x8192x512 .bf16) (ix3 b r d) = x (ix3 b r ⟨2560 + d.val, by omega⟩) := by
  pointwise

/-- The precondition: every query, key, value and parameter is a real. -/
theorem real_of_pre (x : FVec Ideal S8x8192x3840 .bf16) (p : FVec Ideal S4x64 .f32) (g : FVec Ideal S128 .f32)
    (h : fn (F := Ideal) x p g = fun _ => 1#1) :
    (∀ (b : Fin 8) (r : Fin 8192) (d : Fin 512), ∃ y : ℝ, queries x b r d = (y : EReal))
    ∧ (∀ (b : Fin 8) (r : Fin 8192) (d : Fin 512), ∃ y : ℝ, keys x b r d = (y : EReal))
    ∧ (∀ (b : Fin 8) (r : Fin 8192) (d : Fin 512), ∃ y : ℝ, x (ix3 b r ⟨2560 + d.val, by omega⟩) = (y : EReal))
    ∧ ∀ (i : Fin 4) (t : Fin 64), ∃ y : ℝ, p (ix2 i t) = (y : EReal) := by
  have hj := congrFun h (fun a => a.elim0)
  unfold fn fn_part1 at hj
  haveI : Subsingleton S_.Idx := ⟨fun a b => funext fun i => i.elim0⟩
  have hand : ∀ p q : BitVec 1, IntOp.andi p q = 1#1 → p = 1#1 ∧ q = 1#1 := by decide
  obtain ⟨h3, hp⟩ := hand _ _ hj
  obtain ⟨h2, hv⟩ := hand _ _ h3
  obtain ⟨hq, hk⟩ := hand _ _ h2
  refine ⟨fun b r d => ?_, fun b r d => ?_, fun b r d => ?_, fun i t => ?_⟩
  · have hi := Host.reduce_andi_all _ _ _ _ _ hq (ix3 b r d)
    rw [queries, ← query_slice x slices_S8x8192x3840_S8x8192x512_0_0_0 b r d]
    refine MlaClaims.real_of_cmp _ ?_
    rw [← MlaClaims.pos_inf]
    exact hi
  · have hi := Host.reduce_andi_all _ _ _ _ _ hk (ix3 b r d)
    rw [keys, ← key_slice x slices_S8x8192x3840_S8x8192x512_0_0_1280 b r d]
    refine MlaClaims.real_of_cmp _ ?_
    rw [← MlaClaims.pos_inf]
    exact hi
  · have hi := Host.reduce_andi_all _ _ _ _ _ hv (ix3 b r d)
    rw [← value_slice x slices_S8x8192x3840_S8x8192x512_0_0_2560 b r d]
    refine MlaClaims.real_of_cmp _ ?_
    rw [← MlaClaims.pos_inf]
    exact hi
  · have hi := Host.reduce_andi_all _ _ _ _ _ hp (ix2 i t)
    refine MlaClaims.real_of_cmp _ ?_
    rw [← pos_inf]
    exact hi

end Pre

/-! ## The plain formula -/

section Plain

open Cert.DiffRefIdeal Cert.DiffRefIdeal.Gen Cert.DiffRefIdeal.Read

variable (x : FVec Ideal S8x8192x3840 .bf16) (p : FVec Ideal S4x64 .f32) (g : FVec Ideal S128 .f32)
  (q k v : Fin 8 → Fin 8192 → Fin 512 → ℝ)
  (hq : ∀ (b : Fin 8) (r : Fin 8192) (d : Fin 512), queries x b r d = (q b r d : EReal))
  (hk : ∀ (b : Fin 8) (r : Fin 8192) (d : Fin 512), keys x b r d = (k b r d : EReal))
  (hv : ∀ (b : Fin 8) (r : Fin 8192) (d : Fin 512), x (ix3 b r ⟨2560 + d.val, by omega⟩) = (v b r d : EReal))
  (hp : ∀ (i : Fin 4) (t : Fin 64), ∃ y : ℝ, p (ix2 i t) = (y : EReal))

include hq hk

/-- A plain score of real queries and keys. -/
theorem scores_eq (b : Fin 8) (h : Fin 4) (s : Fin 2) (r j : Fin 8192) :
    refScores x (ix5 b h s r j) = (scores q k b r h s j.val : EReal) := by
  rw [scores_read, ← score_coe]
  exact sum_congr rfl fun t _ => by
    rw [← hq b r ⟨h.val * 128 + s.val * 64 + t.val, by omega⟩, ← hk b j ⟨h.val * 128 + s.val * 64 + t.val, by omega⟩, queries, keys]

/-- A plain quotient is the weight. -/
theorem quot_eq (b : Fin 8) (h : Fin 4) (s : Fin 2) (r j : Fin 8192) :
    refQuot (refPowers (refScores x)) (ix5 b h s r j) = (weight 8192 (scores q k b r h s) j.val : EReal) := by
  rw [quot_read]
  simp only [powers_read]
  rw [MlaClaims.two_bits, Cert.DiffIdeal.Rows.neg_inf]
  exact quotient_eq 8192 (by omega) (scores q k b r h s) (fun j => refScores x (ix5 b h s r j))
    (fun j => scores_eq x q k hq hk b h s r j) j

include hv hp

/-- The plain difference of attentions. -/
theorem out_eq (b : Fin 8) (r : Fin 8192) (h : Fin 4) (d : Fin 128) :
    refOut x (refDiff (refQuot (refPowers (refScores x))) (refSecond p)) (ix4 b r h d)
      = differ 8192 (scores q k b r h 0) (scores q k b r h 1) (second fun i t => p (ix2 i t)) (column x b h d) := by
  obtain ⟨l, hl⟩ := second_real (fun i t => p (ix2 i t)) hp
  have hc : column x b h d = fun j => ((if hj : j < 8192 then v b ⟨j, hj⟩ ⟨h.val * 128 + d.val, by omega⟩ else 0 : ℝ) : EReal) := by
    funext j
    rw [column]
    split
    · exact hv b _ ⟨h.val * 128 + d.val, by omega⟩
    · rfl
  rw [out_read, hc, hl, ← differ_eq]
  refine sum_congr rfl fun j _ => ?_
  rw [diff_read, second_read, quot_eq x q k hq hk, quot_eq x q k hq hk, hl, dif_pos j.isLt,
    hv b j ⟨h.val * 128 + d.val, by omega⟩]

/-- The plain formula's array, of real queries, keys, values and parameters. -/
theorem plain_eq : refResult x p g = differential q k x p g := by
  funext i
  obtain ⟨b, r, d, rfl⟩ : ∃ (b : Fin 8) (r : Fin 8192) (d : Fin 512), i = ix3 b r d := ⟨i 0, i 1, i 2, by
    funext a; match a with | ⟨0, _⟩ => rfl | ⟨1, _⟩ => rfl | ⟨2, _⟩ => rfl⟩
  have e : differential q k x p g (ix3 b r d) = differentialAt q k x p g b r ⟨d.val / 128, by omega⟩ ⟨d.val % 128, by omega⟩ := rfl
  rw [e, result_read, norm_read, differentialAt]
  simp only [out_eq x p q k v hq hk hv hp]

end Plain

/-! ## The claims -/

/-- The kernel and the plain formula end with equal results. -/
theorem algebraic : Cert.algebraic_DiffIdeal_DiffRefIdeal_pre_finite_diff := by
  intro m ρ m' ρ' hpre hagree
  have hreal := fun c => real_of_pre _ _ _ (hpre c)
  choose q hq using fun c => (hreal c).1
  choose k hk using fun c => (hreal c).2.1
  choose v hv using fun c => (hreal c).2.2.1
  refine ⟨_, Cert.DiffIdeal.Value.run m ρ q k hq hk, ?_⟩
  refine (θ_run Cert.DiffRefIdeal.defs _ _).mono (fun _ h c => ⟨(h c).1.trans ?_, (h c).2⟩)
    (Cert.DiffRefIdeal.Value.run (F := Ideal) m' ρ')
  rw [Cert.DiffRefIdeal.Read.res_eq, (hagree c).1, (hagree c).2.1, (hagree c).2.2]
  exact plain_eq _ _ _ (q c) (k c) (v c) (hq c) (hk c) (hv c) (hreal c).2.2.2

theorem frame_p : Cert.quiescent_Diff := fun m ρ _ => Cert.Diff.Body.frame m ρ
theorem frame_pi : Cert.quiescent_DiffIdeal := fun m ρ _ => Cert.DiffIdeal.Body.frame m ρ
theorem frame_pi_pre : Cert.quiescent_DiffIdeal_pre_finite_diff := fun m ρ _ => Cert.DiffIdeal.Body.frame m ρ
theorem frame_ri : Cert.quiescent_DiffRefIdeal := fun m ρ _ =>
  (θ_run Cert.DiffRefIdeal.defs _ _).mono (fun r h => ⟨fun c => (h c).2, sem_eq_zero_of_no_sems (by decide) r.2⟩)
    (Cert.DiffRefIdeal.Value.run (F := Ideal) m ρ)
theorem frame_ri_pre : Cert.quiescent_DiffRefIdeal_pre_finite_diff := fun m ρ _ =>
  (θ_run Cert.DiffRefIdeal.defs _ _).mono (fun r h => ⟨fun c => (h c).2, sem_eq_zero_of_no_sems (by decide) r.2⟩)
    (Cert.DiffRefIdeal.Value.run (F := Ideal) m ρ)

/-- The named constants: minus infinity, one fifth, one millionth and four fifths. -/
theorem preserves : Cert.preserves_Diff_DiffIdeal :=
  ⟨IdealRules.named_const.statement Cert.DiffIdeal.κ "mask" .f32 0xF149F2CA#32 (⊥ : EReal) rfl,
    IdealRules.named_const.statement Cert.DiffIdeal.κ "lam" .f32 0x3E4CCCCD#32 ((1 / 5 : ℝ) : EReal) rfl,
    IdealRules.named_const.statement Cert.DiffIdeal.κ "eps" .f32 0x358637BD#32 ((1 / 1000000 : ℝ) : EReal) rfl,
    IdealRules.named_const.statement Cert.DiffIdeal.κ "lamc" .f32 0x3F4CCCCD#32 ((4 / 5 : ℝ) : EReal) rfl⟩

end Cert.Proof.DiffClaims

end
-- ==== Proof.MlpFirstIdealRows.lean ====
/-
  What `MlpFirstIdeal`'s body computes on its blocks, read at an index over the extended reals.
-/
module

public import proofs.«01_k».proof.Proof.Gen.MlpFirstIdeal.Value
public import proofs.«01_k».proof.Proof.MlpMath

@[expose] public section

noncomputable section

namespace Cert.MlpFirstIdeal.Rows

open Cert.MlpFirstIdeal Cert.MlpFirstIdeal.Gen Idealize.ShloMosaic Cert.MlpMath

/-- The named constant is `eps`. -/
theorem named_eps : (Named.named (F := Ideal) κ "eps" (0x358637BD#32 : BitVec 32) : Ideal .f32) = eps := rfl

/-- The first norm. -/
theorem pay1_apply (x : Vec Ideal S1024x1024 .f32) (g : Vec Ideal S1x1024 .f32) (r d : Fin 1024) :
    k0_pay1 x g (ix2 r d) = rms (fun k => x (ix2 r k)) (fun k => g (ix2 0 k)) d := by
  rw [rms, ← named_eps]
  pointwise [k0_pay1]

/-- The row the sum starts from. -/
theorem pay2_apply (x : Vec Ideal S1024x1024 .f32) (r d : Fin 1024) : k0_pay2 x (ix2 r d) = x (ix2 r d) := by
  pointwise [k0_pay2]

/-- One tile of hidden units added. -/
theorem pay3_apply (h wu : Vec Ideal S1024x1024 .bf16) (a : Vec Ideal S1024x1024 .f32) (wd : Vec Ideal S1024x1024 .bf16) (r d : Fin 1024) :
    k0_pay3 h wu a wd (ix2 r d)
      = a (ix2 r d) + ∑ l : Fin 1024, unit (fun k => h (ix2 r k)) (fun k => wu (ix2 k l)) * wd (ix2 l d) := by
  simp only [unit]
  pointwise [k0_pay3]

end Cert.MlpFirstIdeal.Rows

end
-- ==== Proof.MlpFirstIdealValue.lean ====
/-
  The result array of the MLP kernel without the final norm, as a function of its argument arrays.
-/
module

public import proofs.«01_k».proof.Proof.MlpFirstIdealRows

@[expose] public section

set_option maxRecDepth 16384

noncomputable section

namespace Cert.MlpFirstIdeal.Value

open Cert.MlpFirstIdeal Cert.MlpFirstIdeal.Gen Cert.MlpFirstIdeal.Rows Cert.MlpMath
open Idealize.ShloMosaic Idealize.ShloMosaic.TcCoe Idealize.SL.Sem Finset
open Idealize.ShloMosaic.Pipeline (Dat)

variable (m : (ℓ : Loc nD τ sig) → Buf (Elt Ideal) ℓ) (ρ : Dev nD → PrngReg) (c : Dev nD)

/-! ## The argument arrays as rows and columns -/

/-- Row `i` of the input, its batches one after the other. -/
def xs (i : Fin 65536) (k : Fin 1024) : EReal :=
  (m ((c : Thread nD τ).loc main_arg0) : FVec Ideal S8x8192x1024 .f32) (ix3 ⟨i.val / 8192, by omega⟩ ⟨i.val % 8192, by omega⟩ k)
/-- The first norm's gains. -/
def gs (k : Fin 1024) : EReal := (m ((c : Thread nD τ).loc main_arg1) : FVec Ideal S1024 .f32) (ix1 k)
/-- The weights into the hidden units. -/
def ups (k : Fin 1024) (l : Fin 4096) : EReal := (m ((c : Thread nD τ).loc main_arg2) : FVec Ideal S1024x4096 .f32) (ix2 k l)
/-- The weights out of the hidden units. -/
def downs (l : Fin 4096) (d : Fin 1024) : EReal := (m ((c : Thread nD τ).loc main_arg3) : FVec Ideal S4096x1024 .f32) (ix2 l d)
/-! ## What the region finds -/

theorem V_v0 : V m c main_v0 = (shapeCast S65536x1024 (m ((c : Thread nD τ).loc main_arg0) : FVec Ideal S8x8192x1024 .f32) shapeCasts_S8x8192x1024_S65536x1024 : FVec Ideal S65536x1024 .f32) := by
  unfold V; simp only [hostOps0]; after_results_simp <;> rfl
theorem V_v1 : V m c main_v1 = (broadcastInDim S1x1024 ![1] bcast_S1024_S1x1024_1 (m ((c : Thread nD τ).loc main_arg1) : FVec Ideal S1024 .f32) : FVec Ideal S1x1024 .f32) := by
  unfold V; simp only [hostOps0]; after_results_simp <;> rfl
theorem V_v2 : V m c main_v2 = (truncf .bf16 (m ((c : Thread nD τ).loc main_arg2) : FVec Ideal S1024x4096 .f32) bitsLt_bf16_f32 : FVec Ideal S1024x4096 .bf16) := by
  unfold V; simp only [hostOps0]; after_results_simp <;> rfl
theorem V_v3 : V m c main_v3 = (truncf .bf16 (m ((c : Thread nD τ).loc main_arg3) : FVec Ideal S4096x1024 .f32) bitsLt_bf16_f32 : FVec Ideal S4096x1024 .bf16) := by
  unfold V; simp only [hostOps0]; after_results_simp <;> rfl
/-- The flattened input at an index. -/
theorem flat_apply (y : FVec Ideal S8x8192x1024 .f32) (i : Fin 65536) (d : Fin 1024) :
    (shapeCast S65536x1024 y shapeCasts_S8x8192x1024_S65536x1024 : FVec Ideal S65536x1024 .f32) (ix2 i d)
      = y (ix3 ⟨i.val / 8192, by omega⟩ ⟨i.val % 8192, by omega⟩ d) := by
  pointwise

/-- Gains as a row, at an index. -/
theorem gain_apply (y : FVec Ideal S1024 .f32) (d : Fin 1024) :
    (broadcastInDim S1x1024 ![1] bcast_S1024_S1x1024_1 y : FVec Ideal S1x1024 .f32) (ix2 0 d) = y (ix1 d) := by
  pointwise

/-! ## The blocks -/

/-- Where the windows stand at a grid point. -/
theorem windows : ∀ t : Fin cfg0.N,
    win0_0.index t = ![t.val / 4, 0] ∧ win0_1.index t = ![0, 0] ∧ win0_2.index t = ![0, t.val % 4]
    ∧ win0_3.index t = ![t.val % 4, 0] :=
  (by decide +kernel : ∀ t : Fin grid0.N, _)

theorem points (t : Fin cfg0.N) : t.val < 256 := t.isLt.trans_eq (by decide +kernel : grid0.N = 256)

theorem iblk0_apply (t : Fin cfg0.N) (r k : Fin 1024) :
    (iblk m c 0 t : Vec Ideal S1024x1024 .f32) (ix2 r k) = xs m c ⟨t.val / 4 * 1024 + r.val, by have := points t; omega⟩ k := by
  have hi := (windows t).1
  unfold iblk
  rw [View.read_apply]
  show V m c main_v0 _ = _
  rw [V_v0]
  refine Eq.trans ?_ (flat_apply (m ((c : Thread nD τ).loc main_arg0)) _ k)
  congr 1
  funext a
  apply Fin.ext
  match a with
  | ⟨0, _⟩ => show win0_0.index t 0 * 1024 + 1 * r.val = t.val / 4 * 1024 + r.val; rw [hi]; simp
  | ⟨1, _⟩ => show win0_0.index t 1 * 1024 + 1 * k.val = k.val; rw [hi]; simp

theorem iblk1_apply (t : Fin cfg0.N) (k : Fin 1024) : (iblk m c 1 t : Vec Ideal S1x1024 .f32) (ix2 0 k) = gs m c k := by
  have hi := (windows t).2.1
  unfold iblk
  rw [View.read_apply]
  show V m c main_v1 _ = _
  rw [V_v1]
  refine Eq.trans ?_ (gain_apply (m ((c : Thread nD τ).loc main_arg1)) k)
  congr 1
  funext a
  apply Fin.ext
  match a with
  | ⟨0, _⟩ => show win0_1.index t 0 * 1 + 1 * 0 = 0; rw [hi]; simp
  | ⟨1, _⟩ => show win0_1.index t 1 * 1024 + 1 * k.val = k.val; rw [hi]; simp

theorem iblk2_apply (t : Fin cfg0.N) (k l : Fin 1024) :
    (iblk m c 2 t : Vec Ideal S1024x1024 .bf16) (ix2 k l) = ups m c k ⟨t.val % 4 * 1024 + l.val, by omega⟩ := by
  have hi := (windows t).2.2.1
  unfold iblk
  rw [View.read_apply]
  show V m c main_v2 _ = _
  rw [V_v2]
  show (m ((c : Thread nD τ).loc main_arg2) : FVec Ideal S1024x4096 .f32) _ = (m ((c : Thread nD τ).loc main_arg2) : FVec Ideal S1024x4096 .f32) _
  congr 1
  funext a
  apply Fin.ext
  match a with
  | ⟨0, _⟩ => show win0_2.index t 0 * 1024 + 1 * k.val = k.val; rw [hi]; simp
  | ⟨1, _⟩ => show win0_2.index t 1 * 1024 + 1 * l.val = t.val % 4 * 1024 + l.val; rw [hi]; simp

theorem iblk3_apply (t : Fin cfg0.N) (l d : Fin 1024) :
    (iblk m c 3 t : Vec Ideal S1024x1024 .bf16) (ix2 l d) = downs m c ⟨t.val % 4 * 1024 + l.val, by omega⟩ d := by
  have hi := (windows t).2.2.2
  unfold iblk
  rw [View.read_apply]
  show V m c main_v3 _ = _
  rw [V_v3]
  show (m ((c : Thread nD τ).loc main_arg3) : FVec Ideal S4096x1024 .f32) _ = (m ((c : Thread nD τ).loc main_arg3) : FVec Ideal S4096x1024 .f32) _
  congr 1
  funext a
  apply Fin.ext
  match a with
  | ⟨0, _⟩ => show win0_3.index t 0 * 1024 + 1 * l.val = t.val % 4 * 1024 + l.val; rw [hi]; simp
  | ⟨1, _⟩ => show win0_3.index t 1 * 1024 + 1 * d.val = d.val; rw [hi]; simp

/-! ## The run over a block's four tiles -/

/-- Row `i` of the input, normed. -/
def hs (i : Fin 65536) : Fin 1024 → EReal := rms (xs m c i) (gs m c)

/-- What tile `s` adds to row `i` at column `d`. -/
def tile (i : Fin 65536) (d : Fin 1024) (s : ℕ) : EReal :=
  ∑ l : Fin 1024, unit (hs m c i) (fun k => ups m c k ⟨s % 4 * 1024 + l.val, by omega⟩) * downs m c ⟨s % 4 * 1024 + l.val, by omega⟩ d

/-- A block's first point: the normed rows. -/
theorem h_first (t : Fin cfg0.N) (h0 : t.val % 4 = 0) : (outsAt0 m c t.val t.isLt).2.1 = k0_pay1 (iblk m c 0 t) (iblk m c 1 t) := by
  rw [outsAt0_A m c t h0 (by omega)]
  frame_out

/-- A block's first point: the sums. -/
theorem acc_first (t : Fin cfg0.N) (h0 : t.val % 4 = 0) : (outsAt0 m c t.val t.isLt).2.2
    = k0_pay3 (outsAt0 m c t.val t.isLt).2.1 (iblk m c 2 t) (k0_pay2 (iblk m c 0 t)) (iblk m c 3 t) := by
  rw [h_first m c t h0, outsAt0_A m c t h0 (by omega)]
  frame_out

/-- A later point keeps the normed rows. -/
theorem h_later (t : Fin cfg0.N) (h0 : ¬t.val % 4 = 0) : (outsAt0 m c t.val t.isLt).2.1
    = (outsAt0 m c (t.val - 1) (Nat.lt_of_le_of_lt (Nat.sub_le _ _) t.isLt)).2.1 := by
  by_cases h1 : t.val % 4 = 3
  · rw [outsAt0_C m c t h0 h1]; rfl
  · rw [outsAt0_B m c t h0 h1]; rfl

/-- The buffers carried between points, read back. -/
theorem carried (t : Fin cfg0.N) (X : Vec Ideal S1024x1024 .bf16 × Vec Ideal S1024x1024 .f32) :
    k0_pay3 ((View.whole cc0_scratch0).read (Elt Ideal) ((Memref.isWhole_whole cc0_scratch0).unread X.1)) (iblk m c 2 t)
        ((View.whole cc0_scratch1).read (Elt Ideal) ((Memref.isWhole_whole cc0_scratch1).unread X.2)) (iblk m c 3 t)
      = k0_pay3 X.1 (iblk m c 2 t) X.2 (iblk m c 3 t) :=
  congrArg₂ (fun a b => k0_pay3 a (iblk m c 2 t) b (iblk m c 3 t))
    (Memref.IsWhole.read_unread (Memref.isWhole_whole cc0_scratch0) _) (Memref.IsWhole.read_unread (Memref.isWhole_whole cc0_scratch1) _)

/-- A later point's sums. -/
theorem acc_later (t : Fin cfg0.N) (h0 : ¬t.val % 4 = 0) : (outsAt0 m c t.val t.isLt).2.2
    = k0_pay3 (outsAt0 m c (t.val - 1) (Nat.lt_of_le_of_lt (Nat.sub_le _ _) t.isLt)).2.1 (iblk m c 2 t)
        (outsAt0 m c (t.val - 1) (Nat.lt_of_le_of_lt (Nat.sub_le _ _) t.isLt)).2.2 (iblk m c 3 t) := by
  by_cases h1 : t.val % 4 = 3
  · rw [outsAt0_C m c t h0 h1]; frame_out; exact carried m c t (outsAt0 m c (t.val - 1) (Nat.lt_of_le_of_lt (Nat.sub_le _ _) t.isLt)).2
  · rw [outsAt0_B m c t h0 h1]; frame_out; exact carried m c t (outsAt0 m c (t.val - 1) (Nat.lt_of_le_of_lt (Nat.sub_le _ _) t.isLt)).2

/-- A block's last point stores the sums. -/
theorem out_last (t : Fin cfg0.N) (h1 : t.val % 4 = 3) : (outsAt0 m c t.val t.isLt).1 = (outsAt0 m c t.val t.isLt).2.2 := by
  rw [acc_later m c t (by omega), outsAt0_C m c t (by omega) h1]
  frame_out
  exact carried m c t (outsAt0 m c (t.val - 1) (Nat.lt_of_le_of_lt (Nat.sub_le _ _) t.isLt)).2

/-- The row of the arrays that row `r` of point `n`'s block is. -/
abbrev rowOf (n : ℕ) (hn : n < cfg0.N) (r : Fin 1024) : Fin 65536 :=
  ⟨n / 4 * 1024 + r.val, by have h : n < 256 := points ⟨n, hn⟩; omega⟩

/-- A point's tile, from its blocks. -/
theorem tile_eq (t : Fin cfg0.N) (h : Vec Ideal S1024x1024 .bf16) (r d : Fin 1024) (hh : ∀ k : Fin 1024, h (ix2 r k) = hs m c (rowOf t.val t.isLt r) k) :
    ∑ l : Fin 1024, unit (fun k => h (ix2 r k)) (fun k => (iblk m c 2 t : Vec Ideal S1024x1024 .bf16) (ix2 k l))
        * (iblk m c 3 t : Vec Ideal S1024x1024 .bf16) (ix2 l d) = tile m c (rowOf t.val t.isLt r) d (t.val % 4) := by
  unfold tile
  refine sum_congr rfl fun l _ => ?_
  simp only [hh, iblk2_apply, iblk3_apply, Nat.mod_mod]

/-- After point `n` the normed rows are those of its block, and each sum holds the input and the tiles met so far. -/
theorem state (n : ℕ) : ∀ (hn : n < cfg0.N) (r : Fin 1024),
    (∀ d : Fin 1024, (outsAt0 m c n hn).2.1 (ix2 r d) = hs m c (rowOf n hn r) d)
    ∧ ∀ d : Fin 1024, (outsAt0 m c n hn).2.2 (ix2 r d)
        = xs m c (rowOf n hn r) d + ∑ s ∈ range (n % 4 + 1), tile m c (rowOf n hn r) d s := by
  induction n with
  | zero =>
    intro hn r
    have hh : ∀ d : Fin 1024, (outsAt0 m c 0 hn).2.1 (ix2 r d) = hs m c (rowOf 0 hn r) d := fun d => by
      rw [h_first m c ⟨0, hn⟩ (Nat.zero_mod _), pay1_apply]
      simp only [iblk0_apply, iblk1_apply]
      rfl
    refine ⟨hh, fun d => ?_⟩
    rw [acc_first m c ⟨0, hn⟩ (Nat.zero_mod _), pay3_apply, tile_eq m c ⟨0, hn⟩ _ r d hh, pay2_apply, iblk0_apply]
    exact congrArg (xs m c (rowOf 0 hn r) d + ·) (sum_range_one (fun s => tile m c (rowOf 0 hn r) d s)).symm
  | succ n ih =>
    intro hn r
    by_cases h0 : (n + 1) % 4 = 0
    · have hh : ∀ d : Fin 1024, (outsAt0 m c (n + 1) hn).2.1 (ix2 r d) = hs m c (rowOf (n + 1) hn r) d := fun d => by
        rw [h_first m c ⟨n + 1, hn⟩ h0, pay1_apply]
        simp only [iblk0_apply, iblk1_apply]
        rfl
      refine ⟨hh, fun d => ?_⟩
      rw [acc_first m c ⟨n + 1, hn⟩ h0, pay3_apply, tile_eq m c ⟨n + 1, hn⟩ _ r d hh, pay2_apply, iblk0_apply]
      simp [h0]
    · obtain ⟨ih1, ih2⟩ := ih (Nat.lt_of_succ_lt hn) r
      have e : rowOf n (Nat.lt_of_succ_lt hn) r = rowOf (n + 1) hn r := by
        apply Fin.ext; show n / 4 * 1024 + r.val = (n + 1) / 4 * 1024 + r.val; omega
      rw [e] at ih1 ih2
      have hmod : (n + 1) % 4 = n % 4 + 1 := by omega
      refine ⟨fun d => ?_, fun d => ?_⟩
      · rw [h_later m c ⟨n + 1, hn⟩ h0]; exact ih1 d
      · have e2 := ih2 d
        rw [acc_later m c ⟨n + 1, hn⟩ h0, pay3_apply]
        refine (congrArg₂ (· + ·) e2 (tile_eq m c ⟨n + 1, hn⟩ (outsAt0 m c n (Nat.lt_of_succ_lt hn)).2.1 r d ih1)).trans ?_
        show _ + tile m c (rowOf (n + 1) hn r) d ((n + 1) % 4) = _
        rw [add_assoc, hmod, sum_range_succ _ (n % 4 + 1)]

/-- The four tiles are the whole hidden layer. -/
theorem tiles (i : Fin 65536) (d : Fin 1024) :
    xs m c i d + ∑ s ∈ range 4, tile m c i d s = row (xs m c i) (gs m c) (ups m c) (downs m c) d := by
  rw [row, Finset.sum_range (fun s => tile m c i d s)]
  refine congrArg (xs m c i d + ·) (Eq.trans ?_ (sum_tiles fun l => unit (rms (xs m c i) (gs m c)) (fun k => ups m c k l) * downs m c l d))
  refine sum_congr rfl fun s _ => ?_
  have hs4 : s.val % 4 = s.val := Nat.mod_eq_of_lt s.isLt
  simp only [tile, hs, hs4]

/-- What a block's last point stores. -/
theorem out_apply (t : Fin cfg0.N) (h1 : t.val % 4 = 3) (r d : Fin 1024) : (outsAt0 m c t.val t.isLt).1 (ix2 r d)
    = row (xs m c (rowOf t.val t.isLt r)) (gs m c) (ups m c) (downs m c) d := by
  rw [out_last m c t h1, (state m c t.val t.isLt r).2 d, h1, tiles]

/-- The kernel's result array at an index. -/
theorem G5_apply (i : Fin 65536) (d : Fin 1024) : (G5 m c : FVec Ideal S65536x1024 .f32) (ix2 i d)
    = row (xs m c i) (gs m c) (ups m c) (downs m c) d := by
  have hN : cfg0.N = 256 := N_0
  have hrun : run5Of (ix2 i d : S65536x1024.Idx) = i.val / 1024 := by
    show 1 * (i.val / 1024 - 0) + 1 * (d.val / 1024 - 0) = _
    omega
  have hp : pt5Of (ix2 i d : S65536x1024.Idx) = 4 * (i.val / 1024) + 3 := by rw [pt5Of, hrun]
  have hlt : 4 * (i.val / 1024) + 3 < cfg0.N := by omega
  unfold G5
  rw [dif_pos (by rw [hp]; exact hlt), fold0_congr m c _ _ (4 * (i.val / 1024) + 3) (by omega) hp, ← outsAt0_sweep m c _ hlt]
  have hl : loc5Of (ix2 i d : S65536x1024.Idx) = (ix2 ⟨i.val % 1024, by omega⟩ d : S1024x1024.Idx) := by
    funext a; apply Fin.ext
    match a with
    | ⟨0, _⟩ => rfl
    | ⟨1, _⟩ => show d.val % 1024 = d.val; omega
  rw [hl]
  refine (out_apply m c ⟨_, hlt⟩ (by show (4 * (i.val / 1024) + 3) % 4 = 3; omega) _ d).trans ?_
  have e : rowOf (4 * (i.val / 1024) + 3) hlt ⟨i.val % 1024, by omega⟩ = i := by
    apply Fin.ext; show (4 * (i.val / 1024) + 3) / 4 * 1024 + i.val % 1024 = i.val; omega
  simp only [e]

end Cert.MlpFirstIdeal.Value

end
-- ==== Proof.MlpFirstRefRead.lean ====
/-
  The plain formula's MLP without the final norm, read at an index.
-/
module

public import proofs.«01_k».proof.Proof.Gen.MlpFirstRefIdeal.Run
public import proofs.«01_k».proof.Proof.MlpMath

@[expose] public section

noncomputable section

namespace Cert.MlpFirstRefIdeal.Read

open Idealize.ShloMosaic Cert.MlpFirstRefIdeal Cert.MlpFirstRefIdeal.Gen Cert.MlpMath

/-- The plain formula's norm. -/
abbrev refNorm (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (id (Host.divf (constant S_ .f32 0x3F800000#32) (constant S_ .f32 0x49742400#32)))))))) (broadcastInDim S8x8192x1024 ![0, 1, 2] bcast_S1x1x1024_S8x8192x1024_0_1_2 (broadcastInDim S1x1x1024 ![2] bcast_S1024_S1x1x1024_2 g))

/-- The plain formula's row, from the normed row. -/
abbrev refRow (x h : FVec Ideal S8x8192x1024 .f32) (wu : FVec Ideal S1024x4096 .f32) (wd : FVec Ideal S4096x1024 .f32) : FVec Ideal S8x8192x1024 .f32 :=
  addf x (Host.dotGeneral dot_S8x8192x4096_S4096x1024_S8x8192x1024_2_0_01_1_n_n none (mulf (maximumf (Host.dotGeneral dot_S8x8192x1024_S1024x4096_S8x8192x4096_2_0_01_1_n_n none h wu) (broadcastInDim S8x8192x4096 ![] bcast_S_S8x8192x4096 (constant S_ .f32 0x00000000#32))) (maximumf (Host.dotGeneral dot_S8x8192x1024_S1024x4096_S8x8192x4096_2_0_01_1_n_n none h wu) (broadcastInDim S8x8192x4096 ![] bcast_S_S8x8192x4096 (constant S_ .f32 0x00000000#32)))) wd)

/-- The norm at an index. -/
theorem norm_read (x : FVec Ideal S8x8192x1024 .f32) (g : FVec Ideal S1024 .f32) (b : Fin 8) (r : Fin 8192) (d : Fin 1024) :
    refNorm x g (ix3 b r d) = rms (fun k => x (ix3 b r k)) (fun k => g (ix1 k)) d := by
  rw [rms, ← eps_eq]
  simp only [refNorm, id]
  pointwise

/-- The row at an index. -/
theorem row_read (x h : FVec Ideal S8x8192x1024 .f32) (wu : FVec Ideal S1024x4096 .f32) (wd : FVec Ideal S4096x1024 .f32)
    (b : Fin 8) (r : Fin 8192) (d : Fin 1024) :
    refRow x h wu wd (ix3 b r d)
      = x (ix3 b r d) + ∑ l : Fin 4096, unit (fun k => h (ix3 b r k)) (fun k => wu (ix2 k l)) * wd (ix2 l d) := by
  simp only [unit]
  pointwise

/-- The flattened array at an index: row `r` of batch `b` is row `8192 b + r`. -/
theorem flat_read (y : FVec Ideal S8x8192x1024 .f32) (i : Fin 65536) (d : Fin 1024) :
    (shapeCast S65536x1024 y shapeCasts_S8x8192x1024_S65536x1024 : FVec Ideal S65536x1024 .f32) (ix2 i d)
      = y (ix3 ⟨i.val / 8192, by omega⟩ ⟨i.val % 8192, by omega⟩ d) := by
  pointwise

end Cert.MlpFirstRefIdeal.Read

end
-- ==== Proof.MlpFirstClaims.lean ====
/-
  The claims of the MLP without the final norm: the kernel and the plain formula end with equal results, and the runs' frames.
-/
module

public import proofs.«01_k».proof.Proof.MlpFirstIdealValue
public import proofs.«01_k».proof.Proof.MlpFirstRefRead
public import proofs.«01_k».proof.Proof.Gen.MlpFirst.Frame
public import proofs.«01_k».proof.Proof.Gen.Pre_finite_qk
public import proofs.«01_k».proof.Defs

@[expose] public section

noncomputable section

namespace Cert.Proof.MlpFirstClaims

open Idealize.ShloMosaic Idealize.ShloMosaic.TcCoe Idealize.SL.Sem Finset Cert.MlpMath

open Cert.MlpFirstRefIdeal Cert.MlpFirstRefIdeal.Gen Cert.MlpFirstRefIdeal.Read in
/-- The plain formula's result at an index. -/
theorem plain_apply (x : FVec Ideal S8x8192x1024 .f32) (g : FVec Ideal S1024 .f32) (wu : FVec Ideal S1024x4096 .f32)
    (wd : FVec Ideal S4096x1024 .f32) (i : Fin 65536) (d : Fin 1024) :
    (shapeCast _ (refRow x (refNorm x g) wu wd) shapeCasts_S8x8192x1024_S65536x1024 : FVec Ideal S65536x1024 .f32) (ix2 i d)
      = row (fun k => x (ix3 ⟨i.val / 8192, by omega⟩ ⟨i.val % 8192, by omega⟩ k)) (fun k => g (ix1 k)) (fun k l => wu (ix2 k l))
          (fun l d => wd (ix2 l d)) d := by
  rw [flat_read, row_read]
  simp only [norm_read]
  rfl

/-- The kernel and the plain formula end with equal results. -/
theorem algebraic : Cert.algebraic_MlpFirstIdeal_MlpFirstRefIdeal := by
  intro m ρ m' ρ' _ hagree
  refine ⟨_, Cert.MlpFirstIdeal.Value.run m ρ, ?_⟩
  refine (θ_run Cert.MlpFirstRefIdeal.defs _ _).mono (fun _ h c => ⟨(h c).1.trans ?_, (h c).2⟩)
    (Cert.MlpFirstRefIdeal.Value.run (F := Ideal) m' ρ')
  rw [(hagree c).1, (hagree c).2.1, (hagree c).2.2.1, (hagree c).2.2.2.1]
  funext j
  obtain ⟨i, d, rfl⟩ : ∃ (i : Fin 65536) (d : Fin 1024), j = ix2 i d := ⟨j 0, j 1, by
    funext a; match a with | ⟨0, _⟩ => rfl | ⟨1, _⟩ => rfl⟩
  exact (plain_apply _ _ _ _ i d).trans (Cert.MlpFirstIdeal.Value.G5_apply m c i d).symm

theorem frame_p : Cert.quiescent_MlpFirst := fun m ρ _ => Cert.MlpFirst.Gen.frame m ρ
theorem frame_pi : Cert.quiescent_MlpFirstIdeal := fun m ρ _ => Cert.MlpFirstIdeal.Gen.frame m ρ
theorem frame_ri : Cert.quiescent_MlpFirstRefIdeal := fun m ρ _ =>
  (θ_run Cert.MlpFirstRefIdeal.defs _ _).mono (fun r h => ⟨fun c => (h c).2, sem_eq_zero_of_no_sems (by decide) r.2⟩)
    (Cert.MlpFirstRefIdeal.Value.run (F := Ideal) m ρ)

/-- The named constant: the norm's small number is one millionth. -/
theorem preserves : Cert.preserves_MlpFirst_MlpFirstIdeal :=
  IdealRules.named_const.statement Cert.MlpFirstIdeal.κ "eps" .f32 0x358637BD#32 ((1 / 1000000 : ℝ) : EReal) rfl

end Cert.Proof.MlpFirstClaims

end
-- ==== Proof.GateMath.lean ====
/-
  A gate over the extended reals: the sigmoid of a weighted sum of a normed row, plus its bias.
-/
module

public import proofs.«01_k».proof.Proof.MlpMath

@[expose] public section

noncomputable section

namespace Cert.GateMath

open Idealize.ShloMosaic Finset

/-- The sigmoid, with the constant one as the programs write it. -/
def sigmoid (z : EReal) : EReal :=
  Ideal.div (Ideal.ofBits .f32 0x3F800000#32) (Ideal.ofBits .f32 0x3F800000#32 + Ideal.exp (-z))

/-- A gate, from the normed row `h`, its weights and its bias. -/
def gate (h w : Fin 1024 → EReal) (b : EReal) : EReal := sigmoid (∑ k : Fin 1024, h k * w k + b)

end Cert.GateMath

end
-- ==== Proof.GateIdealValue.lean ====
/-
  The result array of the gates' kernel, as a function of its argument arrays.
-/
module

public import proofs.«01_k».proof.Proof.Gen.GateIdeal.Value
public import proofs.«01_k».proof.Proof.GateMath

@[expose] public section

set_option maxRecDepth 16384

noncomputable section

namespace Cert.GateIdeal.Value

open Cert.GateIdeal Cert.GateIdeal.Gen Cert.MlpMath Cert.GateMath
open Idealize.ShloMosaic Idealize.ShloMosaic.TcCoe Idealize.SL.Sem Finset
open Idealize.ShloMosaic.Pipeline (Dat)

/-! ## What a point computes on its blocks -/

/-- The named constant is `eps`. -/
theorem named_eps : (Named.named (F := Ideal) κ "eps" (0x358637BD#32 : BitVec 32) : Ideal .f32) = eps := rfl

/-- The norm. -/
theorem pay1_apply (x : Vec Ideal S1024x1024 .f32) (g : Vec Ideal S1x1024 .f32) (r d : Fin 1024) :
    k0_pay1 x g (ix2 r d) = rms (fun k => x (ix2 r k)) (fun k => g (ix2 0 k)) d := by
  rw [rms, ← named_eps]
  pointwise [k0_pay1]

/-- The gates of a block. -/
theorem pay2_apply (h w : Vec Ideal S1024x1024 .bf16) (b : Vec Ideal S1x1x1024 .f32) (r d : Fin 1024) :
    k0_pay2 h w b (ix2 r d) = gate (fun k => h (ix2 r k)) (fun k => w (ix2 k d)) (b (ix3 0 0 d)) := by
  rw [gate, sigmoid, ← zero_sub]
  pointwise [k0_pay2]

variable (m : (ℓ : Loc nD τ sig) → Buf (Elt Ideal) ℓ) (ρ : Dev nD → PrngReg) (c : Dev nD)

/-! ## The argument arrays as rows and columns -/

/-- Row `i` of the input, its batches one after the other. -/
def xs (i : Fin 65536) (k : Fin 1024) : EReal :=
  (m ((c : Thread nD τ).loc main_arg0) : FVec Ideal S8x8192x1024 .f32) (ix3 ⟨i.val / 8192, by omega⟩ ⟨i.val % 8192, by omega⟩ k)
/-- The norm's gains. -/
def gs (k : Fin 1024) : EReal := (m ((c : Thread nD τ).loc main_arg1) : FVec Ideal S1024 .f32) (ix1 k)
/-- The gates' weights: the last columns of the input weights. -/
def ws (k : Fin 1024) (d : Fin 3072) : EReal :=
  (m ((c : Thread nD τ).loc main_arg2) : FVec Ideal S1024x7968 .f32) (ix2 k ⟨4896 + d.val, by omega⟩)
/-- The gates' biases, the three gates one after the other. -/
def bs (d : Fin 3072) : EReal :=
  (m ((c : Thread nD τ).loc main_arg3) : FVec Ideal S3x1024 .f32) (ix2 ⟨d.val / 1024, by omega⟩ ⟨d.val % 1024, by omega⟩)

/-! ## What the region finds -/

theorem V_v0 : V m c main_v0 = (shapeCast S65536x1024 (m ((c : Thread nD τ).loc main_arg0) : FVec Ideal S8x8192x1024 .f32) shapeCasts_S8x8192x1024_S65536x1024 : FVec Ideal S65536x1024 .f32) := by
  unfold V; simp only [hostOps0]; after_results_simp <;> rfl
theorem V_v2 : V m c main_v2 = (truncf .bf16 (extractStridedSlice S1024x3072 ![0, 4896] (m ((c : Thread nD τ).loc main_arg2) : FVec Ideal S1024x7968 .f32) slices_S1024x7968_S1024x3072_0_4896) bitsLt_bf16_f32 : FVec Ideal S1024x3072 .bf16) := by
  unfold V; simp only [hostOps0]; after_results_simp <;> rfl
theorem V_v3 : V m c main_v3 = (broadcastInDim S1x1024 ![1] bcast_S1024_S1x1024_1 (m ((c : Thread nD τ).loc main_arg1) : FVec Ideal S1024 .f32) : FVec Ideal S1x1024 .f32) := by
  unfold V; simp only [hostOps0]; after_results_simp <;> rfl
theorem V_v4 : V m c main_v4 = (broadcastInDim S3x1x1024 ![0, 2] bcast_S3x1024_S3x1x1024_0_2 (m ((c : Thread nD τ).loc main_arg3) : FVec Ideal S3x1024 .f32) : FVec Ideal S3x1x1024 .f32) := by
  unfold V; simp only [hostOps0]; after_results_simp <;> rfl

/-- The flattened input at an index. -/
theorem flat_apply (y : FVec Ideal S8x8192x1024 .f32) (i : Fin 65536) (d : Fin 1024) :
    (shapeCast S65536x1024 y shapeCasts_S8x8192x1024_S65536x1024 : FVec Ideal S65536x1024 .f32) (ix2 i d)
      = y (ix3 ⟨i.val / 8192, by omega⟩ ⟨i.val % 8192, by omega⟩ d) := by
  pointwise

/-- Gains as a row, at an index. -/
theorem gain_apply (y : FVec Ideal S1024 .f32) (d : Fin 1024) :
    (broadcastInDim S1x1024 ![1] bcast_S1024_S1x1024_1 y : FVec Ideal S1x1024 .f32) (ix2 0 d) = y (ix1 d) := by
  pointwise

/-- Biases as rows, at an index. -/
theorem bias_apply (y : FVec Ideal S3x1024 .f32) (j : Fin 3) (d : Fin 1024) :
    (broadcastInDim S3x1x1024 ![0, 2] bcast_S3x1024_S3x1x1024_0_2 y : FVec Ideal S3x1x1024 .f32) (ix3 j 0 d) = y (ix2 j d) := by
  pointwise

/-- The gates' columns of the weights, at an index. -/
theorem cols_apply (y : FVec Ideal S1024x7968 .f32) (k : Fin 1024) (d : Fin 3072) :
    (truncf .bf16 (extractStridedSlice S1024x3072 ![0, 4896] y slices_S1024x7968_S1024x3072_0_4896) bitsLt_bf16_f32 : FVec Ideal S1024x3072 .bf16) (ix2 k d)
      = y (ix2 k ⟨4896 + d.val, by omega⟩) := by
  pointwise

/-! ## The blocks -/

/-- Where the windows stand at a grid point. -/
theorem windows : ∀ t : Fin cfg0.N,
    win0_0.index t = ![t.val / 3, 0] ∧ win0_1.index t = ![0, 0] ∧ win0_2.index t = ![0, t.val % 3]
    ∧ win0_3.index t = ![t.val % 3, 0, 0] :=
  (by decide +kernel : ∀ t : Fin grid0.N, _)

theorem points (t : Fin cfg0.N) : t.val < 192 := t.isLt.trans_eq (by decide +kernel : grid0.N = 192)

/-- The row of the arrays that row `r` of point `n`'s block is. -/
abbrev rowOf (n : ℕ) (hn : n < cfg0.N) (r : Fin 1024) : Fin 65536 :=
  ⟨n / 3 * 1024 + r.val, by have h : n < 192 := points ⟨n, hn⟩; omega⟩

/-- The column of the arrays that column `d` of point `n`'s block is. -/
abbrev colOf (n : ℕ) (d : Fin 1024) : Fin 3072 := ⟨n % 3 * 1024 + d.val, by omega⟩

theorem iblk0_apply (t : Fin cfg0.N) (r k : Fin 1024) :
    (iblk m c 0 t : Vec Ideal S1024x1024 .f32) (ix2 r k) = xs m c (rowOf t.val t.isLt r) k := by
  have hi := (windows t).1
  unfold iblk
  rw [View.read_apply]
  show V m c main_v0 _ = _
  rw [V_v0]
  refine Eq.trans ?_ (flat_apply (m ((c : Thread nD τ).loc main_arg0)) _ k)
  congr 1
  funext a
  apply Fin.ext
  match a with
  | ⟨0, _⟩ => show win0_0.index t 0 * 1024 + 1 * r.val = t.val / 3 * 1024 + r.val; rw [hi]; simp
  | ⟨1, _⟩ => show win0_0.index t 1 * 1024 + 1 * k.val = k.val; rw [hi]; simp

theorem iblk1_apply (t : Fin cfg0.N) (k : Fin 1024) : (iblk m c 1 t : Vec Ideal S1x1024 .f32) (ix2 0 k) = gs m c k := by
  have hi := (windows t).2.1
  unfold iblk
  rw [View.read_apply]
  show V m c main_v3 _ = _
  rw [V_v3]
  refine Eq.trans ?_ (gain_apply (m ((c : Thread nD τ).loc main_arg1)) k)
  congr 1
  funext a
  apply Fin.ext
  match a with
  | ⟨0, _⟩ => show win0_1.index t 0 * 1 + 1 * 0 = 0; rw [hi]; simp
  | ⟨1, _⟩ => show win0_1.index t 1 * 1024 + 1 * k.val = k.val; rw [hi]; simp

theorem iblk2_apply (t : Fin cfg0.N) (k d : Fin 1024) :
    (iblk m c 2 t : Vec Ideal S1024x1024 .bf16) (ix2 k d) = ws m c k (colOf t.val d) := by
  have hi := (windows t).2.2.1
  unfold iblk
  rw [View.read_apply]
  show V m c main_v2 _ = _
  rw [V_v2]
  refine Eq.trans ?_ (cols_apply (m ((c : Thread nD τ).loc main_arg2)) k (colOf t.val d))
  congr 1
  funext a
  apply Fin.ext
  match a with
  | ⟨0, _⟩ => show win0_2.index t 0 * 1024 + 1 * k.val = k.val; rw [hi]; simp
  | ⟨1, _⟩ => show win0_2.index t 1 * 1024 + 1 * d.val = t.val % 3 * 1024 + d.val; rw [hi]; simp

theorem iblk3_apply (t : Fin cfg0.N) (d : Fin 1024) :
    (iblk m c 3 t : Vec Ideal S1x1x1024 .f32) (ix3 0 0 d) = bs m c (colOf t.val d) := by
  have hi := (windows t).2.2.2
  unfold iblk
  rw [View.read_apply]
  show V m c main_v4 _ = _
  rw [V_v4]
  have e := bias_apply (m ((c : Thread nD τ).loc main_arg3)) ⟨t.val % 3, by omega⟩ d
  have hd : bs m c (colOf t.val d) = (m ((c : Thread nD τ).loc main_arg3) : FVec Ideal S3x1024 .f32) (ix2 ⟨t.val % 3, by omega⟩ d) := by
    unfold bs
    congr 1
    funext a
    apply Fin.ext
    match a with
    | ⟨0, _⟩ => show (t.val % 3 * 1024 + d.val) / 1024 = t.val % 3; omega
    | ⟨1, _⟩ => show (t.val % 3 * 1024 + d.val) % 1024 = d.val; omega
  rw [hd]
  refine Eq.trans ?_ e
  congr 1
  funext a
  apply Fin.ext
  match a with
  | ⟨0, _⟩ => show win0_3.index t 0 * 1 + 1 * 0 = t.val % 3; rw [hi]; simp
  | ⟨1, _⟩ => show win0_3.index t 1 * 1 + 1 * 0 = 0; rw [hi]; simp
  | ⟨2, _⟩ => show win0_3.index t 2 * 1024 + 1 * d.val = d.val; rw [hi]; simp

/-! ## The run over a block's three points -/

/-- Row `i` of the input, normed. -/
def hs (i : Fin 65536) : Fin 1024 → EReal := rms (xs m c i) (gs m c)

/-- A block's first point: the normed rows. -/
theorem h_first (t : Fin cfg0.N) (h0 : t.val % 3 = 0) : (outsAt0 m c t.val t.isLt).2 = k0_pay1 (iblk m c 0 t) (iblk m c 1 t) := by
  rw [outsAt0_A m c t h0]
  frame_out

/-- A later point keeps the normed rows. -/
theorem h_later (t : Fin cfg0.N) (h0 : ¬t.val % 3 = 0) : (outsAt0 m c t.val t.isLt).2
    = (outsAt0 m c (t.val - 1) (Nat.lt_of_le_of_lt (Nat.sub_le _ _) t.isLt)).2 := by
  rw [outsAt0_B m c t h0]; rfl

/-- The buffer carried between points, read back. -/
theorem carried (t : Fin cfg0.N) (X : Vec Ideal S1024x1024 .bf16) :
    k0_pay2 ((View.whole cc0_scratch0).read (Elt Ideal) ((Memref.isWhole_whole cc0_scratch0).unread X)) (iblk m c 2 t) (iblk m c 3 t)
      = k0_pay2 X (iblk m c 2 t) (iblk m c 3 t) :=
  congrArg (fun a => k0_pay2 a (iblk m c 2 t) (iblk m c 3 t))
    (Memref.IsWhole.read_unread (Memref.isWhole_whole cc0_scratch0) _)

/-- Every point stores the gates of the normed rows that it leaves. -/
theorem out_eq (t : Fin cfg0.N) : (outsAt0 m c t.val t.isLt).1
    = k0_pay2 (outsAt0 m c t.val t.isLt).2 (iblk m c 2 t) (iblk m c 3 t) := by
  by_cases h0 : t.val % 3 = 0
  · rw [h_first m c t h0, outsAt0_A m c t h0]
    frame_out
  · rw [h_later m c t h0, outsAt0_B m c t h0]
    frame_out
    exact carried m c t (outsAt0 m c (t.val - 1) (Nat.lt_of_le_of_lt (Nat.sub_le _ _) t.isLt)).2

/-- After point `n` the normed rows are those of its block. -/
theorem state (n : ℕ) : ∀ (hn : n < cfg0.N) (r d : Fin 1024), (outsAt0 m c n hn).2 (ix2 r d) = hs m c (rowOf n hn r) d := by
  induction n with
  | zero =>
    intro hn r d
    rw [h_first m c ⟨0, hn⟩ (Nat.zero_mod _), pay1_apply]
    simp only [iblk0_apply, iblk1_apply]
    rfl
  | succ n ih =>
    intro hn r d
    by_cases h0 : (n + 1) % 3 = 0
    · rw [h_first m c ⟨n + 1, hn⟩ h0, pay1_apply]
      simp only [iblk0_apply, iblk1_apply]
      rfl
    · have e : rowOf n (Nat.lt_of_succ_lt hn) r = rowOf (n + 1) hn r := by
        apply Fin.ext; show n / 3 * 1024 + r.val = (n + 1) / 3 * 1024 + r.val; omega
      rw [h_later m c ⟨n + 1, hn⟩ h0, ← e]
      exact ih (Nat.lt_of_succ_lt hn) r d

/-- What a point stores. -/
theorem out_apply (t : Fin cfg0.N) (r d : Fin 1024) : (outsAt0 m c t.val t.isLt).1 (ix2 r d)
    = gate (hs m c (rowOf t.val t.isLt r)) (fun k => ws m c k (colOf t.val d)) (bs m c (colOf t.val d)) := by
  rw [out_eq, pay2_apply]
  simp only [state, iblk2_apply, iblk3_apply]

/-- The kernel's result array at an index. -/
theorem G4_apply (i : Fin 65536) (d : Fin 3072) : (G4 m c : FVec Ideal S65536x3072 .bf16) (ix2 i d)
    = gate (rms (xs m c i) (gs m c)) (fun k => ws m c k d) (bs m c d) := by
  have hN : cfg0.N = 192 := N_0
  have hp : pt4Of (ix2 i d : S65536x3072.Idx) = 3 * (i.val / 1024) + d.val / 1024 := by
    show 3 * (i.val / 1024 - 0) + 1 * (d.val / 1024 - 0) = _
    omega
  have hlt : 3 * (i.val / 1024) + d.val / 1024 < cfg0.N := by omega
  unfold G4
  rw [dif_pos (by rw [hp]; exact hlt), fold0_congr m c _ _ (3 * (i.val / 1024) + d.val / 1024) (by omega) hp, ← outsAt0_sweep m c _ hlt]
  have hl : loc4Of (ix2 i d : S65536x3072.Idx) = (ix2 ⟨i.val % 1024, by omega⟩ ⟨d.val % 1024, by omega⟩ : S1024x1024.Idx) := by
    funext a; apply Fin.ext
    match a with
    | ⟨0, _⟩ => rfl
    | ⟨1, _⟩ => rfl
  rw [hl]
  refine (out_apply m c ⟨_, hlt⟩ _ _).trans ?_
  have e : rowOf (3 * (i.val / 1024) + d.val / 1024) hlt ⟨i.val % 1024, by omega⟩ = i := by
    apply Fin.ext; show (3 * (i.val / 1024) + d.val / 1024) / 3 * 1024 + i.val % 1024 = i.val; omega
  have e2 : colOf (3 * (i.val / 1024) + d.val / 1024) ⟨d.val % 1024, by omega⟩ = d := by
    apply Fin.ext; show (3 * (i.val / 1024) + d.val / 1024) % 3 * 1024 + d.val % 1024 = d.val; omega
  simp only [e, e2, hs]

end Cert.GateIdeal.Value

end
-- ==== Proof.GateRefRead.lean ====
/-
  The plain formula's gates, read at an index.
-/
module

public import proofs.«01_k».proof.Proof.Gen.GateRefIdeal.Run
public import proofs.«01_k».proof.Proof.GateMath

@[expose] public section

noncomputable section

namespace Cert.GateRefIdeal.Read

open Idealize.ShloMosaic Cert.GateRefIdeal Cert.GateRefIdeal.Gen Cert.MlpMath Cert.GateMath

/-- The plain formula's norm. -/
abbrev refNorm (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (id (Host.divf (constant S_ .f32 0x3F800000#32) (constant S_ .f32 0x49742400#32)))))))) (broadcastInDim S8x8192x1024 ![0, 1, 2] bcast_S1x1x1024_S8x8192x1024_0_1_2 (broadcastInDim S1x1x1024 ![2] bcast_S1024_S1x1x1024_2 g))

/-- The plain formula's gates, from the normed rows. -/
abbrev refGate (h : FVec Ideal S8x8192x1024 .f32) (w : FVec Ideal S1024x7968 .f32) (b : FVec Ideal S3x1024 .f32) : FVec Ideal S8x8192x3072 .f32 :=
  Host.divf (broadcastInDim S8x8192x3072 ![] bcast_S_S8x8192x3072 (constant S_ .f32 0x3F800000#32)) (addf (broadcastInDim S8x8192x3072 ![] bcast_S_S8x8192x3072 (constant S_ .f32 0x3F800000#32)) (Host.exp (Host.negf (addf (Host.dotGeneral dot_S8x8192x1024_S1024x3072_S8x8192x3072_2_0_01_1_n_n none h (extractStridedSlice S1024x3072 ![0, 4896] w slices_S1024x7968_S1024x3072_0_4896)) (broadcastInDim S8x8192x3072 ![0, 1, 2] bcast_S1x1x3072_S8x8192x3072_0_1_2 (broadcastInDim S1x1x3072 ![2] bcast_S3072_S1x1x3072_2 (shapeCast S3072 b shapeCasts_S3x1024_S3072)))))))

/-- The norm at an index. -/
theorem norm_read (x : FVec Ideal S8x8192x1024 .f32) (g : FVec Ideal S1024 .f32) (b : Fin 8) (r : Fin 8192) (d : Fin 1024) :
    refNorm x g (ix3 b r d) = rms (fun k => x (ix3 b r k)) (fun k => g (ix1 k)) d := by
  rw [rms, ← eps_eq]
  simp only [refNorm, id]
  pointwise

/-- The gates at an index. -/
theorem gate_read (h : FVec Ideal S8x8192x1024 .f32) (w : FVec Ideal S1024x7968 .f32) (b : FVec Ideal S3x1024 .f32)
    (n : Fin 8) (r : Fin 8192) (d : Fin 3072) :
    refGate h w b (ix3 n r d)
      = gate (fun k => h (ix3 n r k)) (fun k => w (ix2 k ⟨4896 + d.val, by omega⟩)) (b (ix2 ⟨d.val / 1024, by omega⟩ ⟨d.val % 1024, by omega⟩)) := by
  simp only [gate, sigmoid]
  pointwise

/-- The flattened array at an index: row `r` of batch `b` is row `8192 b + r`. -/
theorem flat_read (y : FVec Ideal S8x8192x3072 .f32) (i : Fin 65536) (d : Fin 3072) :
    (truncf .bf16 (shapeCast S65536x3072 y shapeCasts_S8x8192x3072_S65536x3072) bitsLt_bf16_f32 : FVec Ideal S65536x3072 .bf16) (ix2 i d)
      = y (ix3 ⟨i.val / 8192, by omega⟩ ⟨i.val % 8192, by omega⟩ d) := by
  pointwise

end Cert.GateRefIdeal.Read

end
-- ==== Proof.GateClaims.lean ====
/-
  The claims of the gates: the kernel and the plain formula end with equal results, and the runs' frames.
-/
module

public import proofs.«01_k».proof.Proof.GateIdealValue
public import proofs.«01_k».proof.Proof.GateRefRead
public import proofs.«01_k».proof.Proof.Gen.Gate.Frame
public import proofs.«01_k».proof.Proof.Gen.Pre_finite_qk
public import proofs.«01_k».proof.Defs

@[expose] public section

noncomputable section

namespace Cert.Proof.GateClaims

open Idealize.ShloMosaic Idealize.ShloMosaic.TcCoe Idealize.SL.Sem Finset Cert.MlpMath Cert.GateMath

open Cert.GateRefIdeal Cert.GateRefIdeal.Gen Cert.GateRefIdeal.Read in
/-- The plain formula's result at an index. -/
theorem plain_apply (x : FVec Ideal S8x8192x1024 .f32) (g : FVec Ideal S1024 .f32) (w : FVec Ideal S1024x7968 .f32)
    (b : FVec Ideal S3x1024 .f32) (i : Fin 65536) (d : Fin 3072) :
    (truncf .bf16 (shapeCast _ (refGate (refNorm x g) w b) shapeCasts_S8x8192x3072_S65536x3072) bitsLt_bf16_f32 : FVec Ideal S65536x3072 .bf16) (ix2 i d)
      = gate (rms (fun k => x (ix3 ⟨i.val / 8192, by omega⟩ ⟨i.val % 8192, by omega⟩ k)) (fun k => g (ix1 k)))
          (fun k => w (ix2 k ⟨4896 + d.val, by omega⟩)) (b (ix2 ⟨d.val / 1024, by omega⟩ ⟨d.val % 1024, by omega⟩)) := by
  rw [flat_read, gate_read]
  simp only [norm_read]

/-- The kernel and the plain formula end with equal results. -/
theorem algebraic : Cert.algebraic_GateIdeal_GateRefIdeal := by
  intro m ρ m' ρ' _ hagree
  refine ⟨_, Cert.GateIdeal.Value.run m ρ, ?_⟩
  refine (θ_run Cert.GateRefIdeal.defs _ _).mono (fun _ h c => ⟨(h c).1.trans ?_, (h c).2⟩)
    (Cert.GateRefIdeal.Value.run (F := Ideal) m' ρ')
  rw [(hagree c).1, (hagree c).2.1, (hagree c).2.2.1, (hagree c).2.2.2]
  funext j
  obtain ⟨i, d, rfl⟩ : ∃ (i : Fin 65536) (d : Fin 3072), j = ix2 i d := ⟨j 0, j 1, by
    funext a; match a with | ⟨0, _⟩ => rfl | ⟨1, _⟩ => rfl⟩
  exact (plain_apply _ _ _ _ i d).trans (Cert.GateIdeal.Value.G4_apply m c i d).symm

theorem frame_p : Cert.quiescent_Gate := fun m ρ _ => Cert.Gate.Gen.frame m ρ
theorem frame_pi : Cert.quiescent_GateIdeal := fun m ρ _ => Cert.GateIdeal.Gen.frame m ρ
theorem frame_ri : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The named constant: the norm's small number is one millionth. -/
theorem preserves : Cert.preserves_Gate_GateIdeal :=
  IdealRules.named_const.statement Cert.GateIdeal.κ "eps" .f32 0x358637BD#32 ((1 / 1000000 : ℝ) : EReal) rfl

end Cert.Proof.GateClaims

end
-- ==== Proof.MergeMath.lean ====
/-
  The merge of a token's attentions over the extended reals.

  The dilated attention has three groups, each with its outputs and its log-denominators. A lane of it is the groups' sum,
  weighted by the softmax of their log-denominators: the plain formula divides each weight by the three weights' sum, the
  kernel divides the weighted sum. The two agree when the largest log-denominator is a real (`mixed_eq`).
-/
module

public import proofs.«01_k».proof.Proof.MlpMath

@[expose] public section

noncomputable section

namespace Cert.MergeMath

open Idealize.ShloMosaic Finset

/-- The largest of the groups' log-denominators. -/
def top (e0 e1 e2 : EReal) : EReal := max (max e0 e1) e2

/-- A group's weight, before the division by the weights' sum. -/
def wt (e t : EReal) : EReal := Ideal.exp (e - t)

/-- The weights' sum. -/
def total (e0 e1 e2 : EReal) : EReal := wt e0 (top e0 e1 e2) + wt e1 (top e0 e1 e2) + wt e2 (top e0 e1 e2)

/-- A lane of the dilated attention, each weight divided by the weights' sum. -/
def mix (e0 e1 e2 o0 o1 o2 : EReal) : EReal :=
  Ideal.div (wt e0 (top e0 e1 e2)) (total e0 e1 e2) * o0 + Ideal.div (wt e1 (top e0 e1 e2)) (total e0 e1 e2) * o1
    + Ideal.div (wt e2 (top e0 e1 e2)) (total e0 e1 e2) * o2

/-- A lane of the dilated attention, the weighted sum divided by the weights' sum. -/
def mixed (e0 e1 e2 o0 o1 o2 : EReal) : EReal :=
  Ideal.div (wt e0 (top e0 e1 e2) * o0 + wt e1 (top e0 e1 e2) * o1 + wt e2 (top e0 e1 e2) * o2) (total e0 e1 e2)

/-- A lane of the merged token: its input, plus the output projection of the three gated attentions. -/
def merge (x : EReal) (oa : Fin 512 → EReal) (ob : Fin 256 → EReal) (oc : Fin 512 → EReal) (g : Fin 3072 → EReal)
    (wa : Fin 512 → Fin 1024 → EReal) (wb : Fin 256 → Fin 1024 → EReal) (wc : Fin 512 → Fin 1024 → EReal) (wo : Fin 1024 → EReal) : EReal :=
  x + ∑ k : Fin 1024, (g ⟨k.val, by omega⟩ * ∑ j : Fin 512, oa j * wa j k + g ⟨1024 + k.val, by omega⟩ * ∑ j : Fin 256, ob j * wb j k
    + g ⟨2048 + k.val, by omega⟩ * ∑ j : Fin 512, oc j * wc j k) * wo k

/-- Below a real, a weight is a nonnegative real. -/
theorem wt_real (e : EReal) (r : ℝ) (h : e ≤ (r : EReal)) : ∃ p : ℝ, 0 ≤ p ∧ wt e r = (p : EReal) := by
  induction e with
  | bot => exact ⟨0, le_refl 0, by rw [wt, EReal.bot_sub, Ideal.exp_bot, EReal.coe_zero]⟩
  | coe x => exact ⟨Real.exp (x - r), (Real.exp_pos _).le, by rw [wt, ← EReal.coe_sub, Ideal.exp_coe]⟩
  | top => exact absurd h (not_le.mpr (EReal.coe_lt_top r))

/-- At a real, the weight is one. -/
theorem wt_self (r : ℝ) : wt r r = ((1 : ℝ) : EReal) := by
  rw [wt, ← EReal.coe_sub, Ideal.exp_coe, sub_self, Real.exp_zero]

/-- The largest log-denominator is one of the three. -/
theorem top_mem (e0 e1 e2 : EReal) : top e0 e1 e2 = e0 ∨ top e0 e1 e2 = e1 ∨ top e0 e1 e2 = e2 := by
  unfold top
  rcases max_choice (max e0 e1) e2 with h | h
  · rcases max_choice e0 e1 with h' | h'
    · exact Or.inl (h.trans h')
    · exact Or.inr (Or.inl (h.trans h'))
  · exact Or.inr (Or.inr h)

/-- The two forms agree when the largest log-denominator is a real. -/
theorem mixed_eq (e0 e1 e2 o0 o1 o2 : EReal) (h : ∃ r : ℝ, top e0 e1 e2 = (r : EReal)) :
    mixed e0 e1 e2 o0 o1 o2 = mix e0 e1 e2 o0 o1 o2 := by
  obtain ⟨r, hr⟩ := h
  have hm := top_mem e0 e1 e2
  have b0 : e0 ≤ (r : EReal) := hr ▸ (le_max_left e0 e1).trans (le_max_left _ e2)
  have b1 : e1 ≤ (r : EReal) := hr ▸ (le_max_right e0 e1).trans (le_max_left _ e2)
  have b2 : e2 ≤ (r : EReal) := hr ▸ le_max_right _ e2
  rw [hr] at hm
  obtain ⟨p0, n0, h0⟩ := wt_real e0 r b0
  obtain ⟨p1, n1, h1⟩ := wt_real e1 r b1
  obtain ⟨p2, n2, h2⟩ := wt_real e2 r b2
  have hone : ∀ (e : EReal) (p : ℝ), (r : EReal) = e → wt e r = (p : EReal) → p = 1 := fun e p he hp => by
    rw [← he, wt_self] at hp; exact_mod_cast hp.symm
  have hpos : 0 < p0 + p1 + p2 := by
    rcases hm with he | he | he
    · have := hone e0 p0 he h0; linarith
    · have := hone e1 p1 he h1; linarith
    · have := hone e2 p2 he h2; linarith
  have hc : (0 : EReal) ≤ ((1 / (p0 + p1 + p2) : ℝ) : EReal) := by exact_mod_cast (one_div_pos.mpr hpos).le
  have ht : total e0 e1 e2 = ((p0 + p1 + p2 : ℝ) : EReal) := by
    rw [total, hr, h0, h1, h2, EReal.coe_add, EReal.coe_add]
  rw [mixed, mix, ht, hr, h0, h1, h2, Ideal.div_coe hpos.ne', Ideal.div_coe hpos.ne', Ideal.div_coe hpos.ne', Ideal.div_coe hpos.ne',
    EReal.right_distrib_of_nonneg_of_ne_top hc (EReal.coe_ne_top _), EReal.right_distrib_of_nonneg_of_ne_top hc (EReal.coe_ne_top _),
    mul_right_comm _ o0, mul_right_comm _ o1, mul_right_comm _ o2]

end Cert.MergeMath

end
-- ==== Proof.MergeIdealValue.lean ====
/-
  The result array of the merge's kernel, as a function of its argument arrays.
-/
module

public import proofs.«01_k».proof.Proof.Gen.MergeIdeal.Value
public import proofs.«01_k».proof.Proof.MergeMath

@[expose] public section

set_option maxRecDepth 16384

noncomputable section

namespace Cert.MergeIdeal.Value

open Cert.MergeIdeal Cert.MergeIdeal.Gen Cert.MergeMath
open Idealize.ShloMosaic Idealize.ShloMosaic.TcCoe Idealize.SL.Sem Finset
open Idealize.ShloMosaic.Pipeline (Dat)

/-! ## What a point computes on its blocks -/

/-- The projection of the first or of the third attention. -/
theorem pay2_apply (o : Vec Ideal S512x512 .bf16) (w : Vec Ideal S512x1024 .bf16) (r : Fin 512) (k : Fin 1024) :
    k0_pay2 o w (ix2 r k) = ∑ j : Fin 512, o (ix2 r j) * w (ix2 j k) := by
  pointwise [k0_pay2]

theorem pay4_apply (o : Vec Ideal S512x512 .bf16) (w : Vec Ideal S512x1024 .bf16) (r : Fin 512) (k : Fin 1024) :
    k0_pay4 o w (ix2 r k) = ∑ j : Fin 512, o (ix2 r j) * w (ix2 j k) := by
  pointwise [k0_pay4]

/-- The projection of the dilated attention, mixed from its three groups. -/
theorem pay3_apply (e0 e1 e2 o0 o1 o2 : Vec Ideal S512x256 .f32) (w : Vec Ideal S256x1024 .bf16) (r : Fin 512) (k : Fin 1024) :
    k0_pay3 e0 e1 e2 o0 o1 o2 w (ix2 r k)
      = ∑ j : Fin 256, mixed (e0 (ix2 r j)) (e1 (ix2 r j)) (e2 (ix2 r j)) (o0 (ix2 r j)) (o1 (ix2 r j)) (o2 (ix2 r j)) * w (ix2 j k) := by
  simp only [mixed, total, wt, top]
  pointwise [k0_pay3]

/-- The gated sum and the output projection. -/
theorem pay1_apply (ya yb yc : FVec Ideal S512x1024 .f32) (ga gb gc : Vec Ideal S512x1024 .bf16) (x : Vec Ideal S512x1024 .f32)
    (w : Vec Ideal S1024x1024 .bf16) (r : Fin 512) (d : Fin 1024) :
    k0_pay1 ya yb yc ga gb gc x w (ix2 r d)
      = x (ix2 r d) + ∑ k : Fin 1024, (ga (ix2 r k) * ya (ix2 r k) + gb (ix2 r k) * yb (ix2 r k) + gc (ix2 r k) * yc (ix2 r k)) * w (ix2 k d) := by
  pointwise [k0_pay1]

/-- Two indices of an array of two axes are equal when their coordinates are. -/
theorem ext2 {n w : ℕ} {i j : (⟨2, ![n, w]⟩ : Shape).Idx} (h0 : (i 0).val = (j 0).val) (h1 : (i 1).val = (j 1).val) : i = j := by
  funext a
  match a with
  | ⟨0, _⟩ => exact Fin.ext h0
  | ⟨1, _⟩ => exact Fin.ext h1

/-- The three gates of a block of gates. -/
theorem gate_a (g : Vec Ideal S512x3072 .bf16) (r : Fin 512) (k : Fin 1024) :
    (View.ld g r0_4 : Vec Ideal S512x1024 .bf16) (ix2 r k) = g (ix2 r ⟨k.val, by omega⟩) :=
  congrArg g (ext2 (by show 0 + 1 * r.val = r.val; omega) (by show 0 + 1 * k.val = k.val; omega))

theorem gate_b (g : Vec Ideal S512x3072 .bf16) (r : Fin 512) (k : Fin 1024) :
    (View.ld g r0_5 : Vec Ideal S512x1024 .bf16) (ix2 r k) = g (ix2 r ⟨1024 + k.val, by omega⟩) :=
  congrArg g (ext2 (by show 0 + 1 * r.val = r.val; omega) (by show 1024 + 1 * k.val = 1024 + k.val; omega))

theorem gate_c (g : Vec Ideal S512x3072 .bf16) (r : Fin 512) (k : Fin 1024) :
    (View.ld g r0_6 : Vec Ideal S512x1024 .bf16) (ix2 r k) = g (ix2 r ⟨2048 + k.val, by omega⟩) :=
  congrArg g (ext2 (by show 0 + 1 * r.val = r.val; omega) (by show 2048 + 1 * k.val = 2048 + k.val; omega))

/-- What the body leaves in the result's block. -/
theorem out_apply (x : Vec Ideal S512x1024 .f32) (oa oc : Vec Ideal S512x512 .bf16) (o0 o1 o2 e0 e1 e2 : Vec Ideal S512x256 .f32)
    (g : Vec Ideal S512x3072 .bf16) (wa : Vec Ideal S512x1024 .bf16) (wb : Vec Ideal S256x1024 .bf16) (wc : Vec Ideal S512x1024 .bf16)
    (wo : Vec Ideal S1024x1024 .bf16) (r : Fin 512) (d : Fin 1024) :
    out0_14 x oa oc o0 o1 o2 e0 e1 e2 g wa wb wc wo (ix2 r d)
      = merge (x (ix2 r d)) (fun j => oa (ix2 r j))
          (fun j => mixed (e0 (ix2 r j)) (e1 (ix2 r j)) (e2 (ix2 r j)) (o0 (ix2 r j)) (o1 (ix2 r j)) (o2 (ix2 r j)))
          (fun j => oc (ix2 r j)) (fun k => g (ix2 r k)) (fun j k => wa (ix2 j k)) (fun j k => wb (ix2 j k)) (fun j k => wc (ix2 j k))
          (fun k => wo (ix2 k d)) := by
  frame_out
  rw [pay1_apply]
  simp only [pay2_apply, pay3_apply, pay4_apply]
  rw [merge]
  exact congrArg _ (sum_congr rfl fun k _ => by rw [← gate_a g r k, ← gate_b g r k, ← gate_c g r k])

variable (m : (ℓ : Loc nD τ sig) → Buf (Elt Ideal) ℓ) (ρ : Dev nD → PrngReg) (c : Dev nD)

/-! ## What the region finds -/

theorem V_v0 : V m c main_v0 = (truncf .bf16 (m ((c : Thread nD τ).loc main_arg10) : FVec Ideal S512x1024 .f32) bitsLt_bf16_f32 : FVec Ideal S512x1024 .bf16) := by
  unfold V; simp only [hostOps0]; after_results_simp <;> rfl
theorem V_v1 : V m c main_v1 = (truncf .bf16 (m ((c : Thread nD τ).loc main_arg11) : FVec Ideal S256x1024 .f32) bitsLt_bf16_f32 : FVec Ideal S256x1024 .bf16) := by
  unfold V; simp only [hostOps0]; after_results_simp <;> rfl
theorem V_v2 : V m c main_v2 = (truncf .bf16 (m ((c : Thread nD τ).loc main_arg12) : FVec Ideal S512x1024 .f32) bitsLt_bf16_f32 : FVec Ideal S512x1024 .bf16) := by
  unfold V; simp only [hostOps0]; after_results_simp <;> rfl
theorem V_v3 : V m c main_v3 = (truncf .bf16 (m ((c : Thread nD τ).loc main_arg13) : FVec Ideal S1024x1024 .f32) bitsLt_bf16_f32 : FVec Ideal S1024x1024 .bf16) := by
  unfold V; simp only [hostOps0]; after_results_simp <;> rfl

/-! ## The blocks -/

/-- The row windows stand at row block `t` at point `t`. -/
theorem rows : ∀ t : Fin cfg0.N,
    win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] ∧ win0_9.index t = ![t.val, 0] ∧ win0_14.index t = ![t.val, 0] :=
  (by decide +kernel : ∀ t : Fin grid0.N, _)

/-- The weights' windows stand still. -/
theorem whole : ∀ t : Fin cfg0.N,
    win0_10.index t = ![0, 0] ∧ win0_11.index t = ![0, 0] ∧ win0_12.index t = ![0, 0] ∧ win0_13.index t = ![0, 0] :=
  (by decide +kernel : ∀ t : Fin grid0.N, _)

theorem points (t : Fin cfg0.N) : t.val < 128 := t.isLt.trans_eq (by decide +kernel : grid0.N = 128)

/-- The row of the arrays that row `r` of point `t`'s block is. -/
abbrev rowOf (t : Fin cfg0.N) (r : Fin 512) : Fin 65536 := ⟨t.val * 512 + r.val, by have := points t; omega⟩

/-- Where a block's row and column lie in the array. -/
theorem row_pos {f : Fin 2 → ℕ} {t : ℕ} (h : f = ![t, 0]) (b r : ℕ) : f 0 * b + 1 * r = t * b + r := by rw [h]; simp
theorem row_zero {f : Fin 2 → ℕ} (h : f = ![0, 0]) (b r : ℕ) : f 0 * b + 1 * r = r := by rw [h]; simp
theorem col_pos {f : Fin 2 → ℕ} {t : ℕ} (h : f = ![t, 0]) (b k : ℕ) : f 1 * b + 1 * k = k := by rw [h]; simp

theorem iblk0_apply (t : Fin cfg0.N) (r : Fin 512) (k : Fin 1024) :
    (iblk m c 0 t : Vec Ideal S512x1024 .f32) (ix2 r k) = (m ((c : Thread nD τ).loc main_arg0) : FVec Ideal S65536x1024 .f32) (ix2 (rowOf t r) k) := by
  unfold iblk
  rw [View.read_apply]
  exact (congrFun (V_main_arg0 m c) _).trans (congrArg _ (ext2 (row_pos (rows t).1 512 r.val) (col_pos (rows t).1 1024 k.val)))

theorem iblk1_apply (t : Fin cfg0.N) (r : Fin 512) (k : Fin 512) :
    (iblk m c 1 t : Vec Ideal S512x512 .bf16) (ix2 r k) = (m ((c : Thread nD τ).loc main_arg1) : FVec Ideal S65536x512 .bf16) (ix2 (rowOf t r) k) := by
  unfold iblk
  rw [View.read_apply]
  exact (congrFun (V_main_arg1 m c) _).trans (congrArg _ (ext2 (row_pos (rows t).2.1 512 r.val) (col_pos (rows t).2.1 512 k.val)))

theorem iblk2_apply (t : Fin cfg0.N) (r : Fin 512) (k : Fin 512) :
    (iblk m c 2 t : Vec Ideal S512x512 .bf16) (ix2 r k) = (m ((c : Thread nD τ).loc main_arg2) : FVec Ideal S65536x512 .bf16) (ix2 (rowOf t r) k) := by
  unfold iblk
  rw [View.read_apply]
  exact (congrFun (V_main_arg2 m c) _).trans (congrArg _ (ext2 (row_pos (rows t).2.2.1 512 r.val) (col_pos (rows t).2.2.1 512 k.val)))

theorem iblk3_apply (t : Fin cfg0.N) (r : Fin 512) (k : Fin 256) :
    (iblk m c 3 t : Vec Ideal S512x256 .f32) (ix2 r k) = (m ((c : Thread nD τ).loc main_arg3) : FVec Ideal S65536x256 .f32) (ix2 (rowOf t r) k) := by
  unfold iblk
  rw [View.read_apply]
  exact (congrFun (V_main_arg3 m c) _).trans (congrArg _ (ext2 (row_pos (rows t).2.2.2.1 512 r.val) (col_pos (rows t).2.2.2.1 256 k.val)))

theorem iblk4_apply (t : Fin cfg0.N) (r : Fin 512) (k : Fin 256) :
    (iblk m c 4 t : Vec Ideal S512x256 .f32) (ix2 r k) = (m ((c : Thread nD τ).loc main_arg4) : FVec Ideal S65536x256 .f32) (ix2 (rowOf t r) k) := by
  unfold iblk
  rw [View.read_apply]
  exact (congrFun (V_main_arg4 m c) _).trans (congrArg _ (ext2 (row_pos (rows t).2.2.2.2.1 512 r.val) (col_pos (rows t).2.2.2.2.1 256 k.val)))

theorem iblk5_apply (t : Fin cfg0.N) (r : Fin 512) (k : Fin 256) :
    (iblk m c 5 t : Vec Ideal S512x256 .f32) (ix2 r k) = (m ((c : Thread nD τ).loc main_arg5) : FVec Ideal S65536x256 .f32) (ix2 (rowOf t r) k) := by
  unfold iblk
  rw [View.read_apply]
  exact (congrFun (V_main_arg5 m c) _).trans (congrArg _ (ext2 (row_pos (rows t).2.2.2.2.2.1 512 r.val) (col_pos (rows t).2.2.2.2.2.1 256 k.val)))

theorem iblk6_apply (t : Fin cfg0.N) (r : Fin 512) (k : Fin 256) :
    (iblk m c 6 t : Vec Ideal S512x256 .f32) (ix2 r k) = (m ((c : Thread nD τ).loc main_arg6) : FVec Ideal S65536x256 .f32) (ix2 (rowOf t r) k) := by
  unfold iblk
  rw [View.read_apply]
  exact (congrFun (V_main_arg6 m c) _).trans (congrArg _ (ext2 (row_pos (rows t).2.2.2.2.2.2.1 512 r.val) (col_pos (rows t).2.2.2.2.2.2.1 256 k.val)))

theorem iblk7_apply (t : Fin cfg0.N) (r : Fin 512) (k : Fin 256) :
    (iblk m c 7 t : Vec Ideal S512x256 .f32) (ix2 r k) = (m ((c : Thread nD τ).loc main_arg7) : FVec Ideal S65536x256 .f32) (ix2 (rowOf t r) k) := by
  unfold iblk
  rw [View.read_apply]
  exact (congrFun (V_main_arg7 m c) _).trans (congrArg _ (ext2 (row_pos (rows t).2.2.2.2.2.2.2.1 512 r.val) (col_pos (rows t).2.2.2.2.2.2.2.1 256 k.val)))

theorem iblk8_apply (t : Fin cfg0.N) (r : Fin 512) (k : Fin 256) :
    (iblk m c 8 t : Vec Ideal S512x256 .f32) (ix2 r k) = (m ((c : Thread nD τ).loc main_arg8) : FVec Ideal S65536x256 .f32) (ix2 (rowOf t r) k) := by
  unfold iblk
  rw [View.read_apply]
  exact (congrFun (V_main_arg8 m c) _).trans (congrArg _ (ext2 (row_pos (rows t).2.2.2.2.2.2.2.2.1 512 r.val) (col_pos (rows t).2.2.2.2.2.2.2.2.1 256 k.val)))

theorem iblk9_apply (t : Fin cfg0.N) (r : Fin 512) (k : Fin 3072) :
    (iblk m c 9 t : Vec Ideal S512x3072 .bf16) (ix2 r k) = (m ((c : Thread nD τ).loc main_arg9) : FVec Ideal S65536x3072 .bf16) (ix2 (rowOf t r) k) := by
  unfold iblk
  rw [View.read_apply]
  exact (congrFun (V_main_arg9 m c) _).trans (congrArg _ (ext2 (row_pos (rows t).2.2.2.2.2.2.2.2.2.1 512 r.val) (col_pos (rows t).2.2.2.2.2.2.2.2.2.1 3072 k.val)))

theorem iblk10_apply (t : Fin cfg0.N) (j : Fin 512) (k : Fin 1024) :
    (iblk m c 10 t : Vec Ideal S512x1024 .bf16) (ix2 j k) = (m ((c : Thread nD τ).loc main_arg10) : FVec Ideal S512x1024 .f32) (ix2 j k) := by
  unfold iblk
  rw [View.read_apply]
  exact (congrFun (V_v0 m c) _).trans (congrArg (m ((c : Thread nD τ).loc main_arg10) : FVec Ideal S512x1024 .f32) (ext2 (row_zero (whole t).1 512 j.val) (col_pos (whole t).1 1024 k.val)))

theorem iblk11_apply (t : Fin cfg0.N) (j : Fin 256) (k : Fin 1024) :
    (iblk m c 11 t : Vec Ideal S256x1024 .bf16) (ix2 j k) = (m ((c : Thread nD τ).loc main_arg11) : FVec Ideal S256x1024 .f32) (ix2 j k) := by
  unfold iblk
  rw [View.read_apply]
  exact (congrFun (V_v1 m c) _).trans (congrArg (m ((c : Thread nD τ).loc main_arg11) : FVec Ideal S256x1024 .f32) (ext2 (row_zero (whole t).2.1 256 j.val) (col_pos (whole t).2.1 1024 k.val)))

theorem iblk12_apply (t : Fin cfg0.N) (j : Fin 512) (k : Fin 1024) :
    (iblk m c 12 t : Vec Ideal S512x1024 .bf16) (ix2 j k) = (m ((c : Thread nD τ).loc main_arg12) : FVec Ideal S512x1024 .f32) (ix2 j k) := by
  unfold iblk
  rw [View.read_apply]
  exact (congrFun (V_v2 m c) _).trans (congrArg (m ((c : Thread nD τ).loc main_arg12) : FVec Ideal S512x1024 .f32) (ext2 (row_zero (whole t).2.2.1 512 j.val) (col_pos (whole t).2.2.1 1024 k.val)))

theorem iblk13_apply (t : Fin cfg0.N) (j : Fin 1024) (k : Fin 1024) :
    (iblk m c 13 t : Vec Ideal S1024x1024 .bf16) (ix2 j k) = (m ((c : Thread nD τ).loc main_arg13) : FVec Ideal S1024x1024 .f32) (ix2 j k) := by
  unfold iblk
  rw [View.read_apply]
  exact (congrFun (V_v3 m c) _).trans (congrArg (m ((c : Thread nD τ).loc main_arg13) : FVec Ideal S1024x1024 .f32) (ext2 (row_zero (whole t).2.2.2 1024 j.val) (col_pos (whole t).2.2.2 1024 k.val)))

/-- The kernel's result at row `i` and column `d`. -/
def mergedAt (i : Fin 65536) (d : Fin 1024) : EReal :=
  merge ((m ((c : Thread nD τ).loc main_arg0) : FVec Ideal S65536x1024 .f32) (ix2 i d)) (fun j => (m ((c : Thread nD τ).loc main_arg1) : FVec Ideal S65536x512 .bf16) (ix2 i j))
    (fun j => mixed ((m ((c : Thread nD τ).loc main_arg6) : FVec Ideal S65536x256 .f32) (ix2 i j)) ((m ((c : Thread nD τ).loc main_arg7) : FVec Ideal S65536x256 .f32) (ix2 i j))
      ((m ((c : Thread nD τ).loc main_arg8) : FVec Ideal S65536x256 .f32) (ix2 i j)) ((m ((c : Thread nD τ).loc main_arg3) : FVec Ideal S65536x256 .f32) (ix2 i j))
      ((m ((c : Thread nD τ).loc main_arg4) : FVec Ideal S65536x256 .f32) (ix2 i j)) ((m ((c : Thread nD τ).loc main_arg5) : FVec Ideal S65536x256 .f32) (ix2 i j)))
    (fun j => (m ((c : Thread nD τ).loc main_arg2) : FVec Ideal S65536x512 .bf16) (ix2 i j)) (fun k => (m ((c : Thread nD τ).loc main_arg9) : FVec Ideal S65536x3072 .bf16) (ix2 i k))
    (fun j k => (m ((c : Thread nD τ).loc main_arg10) : FVec Ideal S512x1024 .f32) (ix2 j k)) (fun j k => (m ((c : Thread nD τ).loc main_arg11) : FVec Ideal S256x1024 .f32) (ix2 j k))
    (fun j k => (m ((c : Thread nD τ).loc main_arg12) : FVec Ideal S512x1024 .f32) (ix2 j k)) (fun k => (m ((c : Thread nD τ).loc main_arg13) : FVec Ideal S1024x1024 .f32) (ix2 k d))

/-- The kernel's result array. -/
def merged : FVec Ideal S65536x1024 .f32 := fun i => mergedAt m c (i 0) (i 1)

/-- What a point computes. -/
theorem block_apply (t : Fin cfg0.N) (r : Fin 512) (d : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = mergedAt m c (rowOf t r) d := by
  rw [out_apply]
  simp only [iblk0_apply, iblk1_apply, iblk2_apply, iblk3_apply, iblk4_apply, iblk5_apply, iblk6_apply, iblk7_apply, iblk8_apply, iblk9_apply, iblk10_apply, iblk11_apply, iblk12_apply, iblk13_apply]
  rfl

/-- What a point writes back is its block of the result array. -/
theorem flushed14_eq (t : Fin cfg0.N) :
    (dats m 0 c).flushed 14 t = ((cfg0.win 14).blk t).view.read (Elt Ideal) (merged m c : Buf (Elt Ideal) ((c : Thread nD τ).loc main_v4)) := by
  rw [flushed14]
  have hi := (rows t).2.2.2.2.2.2.2.2.2.2
  funext y
  have hy0 : (y 0).val < 512 := (y 0).isLt
  have hy1 : (y 1).val < 1024 := (y 1).isLt
  have hx : (cfg0.win 14).xinj (grid0.coords t) y = (ix2 ⟨(y 0).val, hy0⟩ ⟨(y 1).val, hy1⟩ : S512x1024.Idx) := ext2 rfl rfl
  have h0 : ((cfg0.win 14).blk t).view.emb y 0 = rowOf t ⟨(y 0).val, hy0⟩ := Fin.ext (row_pos hi 512 (y 0).val)
  have h1 : ((cfg0.win 14).blk t).view.emb y 1 = (⟨(y 1).val, hy1⟩ : Fin 1024) := Fin.ext (col_pos hi 1024 (y 1).val)
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((cfg0.win 14).xinj (grid0.coords t) y)
    = mergedAt m c (((cfg0.win 14).blk t).view.emb y 0) (((cfg0.win 14).blk t).view.emb y 1)
  rw [hx, h0, h1, block_apply]

/-- The blocks cover the array. -/
theorem covered (i : S65536x1024.Idx) : ∃ t : Fin cfg0.N, (cfg0.win 14).flush t = true ∧ i ∈ ((cfg0.win 14).blk t).view.set := by
  have hi0 : (i 0).val < 65536 := (i 0).isLt
  have hi1 : (i 1).val < 1024 := (i 1).isLt
  have hN : grid0.N = 128 := by decide +kernel
  obtain ⟨t, ht⟩ : ∃ t : Fin cfg0.N, t.val = (i 0).val / 512 := ⟨⟨(i 0).val / 512, by show _ < grid0.N; rw [hN]; omega⟩, rfl⟩
  have hw := (rows t).2.2.2.2.2.2.2.2.2.2
  refine ⟨t, flush0_14 t, ?_⟩
  show i ∈ ((View.whole main_v4).slice (win0_14.rect t)).set
  rw [View.set_slice_whole, Rect.mem_set_unit]
  intro a
  match a with
  | ⟨0, _⟩ =>
    show win0_14.index t 0 * 512 ≤ (i 0).val ∧ (i 0).val < win0_14.index t 0 * 512 + 512
    rw [hw]; simp only [Matrix.cons_val_zero]; omega
  | ⟨1, _⟩ =>
    show win0_14.index t 1 * 1024 ≤ (i 1).val ∧ (i 1).val < win0_14.index t 1 * 1024 + 1024
    rw [hw]; simp only [Matrix.cons_val_one, Matrix.cons_val_zero]; omega

/-- The kernel's result array after the run. -/
theorem final14 : (dats m 0 c).arrAt 14 cfg0.N = (merged m c : Buf (Elt Ideal) ((c : Thread nD τ).loc main_v4)) :=
  (dats m 0 c).arrAt_eq_of_cover 14 _ (fun t _ => flushed14_eq m c t) fun i => covered i

end Cert.MergeIdeal.Value

end
-- ==== Proof.MergeRefRead.lean ====
/-
  The plain formula's merge, read at an index.
-/
module

public import proofs.«01_k».proof.Proof.Gen.MergeRefIdeal.Run
public import proofs.«01_k».proof.Proof.MergeMath

@[expose] public section

noncomputable section

namespace Cert.MergeRefIdeal.Read

open Idealize.ShloMosaic Cert.MergeRefIdeal Cert.MergeRefIdeal.Gen Cert.MergeMath Finset

/-- The largest log-denominators. -/
abbrev refTop (e0 e1 e2 : FVec Ideal S65536x256 .f32) : FVec Ideal S65536x256 .f32 := maximumf (maximumf e0 e1) e2

/-- A group's weights. -/
abbrev refWt (e t : FVec Ideal S65536x256 .f32) : FVec Ideal S65536x256 .f32 := Host.exp (subf e t)

/-- The weights' sums. -/
abbrev refTotal (e0 e1 e2 : FVec Ideal S65536x256 .f32) : FVec Ideal S65536x256 .f32 :=
  addf (addf (refWt e0 (refTop e0 e1 e2)) (refWt e1 (refTop e0 e1 e2))) (refWt e2 (refTop e0 e1 e2))

/-- The dilated attention. -/
abbrev refMix (e0 e1 e2 o0 o1 o2 : FVec Ideal S65536x256 .f32) : FVec Ideal S65536x256 .f32 :=
  addf (addf (mulf (Host.divf (refWt e0 (refTop e0 e1 e2)) (refTotal e0 e1 e2)) o0) (mulf (Host.divf (refWt e1 (refTop e0 e1 e2)) (refTotal e0 e1 e2)) o1)) (mulf (Host.divf (refWt e2 (refTop e0 e1 e2)) (refTotal e0 e1 e2)) o2)

/-- The merged tokens. -/
abbrev refMerge (x : FVec Ideal S65536x1024 .f32) (oa oc : FVec Ideal S65536x512 .bf16) (o0 o1 o2 e0 e1 e2 : FVec Ideal S65536x256 .f32)
    (g : FVec Ideal S65536x3072 .bf16) (wa : FVec Ideal S512x1024 .f32) (wb : FVec Ideal S256x1024 .f32) (wc : FVec Ideal S512x1024 .f32)
    (wo : FVec Ideal S1024x1024 .f32) : FVec Ideal S65536x1024 .f32 :=
  addf x (Host.dotGeneral dot_S65536x1024_S1024x1024_S65536x1024_1_0_0_1_n_n none (addf (addf (mulf (extractStridedSlice S65536x1024 ![0, 0] (extf .f32 g bitsLt_bf16_f32) slices_S65536x3072_S65536x1024_0_0) (Host.dotGeneral dot_S65536x512_S512x1024_S65536x1024_1_0_0_1_n_n none (extf .f32 oa bitsLt_bf16_f32) wa)) (mulf (extractStridedSlice S65536x1024 ![0, 1024] (extf .f32 g bitsLt_bf16_f32) slices_S65536x3072_S65536x1024_0_1024) (Host.dotGeneral dot_S65536x256_S256x1024_S65536x1024_1_0_0_1_n_n none (refMix e0 e1 e2 o0 o1 o2) wb))) (mulf (extractStridedSlice S65536x1024 ![0, 2048] (extf .f32 g bitsLt_bf16_f32) slices_S65536x3072_S65536x1024_0_2048) (Host.dotGeneral dot_S65536x512_S512x1024_S65536x1024_1_0_0_1_n_n none (extf .f32 oc bitsLt_bf16_f32) wc))) wo)

/-- The dilated attention at an index. -/
theorem mix_read (e0 e1 e2 o0 o1 o2 : FVec Ideal S65536x256 .f32) (i : Fin 65536) (j : Fin 256) :
    refMix e0 e1 e2 o0 o1 o2 (ix2 i j) = mix (e0 (ix2 i j)) (e1 (ix2 i j)) (e2 (ix2 i j)) (o0 (ix2 i j)) (o1 (ix2 i j)) (o2 (ix2 i j)) := by
  simp only [mix, total, wt, top]
  pointwise

/-- The merged tokens at an index. -/
theorem merge_read (x : FVec Ideal S65536x1024 .f32) (oa oc : FVec Ideal S65536x512 .bf16) (o0 o1 o2 e0 e1 e2 : FVec Ideal S65536x256 .f32)
    (g : FVec Ideal S65536x3072 .bf16) (wa : FVec Ideal S512x1024 .f32) (wb : FVec Ideal S256x1024 .f32) (wc : FVec Ideal S512x1024 .f32)
    (wo : FVec Ideal S1024x1024 .f32) (i : Fin 65536) (d : Fin 1024) :
    refMerge x oa oc o0 o1 o2 e0 e1 e2 g wa wb wc wo (ix2 i d)
      = merge (x (ix2 i d)) (fun j => oa (ix2 i j))
          (fun j => mix (e0 (ix2 i j)) (e1 (ix2 i j)) (e2 (ix2 i j)) (o0 (ix2 i j)) (o1 (ix2 i j)) (o2 (ix2 i j)))
          (fun j => oc (ix2 i j)) (fun k => g (ix2 i k)) (fun j k => wa (ix2 j k)) (fun j k => wb (ix2 j k)) (fun j k => wc (ix2 j k))
          (fun k => wo (ix2 k d)) := by
  simp only [merge, ← mix_read]
  unfold refMerge
  generalize refMix e0 e1 e2 o0 o1 o2 = ob
  pointwise

end Cert.MergeRefIdeal.Read

end
-- ==== Proof.MergeClaims.lean ====
/-
  The claims of the merge: the kernel and the plain formula end with equal results, and the runs' frames.

  The precondition makes the largest of each lane's three log-denominators a real (`real_of_pre`); with that, dividing the
  weighted sum and dividing each weight come to the same.
-/
module

public import proofs.«01_k».proof.Proof.MergeIdealValue
public import proofs.«01_k».proof.Proof.MergeRefRead
public import proofs.«01_k».proof.Proof.DiffClaims
public import proofs.«01_k».proof.Proof.Gen.Merge.Frame
public import proofs.«01_k».proof.Proof.Gen.Pre_finite_top
public import proofs.«01_k».proof.Defs

@[expose] public section

noncomputable section

namespace Cert.Proof.MergeClaims

open Idealize.ShloMosaic Idealize.ShloMosaic.TcCoe Idealize.SL.Sem Finset Cert.MergeMath

open Cert.Pre_finite_top Cert.Pre_finite_top.Gen in
/-- The precondition: the largest log-denominator of every lane is a real. -/
theorem real_of_pre (x : FVec Ideal S65536x1024 .f32) (oa oc : FVec Ideal S65536x512 .bf16) (o0 o1 o2 e0 e1 e2 : FVec Ideal S65536x256 .f32)
    (g : FVec Ideal S65536x3072 .bf16) (wa : FVec Ideal S512x1024 .f32) (wb : FVec Ideal S256x1024 .f32) (wc : FVec Ideal S512x1024 .f32)
    (wo : FVec Ideal S1024x1024 .f32) (h : fn (F := Ideal) x oa oc o0 o1 o2 e0 e1 e2 g wa wb wc wo = fun _ => 1#1)
    (i : Fin 65536) (j : Fin 256) : ∃ r : ℝ, top (e0 (ix2 i j)) (e1 (ix2 i j)) (e2 (ix2 i j)) = (r : EReal) := by
  have hj := congrFun h (fun a => a.elim0)
  unfold fn at hj
  haveI : Subsingleton S_.Idx := ⟨fun a b => funext fun i => i.elim0⟩
  have hi := Host.reduce_andi_all _ _ _ _ _ hj (ix2 i j)
  refine MlaClaims.real_of_cmp _ ?_
  rw [← DiffClaims.pos_inf]
  exact hi

/-- The kernel and the plain formula end with equal results. -/
theorem algebraic : Cert.algebraic_MergeIdeal_MergeRefIdeal_pre_finite_top := by
  intro m ρ m' ρ' hpre hagree
  refine ⟨_, Cert.MergeIdeal.Value.run_blocks m ρ, ?_⟩
  refine (θ_run Cert.MergeRefIdeal.defs _ _).mono (fun _ h c => ⟨(h c).1.trans ?_, (h c).2⟩)
    (Cert.MergeRefIdeal.Value.run (F := Ideal) m' ρ')
  obtain ⟨a0, a1, a2, a3, a4, a5, a6, a7, a8, a9, a10, a11, a12, a13⟩ := hagree c
  rw [a0, a1, a2, a3, a4, a5, a6, a7, a8, a9, a10, a11, a12, a13]
  refine Eq.trans ?_ (Cert.MergeIdeal.Value.final14 m c).symm
  funext j
  obtain ⟨i, d, rfl⟩ : ∃ (i : Fin 65536) (d : Fin 1024), j = ix2 i d := ⟨j 0, j 1, by
    funext a; match a with | ⟨0, _⟩ => rfl | ⟨1, _⟩ => rfl⟩
  refine (Cert.MergeRefIdeal.Read.merge_read _ _ _ _ _ _ _ _ _ _ _ _ _ _ i d).trans ?_
  have hr := fun j => real_of_pre _ _ _ _ _ _ _ _ _ _ _ _ _ _ (hpre c) i j
  simp only [← mixed_eq _ _ _ _ _ _ (hr _)]
  rfl

theorem frame_p : Cert.quiescent_Merge := fun m ρ _ => Cert.Merge.Gen.frame m ρ
theorem frame_pi : Cert.quiescent_MergeIdeal := fun m ρ _ => Cert.MergeIdeal.Gen.frame m ρ
theorem frame_pi_pre : Cert.quiescent_MergeIdeal_pre_finite_top := fun m ρ _ => Cert.MergeIdeal.Gen.frame m ρ
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)
theorem frame_ri_pre : Cert.quiescent_MergeRefIdeal_pre_finite_top := fun m ρ _ => frame_ri m ρ trivial

/-- No constant is named. -/
theorem preserves : Cert.preserves_Merge_MergeIdeal := trivial

end Cert.Proof.MergeClaims

end
-- ==== Proof.lean ====
/-
  The claim, put together: the latent attention's claims (`MlaClaims`), the differential attention's (`DiffClaims`), and
  those of the MLP with the final norm (`MlpClaims`) and without it (`MlpFirstClaims`), of the gates (`GateClaims`) and of
  the merge (`MergeClaims`).
-/
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Diff
public import proofs.«01_k».proof.Proof.Gen.Diff.Skeleton
public import proofs.«01_k».proof.Proof.Gen.Diff.Loops
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.MlpFirst
public import proofs.«01_k».proof.Proof.Gen.MlpFirst.Skeleton
public import proofs.«01_k».proof.Proof.Gen.MlpFirst.Launch
public import proofs.«01_k».proof.Proof.Gen.MlpFirst.Points
public import proofs.«01_k».proof.Proof.Gen.MlpFirst.Frame
public import proofs.«01_k».proof.Proof.Gen.MlpFirstIdeal
public import proofs.«01_k».proof.Proof.Gen.MlpFirstIdeal.Skeleton
public import proofs.«01_k».proof.Proof.Gen.MlpFirstIdeal.Launch
public import proofs.«01_k».proof.Proof.Gen.MlpFirstIdeal.Points
public import proofs.«01_k».proof.Proof.Gen.MlpFirstIdeal.Frame
public import proofs.«01_k».proof.Proof.Gen.MlpFirstRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Pre_finite_qk
public import proofs.«01_k».proof.Proof.Gen.Pre_finite_top
public import proofs.«01_k».proof.Proof.Gen.Pre_finite_diff
public import proofs.«01_k».proof.Proof.Gen.MlaRefIdeal.Run
public import proofs.«01_k».proof.Proof.Gen.MlpIdeal.Value
public import proofs.«01_k».proof.Proof.Gen.MlpRefIdeal.Run
public import proofs.«01_k».proof.Proof.Gen.MlpFirstIdeal.Value
public import proofs.«01_k».proof.Proof.Gen.MlpFirstRefIdeal.Run
public import proofs.«01_k».proof.Proof.Gen.DiffRefIdeal.Run
public import proofs.«01_k».proof.Proof.MlaClaims
public import proofs.«01_k».proof.Proof.MlpClaims
public import proofs.«01_k».proof.Proof.DiffClaims
public import proofs.«01_k».proof.Proof.MlpFirstClaims
public import proofs.«01_k».proof.Proof.GateClaims
public import proofs.«01_k».proof.Proof.MergeClaims

@[expose] public section

namespace Cert.Proof

theorem claim : Cert.Claim :=
  ⟨Cert.Mla.Gen.facts, Cert.MlaIdeal.Gen.facts, Cert.MlaRefIdeal.Gen.facts, Cert.Mlp.Gen.facts,
    Cert.MlpIdeal.Gen.facts, Cert.MlpRefIdeal.Gen.facts, Cert.Diff.Gen.facts, Cert.DiffIdeal.Gen.facts,
    Cert.DiffRefIdeal.Gen.facts, Cert.MlpFirst.Gen.facts, Cert.MlpFirstIdeal.Gen.facts,
    Cert.MlpFirstRefIdeal.Gen.facts, Cert.Gate.Gen.facts, Cert.GateIdeal.Gen.facts,
    Cert.GateRefIdeal.Gen.facts, Cert.Merge.Gen.facts, Cert.MergeIdeal.Gen.facts, Cert.MergeRefIdeal.Gen.facts,
    Cert.Pre_finite_qk.Gen.facts, Cert.Pre_finite_diff.Gen.facts, Cert.Pre_finite_top.Gen.facts, MlaClaims.frame_p,
    MlaClaims.frame_pi, MlaClaims.frame_pi_pre, MlaClaims.frame_ri, MlaClaims.frame_ri_pre, MlpClaims.frame_p,
    MlpClaims.frame_pi, MlpClaims.frame_ri, DiffClaims.frame_p, DiffClaims.frame_pi, DiffClaims.frame_pi_pre,
    DiffClaims.frame_ri, DiffClaims.frame_ri_pre, MlpFirstClaims.frame_p, MlpFirstClaims.frame_pi,
    MlpFirstClaims.frame_ri, GateClaims.frame_p, GateClaims.frame_pi, GateClaims.frame_ri, MergeClaims.frame_p,
    MergeClaims.frame_pi, MergeClaims.frame_pi_pre, MergeClaims.frame_ri, MergeClaims.frame_ri_pre,
    MlaClaims.preserves, MlaClaims.algebraic, MlpClaims.preserves, MlpClaims.algebraic,
    DiffClaims.preserves, DiffClaims.algebraic, MlpFirstClaims.preserves, MlpFirstClaims.algebraic,
    GateClaims.preserves, GateClaims.algebraic, MergeClaims.preserves, MergeClaims.algebraic⟩

end Cert.Proof

end
